-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  IdealRules.named_const.Statement Cert.Kernel7Ideal.κ "masked" .f32 0xF149F2CA#32 ⊥

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  IdealRules.named_const.Statement Cert.Kernel8Ideal.κ "masked" .f32 0xF149F2CA#32 ⊥

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S16384x4096 : Shape := ⟨2, ![16384, 4096]⟩
abbrev S2x4096x16976 : Shape := ⟨3, ![2, 4096, 16976]⟩
abbrev S2x4096x12288 : Shape := ⟨3, ![2, 4096, 12288]⟩
abbrev S57 : Shape := ⟨1, ![57]⟩
abbrev S2x16976x4096 : Shape := ⟨3, ![2, 16976, 4096]⟩
abbrev S_ : Shape := ⟨0, ![]⟩
abbrev S29184 : Shape := ⟨1, ![29184]⟩
abbrev S1 : Shape := ⟨1, ![1]⟩
abbrev S2048 : Shape := ⟨1, ![2048]⟩
abbrev S1x29184 : Shape := ⟨2, ![1, 29184]⟩
abbrev S16384x29184 : Shape := ⟨2, ![16384, 29184]⟩
abbrev S2048x4096 : Shape := ⟨2, ![2048, 4096]⟩
abbrev S1x512x4096 : Shape := ⟨3, ![1, 512, 4096]⟩
abbrev S1x4096x512 : Shape := ⟨3, ![1, 4096, 512]⟩
abbrev S1x512 : Shape := ⟨2, ![1, 512]⟩
abbrev S2048x512 : Shape := ⟨2, ![2048, 512]⟩
abbrev S256x4096 : Shape := ⟨2, ![256, 4096]⟩
abbrev S512x4096 : Shape := ⟨2, ![512, 4096]⟩
abbrev S256x512 : Shape := ⟨2, ![256, 512]⟩
abbrev S4096x512 : Shape := ⟨2, ![4096, 512]⟩

abbrev nBuf : Space → Nat
  | .hbm => 20
  | .vmem => 10
  | .smem => 1
  | _ => 0

abbrev bufTy : (tb : Table) → Fin (tcTables nBuf tb) → BufTy
  | .hbm, ⟨0, _⟩ => ⟨S16384x4096, .bf16⟩
  | .hbm, ⟨1, _⟩ => ⟨S2x4096x16976, .f32⟩
  | .hbm, ⟨2, _⟩ => ⟨S2x4096x12288, .f32⟩
  | .hbm, ⟨3, _⟩ => ⟨S2x16976x4096, .f32⟩
  | .hbm, ⟨4, _⟩ => ⟨S2x16976x4096, .bf16⟩
  | .hbm, ⟨5, _⟩ => ⟨S2x4096x12288, .bf16⟩
  | .hbm, ⟨6, _⟩ => ⟨S_, .f32⟩
  | .hbm, ⟨7, _⟩ => ⟨S29184, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S2048, .f32⟩
  | .hbm, ⟨12, _⟩ => ⟨S29184, .f32⟩
  | .hbm, ⟨13, _⟩ => ⟨S_, .i32⟩
  | .hbm, ⟨14, _⟩ => ⟨S1, .i32⟩
  | .hbm, ⟨15, _⟩ => ⟨S_, .f32⟩
  | .hbm, ⟨16, _⟩ => ⟨S2048, .f32⟩
  | .hbm, ⟨17, _⟩ => ⟨S29184, .f32⟩
  | .hbm, ⟨18, _⟩ => ⟨S1x29184, .f32⟩
  | .hbm, ⟨19, _⟩ => ⟨S16384x29184, .bf16⟩
  | .local _ .vmem, ⟨0, _⟩ => ⟨S2048x4096, .bf16⟩
  | .local _ .vmem, ⟨1, _⟩ => ⟨S2048x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512, .f32⟩
  | .local _ .vmem, ⟨7, _⟩ => ⟨S1x512, .f32⟩
  | .local _ .vmem, ⟨8, _⟩ => ⟨S2048x512, .bf16⟩
  | .local _ .vmem, ⟨9, _⟩ => ⟨S2048x512, .bf16⟩
  | .local _ .smem, ⟨0, _⟩ => ⟨S57, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 57], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  v1

def k0_cond1 (i : grid0.Coords) : BitVec 1 :=
  let arg1 : BitVec 32 := BitVec.ofNat 32 (i 1).val
  let c20_i32 : BitVec 32 := 20#32
  let v0 : BitVec 1 := Scalar.cmpi .slt arg1 c20_i32
  let c56_i32 : BitVec 32 := 56#32
  let v1 : BitVec 1 := Scalar.cmpi .sge arg1 c56_i32
  let v2 : BitVec 1 := Scalar.ori v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c20_i32_1 : BitVec 32 := 20#32
  let v5 : BitVec 1 := Scalar.cmpi .sge arg1 c20_i32_1
  let c32_i32 : BitVec 32 := 32#32
  let v6 : BitVec 1 := Scalar.cmpi .slt arg1 c32_i32
  let v7 : BitVec 1 := Scalar.andi v5 v6
  let v8 : BitVec 32 := Scalar.extui v7
  let c0_i32_3 : BitVec 32 := 0#32
  let v9 : BitVec 1 := Scalar.cmpi .ne v8 c0_i32_3
  v9

def k0_cond3 (i : grid0.Coords) : BitVec 1 :=
  let arg1 : BitVec 32 := BitVec.ofNat 32 (i 1).val
  let c32_i32_4 : BitVec 32 := 32#32
  let v10 : BitVec 1 := Scalar.cmpi .sge arg1 c32_i32_4
  let c56_i32_5 : BitVec 32 := 56#32
  let v11 : BitVec 1 := Scalar.cmpi .slt arg1 c56_i32_5
  let v12 : BitVec 1 := Scalar.andi v10 v11
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S57.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S57) ![v0.toNat] S1.size (k0_off1_inb i)) numel1_S1
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let c23_i32 : BitVec 32 := 23#32
  let v1 : BitVec 32 := Scalar.maxsi c0_i32 v0
  let v2 : BitVec 32 := Scalar.minsi c23_i32 v1
  let c0_i32_0 : BitVec 32 := 0#32
  let c0_i32_1 : BitVec 32 := 0#32
  let c0_i32_2 : BitVec 32 := 0#32
  ![c0_i32_0.toNat, c0_i32_1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x4096 : Shape := ⟨2, ![16384, 4096]⟩
abbrev S2x4096x16976 : Shape := ⟨3, ![2, 4096, 16976]⟩
abbrev S2x4096x12288 : Shape := ⟨3, ![2, 4096, 12288]⟩
abbrev S1x4096x16976 : Shape := ⟨3, ![1, 4096, 16976]⟩
abbrev S4096x16976 : Shape := ⟨2, ![4096, 16976]⟩
abbrev S16384x16976 : Shape := ⟨2, ![16384, 16976]⟩
abbrev S16384x1536 : Shape := ⟨2, ![16384, 1536]⟩
abbrev S16384x512 : Shape := ⟨2, ![16384, 512]⟩
abbrev S16384x64 : Shape := ⟨2, ![16384, 64]⟩
abbrev S16384x2048 : Shape := ⟨2, ![16384, 2048]⟩
abbrev S16384x256 : Shape := ⟨2, ![16384, 256]⟩
abbrev S16384x16 : Shape := ⟨2, ![16384, 16]⟩
abbrev S1x4096x12288 : Shape := ⟨3, ![1, 4096, 12288]⟩
abbrev S4096x12288 : Shape := ⟨2, ![4096, 12288]⟩
abbrev S16384x12288 : Shape := ⟨2, ![16384, 12288]⟩
abbrev S_ : Shape := ⟨0, ![]⟩
abbrev S16384x29184 : Shape := ⟨2, ![16384, 29184]⟩

abbrev nBuf : Space → Nat
  | .hbm => 66
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x16976, .f32⟩
  | .hbm, ⟨2, _⟩ => ⟨S2x4096x12288, .f32⟩
  | .hbm, ⟨3, _⟩ => ⟨S16384x4096, .f32⟩
  | .hbm, ⟨4, _⟩ => ⟨S1x4096x16976, .f32⟩
  | .hbm, ⟨5, _⟩ => ⟨S4096x16976, .f32⟩
  | .hbm, ⟨6, _⟩ => ⟨S16384x16976, .f32⟩
  | .hbm, ⟨7, _⟩ => ⟨S16384x1536, .f32⟩
  | .hbm, ⟨8, _⟩ => ⟨S16384x512, .f32⟩
  | .hbm, ⟨9, _⟩ => ⟨S16384x64, .f32⟩
  | .hbm, ⟨10, _⟩ => ⟨S16384x2048, .f32⟩
  | .hbm, ⟨11, _⟩ => ⟨S16384x2048, .f32⟩
  | .hbm, ⟨12, _⟩ => ⟨S16384x256, .f32⟩
  | .hbm, ⟨13, _⟩ => ⟨S16384x256, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x16, .f32⟩
  | .hbm, ⟨19, _⟩ => ⟨S16384x2048, .f32⟩
  | .hbm, ⟨20, _⟩ => ⟨S1x4096x12288, .f32⟩
  | .hbm, ⟨21, _⟩ => ⟨S4096x12288, .f32⟩
  | .hbm, ⟨22, _⟩ => ⟨S16384x12288, .f32⟩
  | .hbm, ⟨23, _⟩ => ⟨S16384x12288, .f32⟩
  | .hbm, ⟨24, _⟩ => ⟨S16384x12288, .f32⟩
  | .hbm, ⟨25, _⟩ => ⟨S_, .f32⟩
  | .hbm, ⟨26, _⟩ => ⟨S16384x12288, .f32⟩
  | .hbm, ⟨27, _⟩ => ⟨S16384x12288, .f32⟩
  | .hbm, ⟨28, _⟩ => ⟨S_, .f32⟩
  | .hbm, ⟨29, _⟩ => ⟨S16384x12288, .f32⟩
  | .hbm, ⟨30, _⟩ => ⟨S16384x12288, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S_, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S16384x29184, .f32⟩
  | .hbm, ⟨65, _⟩ => ⟨S16384x29184, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v30 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v31 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩

abbrev nD : Nat := 1
abbrev τ : Topo := Topo.v7x

variable {F : FTy → Type} [FloatOps F]
-- ==== Kernel2.lean ====
abbrev S16384x4096 : Shape := ⟨2, ![16384, 4096]⟩
abbrev S2x4096x4096 : Shape := ⟨3, ![2, 4096, 4096]⟩
abbrev S4096 : Shape := ⟨1, ![4096]⟩
abbrev S1x4096 : Shape := ⟨2, ![1, 4096]⟩
abbrev S1024x4096 : Shape := ⟨2, ![1024, 4096]⟩
abbrev S1x4096x512 : Shape := ⟨3, ![1, 4096, 512]⟩
abbrev S1024x512 : Shape := ⟨2, ![1024, 512]⟩
abbrev S1x512 : Shape := ⟨2, ![1, 512]⟩
abbrev S8x1024x512 : Shape := ⟨3, ![8, 1024, 512]⟩
abbrev S2x1024x1 : Shape := ⟨3, ![2, 1024, 1]⟩
abbrev S1x1024x1 : Shape := ⟨3, ![1, 1024, 1]⟩
abbrev S1024x1 : Shape := ⟨2, ![1024, 1]⟩
abbrev S1x1024x512 : Shape := ⟨3, ![1, 1024, 512]⟩
abbrev S256x4096 : Shape := ⟨2, ![256, 4096]⟩
abbrev S4096x512 : Shape := ⟨2, ![4096, 512]⟩
abbrev S256x512 : Shape := ⟨2, ![256, 512]⟩
abbrev S1x256x512 : Shape := ⟨3, ![1, 256, 512]⟩
abbrev S256x1 : Shape := ⟨2, ![256, 1]⟩
abbrev S256 : Shape := ⟨1, ![256]⟩
abbrev S1x256x1 : Shape := ⟨3, ![1, 256, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S4096, .f32⟩
  | .hbm, ⟨4, _⟩ => ⟨S2x4096x4096, .bf16⟩
  | .hbm, ⟨5, _⟩ => ⟨S1x4096, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S8x1024x512, .f32⟩
  | .local _ .vmem, ⟨11, _⟩ => ⟨S2x1024x1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg0 : BitVec 32 := BitVec.ofNat 32 (i 0).val
  let c16_i32 : BitVec 32 := 16#32
  let v16 : BitVec 1 := Scalar.cmpi .slt arg0 c16_i32
  let v17 : BitVec 32 := Scalar.extui v16
  let c0_i32_7 : BitVec 32 := 0#32
  let v18 : BitVec 1 := Scalar.cmpi .ne v17 c0_i32_7
  v18

def k0_off1 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v22 : Index := Scalar.indexCast v10
  let c0 : Index := 0#32
  let c0_10 : Index := 0#32
  ![v22.toNat, 0, 0]
def k0_off2 (i : grid0.Coords) : Fin 3 → Nat :=
  let arg1 : BitVec 32 := BitVec.ofNat 32 (i 1).val
  let v31 : Index := Scalar.indexCast arg1
  let c0_14 : Index := 0#32
  let c0_15 : Index := 0#32
  ![v31.toNat, 0, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : Index := Scalar.indexCast v9
  let c0_21 : Index := 0#32
  let c0_22 : Index := 0#32
  ![v43.toNat, 0, 0]
def k0_off4 (i : grid0.Coords) : Fin 3 → Nat :=
  let arg1 : BitVec 32 := BitVec.ofNat 32 (i 1).val
  let v52 : Index := Scalar.indexCast arg1
  let c0_30 : Index := 0#32
  let c0_31 : Index := 0#32
  ![v52.toNat, 0, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v61 : Index := Scalar.indexCast v9
  let c0_33 : Index := 0#32
  let c0_34 : Index := 0#32
  ![v61.toNat, 0, 0]
def k0_off6 (i : grid0.Coords) : Fin 3 → Nat :=
  let arg1 : BitVec 32 := BitVec.ofNat 32 (i 1).val
  let v69 : Index := Scalar.indexCast arg1
  let c256_40 : Index := 256#32
  let c0_41 : Index := 0#32
  ![v69.toNat, 256, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v78 : Index := Scalar.indexCast v9
  let c256_43 : Index := 256#32
  let c0_44 : Index := 0#32
  ![v78.toNat, 256, 0]
def k0_off8 (i : grid0.Coords) : Fin 3 → Nat :=
  let arg1 : BitVec 32 := BitVec.ofNat 32 (i 1).val
  let v86 : Index := Scalar.indexCast arg1
  let c512_50 : Index := 512#32
  let c0_51 : Index := 0#32
  ![v86.toNat, 512, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v95 : Index := Scalar.indexCast v9
  let c512_53 : Index := 512#32
  let c0_54 : Index := 0#32
  ![v95.toNat, 512, 0]
def k0_off10 (i : grid0.Coords) : Fin 3 → Nat :=
  let arg1 : BitVec 32 := BitVec.ofNat 32 (i 1).val
  let v103 : Index := Scalar.indexCast arg1
  let c768_60 : Index := 768#32
  let c0_61 : Index := 0#32
  ![v103.toNat, 768, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v112 : Index := Scalar.indexCast v9
  let c768_63 : Index := 768#32
  let c0_64 : Index := 0#32
  ![v112.toNat, 768, 0]
def k0_cond3 (i : grid0.Coords) : BitVec 1 :=
  let arg0 : BitVec 32 := BitVec.ofNat 32 (i 0).val
  let c16_i32_8 : BitVec 32 := 16#32
  let v19 : BitVec 1 := Scalar.cmpi .eq arg0 c16_i32_8
  let v20 : BitVec 32 := Scalar.extui v19
  let c0_i32_9 : BitVec 32 := 0#32
  let v21 : BitVec 1 := Scalar.cmpi .ne v20 c0_i32_9
  v21

def k0_off12 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v22 : Index := Scalar.indexCast v10
  let c0 : Index := 0#32
  let c0_10 : Index := 0#32
  ![v22.toNat, 0, 0]
def k0_off13 (i : grid0.Coords) : Fin 3 → Nat :=
  let arg1 : BitVec 32 := BitVec.ofNat 32 (i 1).val
  let v31 : Index := Scalar.indexCast arg1
  let c0_14 : Index := 0#32
  let c0_15 : Index := 0#32
  ![v31.toNat, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x4096 : Shape := ⟨2, ![16384, 4096]⟩
abbrev S2x4096x4096 : Shape := ⟨3, ![2, 4096, 4096]⟩
abbrev S4096 : Shape := ⟨1, ![4096]⟩
abbrev S1x4096x4096 : Shape := ⟨3, ![1, 4096, 4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S4096, .f32⟩
  | .hbm, ⟨4, _⟩ => ⟨S16384x4096, .f32⟩
  | .hbm, ⟨5, _⟩ => ⟨S1x4096x4096, .f32⟩
  | .hbm, ⟨6, _⟩ => ⟨S4096x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel3.lean ====
abbrev S16384x2048 : Shape := ⟨2, ![16384, 2048]⟩
abbrev S2x2048x4096 : Shape := ⟨3, ![2, 2048, 4096]⟩
abbrev S16384x29184 : Shape := ⟨2, ![16384, 29184]⟩
abbrev S16384x4096 : Shape := ⟨2, ![16384, 4096]⟩
abbrev S1024x2048 : Shape := ⟨2, ![1024, 2048]⟩
abbrev S1x2048x512 : Shape := ⟨3, ![1, 2048, 512]⟩
abbrev S1024x512 : Shape := ⟨2, ![1024, 512]⟩
abbrev S256x512 : Shape := ⟨2, ![256, 512]⟩
abbrev S256x2048 : Shape := ⟨2, ![256, 2048]⟩
abbrev S2048x512 : Shape := ⟨2, ![2048, 512]⟩

abbrev nBuf : Space → Nat
  | .hbm => 11
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S2x2048x4096, .f32⟩
  | .hbm, ⟨4, _⟩ => ⟨S2x2048x4096, .f32⟩
  | .hbm, ⟨5, _⟩ => ⟨S2x2048x4096, .f32⟩
  | .hbm, ⟨6, _⟩ => ⟨S16384x29184, .bf16⟩
  | .hbm, ⟨7, _⟩ => ⟨S2x2048x4096, .bf16⟩
  | .hbm, ⟨8, _⟩ => ⟨S2x2048x4096, .bf16⟩
  | .hbm, ⟨9, _⟩ => ⟨S2x2048x4096, .bf16⟩
  | .hbm, ⟨10, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S16384x2048 : Shape := ⟨2, ![16384, 2048]⟩
abbrev S2x2048x4096 : Shape := ⟨3, ![2, 2048, 4096]⟩
abbrev S16384x29184 : Shape := ⟨2, ![16384, 29184]⟩
abbrev S16384x12288 : Shape := ⟨2, ![16384, 12288]⟩
abbrev S16384x4096 : Shape := ⟨2, ![16384, 4096]⟩
abbrev S1x2048x4096 : Shape := ⟨3, ![1, 2048, 4096]⟩
abbrev S2048x4096 : Shape := ⟨2, ![2048, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S2x2048x4096, .f32⟩
  | .hbm, ⟨4, _⟩ => ⟨S2x2048x4096, .f32⟩
  | .hbm, ⟨5, _⟩ => ⟨S2x2048x4096, .f32⟩
  | .hbm, ⟨6, _⟩ => ⟨S16384x29184, .bf16⟩
  | .hbm, ⟨7, _⟩ => ⟨S16384x12288, .bf16⟩
  | .hbm, ⟨8, _⟩ => ⟨S16384x12288, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x2048, .f32⟩
  | .hbm, ⟨13, _⟩ => ⟨S1x2048x4096, .f32⟩
  | .hbm, ⟨14, _⟩ => ⟨S2048x4096, .f32⟩
  | .hbm, ⟨15, _⟩ => ⟨S16384x4096, .f32⟩
  | .hbm, ⟨16, _⟩ => ⟨S16384x4096, .f32⟩
  | .hbm, ⟨17, _⟩ => ⟨S16384x2048, .f32⟩
  | .hbm, ⟨18, _⟩ => ⟨S1x2048x4096, .f32⟩
  | .hbm, ⟨19, _⟩ => ⟨S2048x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x2048, .f32⟩
  | .hbm, ⟨24, _⟩ => ⟨S1x2048x4096, .f32⟩
  | .hbm, ⟨25, _⟩ => ⟨S2048x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel4.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S16384x29184 : Shape := ⟨2, ![16384, 29184]⟩
abbrev S512 : Shape := ⟨1, ![512]⟩
abbrev S512x16x128 : Shape := ⟨3, ![512, 16, 128]⟩
abbrev S512x2048 : Shape := ⟨2, ![512, 2048]⟩
abbrev S512x4096 : Shape := ⟨2, ![512, 4096]⟩
abbrev S1x512 : Shape := ⟨2, ![1, 512]⟩
abbrev S16384x4096 : Shape := ⟨2, ![16384, 4096]⟩
abbrev S1024x512 : Shape := ⟨2, ![1024, 512]⟩
abbrev S1024x2048 : Shape := ⟨2, ![1024, 2048]⟩
abbrev S1024 : Shape := ⟨1, ![1024]⟩
abbrev S1024x1 : Shape := ⟨2, ![1024, 1]⟩
abbrev S256x512 : Shape := ⟨2, ![256, 512]⟩
abbrev S256x2048 : Shape := ⟨2, ![256, 2048]⟩

abbrev nBuf : Space → Nat
  | .hbm => 10
  | .vmem => 8
  | .smem => 0
  | _ => 0

abbrev bufTy : (tb : Table) → Fin (tcTables nBuf tb) → BufTy
  | .hbm, ⟨0, _⟩ => ⟨S16384x29184, .bf16⟩
  | .hbm, ⟨1, _⟩ => ⟨S512, .f32⟩
  | .hbm, ⟨2, _⟩ => ⟨S512x16x128, .f32⟩
  | .hbm, ⟨3, _⟩ => ⟨S512x16x128, .f32⟩
  | .hbm, ⟨4, _⟩ => ⟨S512x2048, .f32⟩
  | .hbm, ⟨5, _⟩ => ⟨S512x2048, .f32⟩
  | .hbm, ⟨6, _⟩ => ⟨S512x4096, .f32⟩
  | .hbm, ⟨7, _⟩ => ⟨S512x4096, .bf16⟩
  | .hbm, ⟨8, _⟩ => ⟨S1x512, .f32⟩
  | .hbm, ⟨9, _⟩ => ⟨S16384x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x512, .bf16⟩
  | _, _ => ⟨S16384x29184, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x29184 : Shape := ⟨2, ![16384, 29184]⟩
abbrev S512 : Shape := ⟨1, ![512]⟩
abbrev S512x16x128 : Shape := ⟨3, ![512, 16, 128]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S16384x16x128 : Shape := ⟨3, ![16384, 16, 128]⟩
abbrev S16384x2048 : Shape := ⟨2, ![16384, 2048]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x29184, .bf16⟩
  | .hbm, ⟨1, _⟩ => ⟨S512, .f32⟩
  | .hbm, ⟨2, _⟩ => ⟨S512x16x128, .f32⟩
  | .hbm, ⟨3, _⟩ => ⟨S512x16x128, .f32⟩
  | .hbm, ⟨4, _⟩ => ⟨S16384x512, .bf16⟩
  | .hbm, ⟨5, _⟩ => ⟨S16384x512, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x512, .f32⟩
  | .hbm, ⟨18, _⟩ => ⟨S16384x512, .f32⟩
  | .hbm, ⟨19, _⟩ => ⟨S1x512, .f32⟩
  | .hbm, ⟨20, _⟩ => ⟨S16384x512, .f32⟩
  | .hbm, ⟨21, _⟩ => ⟨S16384x512, .f32⟩
  | .hbm, ⟨22, _⟩ => ⟨S16384x16x128, .f32⟩
  | .hbm, ⟨23, _⟩ => ⟨S16384x16x128, .f32⟩
  | .hbm, ⟨24, _⟩ => ⟨S16384x2048, .f32⟩
  | .hbm, ⟨25, _⟩ => ⟨S16384x2048, .f32⟩
  | .hbm, ⟨26, _⟩ => ⟨S16384x4096, .f32⟩
  | .hbm, ⟨27, _⟩ => ⟨S16384x4096, .bf16⟩
  | _, _ => ⟨S16384x29184, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S16384x29184 : Shape := ⟨2, ![16384, 29184]⟩
abbrev S1536 : Shape := ⟨1, ![1536]⟩
abbrev S1536x16x192 : Shape := ⟨3, ![1536, 16, 192]⟩
abbrev S16384x32 : Shape := ⟨2, ![16384, 32]⟩
abbrev S_ : Shape := ⟨0, ![]⟩
abbrev S1536x16x256 : Shape := ⟨3, ![1536, 16, 256]⟩
abbrev S1536x4096 : Shape := ⟨2, ![1536, 4096]⟩
abbrev S16384x64 : Shape := ⟨2, ![16384, 64]⟩
abbrev S16384x128 : Shape := ⟨2, ![16384, 128]⟩
abbrev S1x1536 : Shape := ⟨2, ![1, 1536]⟩
abbrev S16384x4096 : Shape := ⟨2, ![16384, 4096]⟩
abbrev S1024x1536 : Shape := ⟨2, ![1024, 1536]⟩
abbrev S1536x2048 : Shape := ⟨2, ![1536, 2048]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩
abbrev S256x1536 : Shape := ⟨2, ![256, 1536]⟩
abbrev S256x2048 : Shape := ⟨2, ![256, 2048]⟩
abbrev S256x128 : Shape := ⟨2, ![256, 128]⟩

abbrev nBuf : Space → Nat
  | .hbm => 17
  | .vmem => 12
  | .smem => 0
  | _ => 0

abbrev bufTy : (tb : Table) → Fin (tcTables nBuf tb) → BufTy
  | .hbm, ⟨0, _⟩ => ⟨S16384x29184, .bf16⟩
  | .hbm, ⟨1, _⟩ => ⟨S1536, .f32⟩
  | .hbm, ⟨2, _⟩ => ⟨S1536x16x192, .f32⟩
  | .hbm, ⟨3, _⟩ => ⟨S16384x32, .f32⟩
  | .hbm, ⟨4, _⟩ => ⟨S16384x32, .f32⟩
  | .hbm, ⟨5, _⟩ => ⟨S_, .i32⟩
  | .hbm, ⟨6, _⟩ => ⟨S_, .f32⟩
  | .hbm, ⟨7, _⟩ => ⟨S1536x16x256, .f32⟩
  | .hbm, ⟨8, _⟩ => ⟨S1536x4096, .f32⟩
  | .hbm, ⟨9, _⟩ => ⟨S1536x4096, .bf16⟩
  | .hbm, ⟨10, _⟩ => ⟨S_, .f32⟩
  | .hbm, ⟨11, _⟩ => ⟨S16384x64, .f32⟩
  | .hbm, ⟨12, _⟩ => ⟨S16384x128, .f32⟩
  | .hbm, ⟨13, _⟩ => ⟨S16384x32, .f32⟩
  | .hbm, ⟨14, _⟩ => ⟨S16384x128, .f32⟩
  | .hbm, ⟨15, _⟩ => ⟨S1x1536, .f32⟩
  | .hbm, ⟨16, _⟩ => ⟨S16384x4096, .bf16⟩
  | .local _ .vmem, ⟨0, _⟩ => ⟨S1024x1536, .bf16⟩
  | .local _ .vmem, ⟨1, _⟩ => ⟨S1024x1536, .bf16⟩
  | .local _ .vmem, ⟨2, _⟩ => ⟨S1x1536, .f32⟩
  | .local _ .vmem, ⟨3, _⟩ => ⟨S1536x2048, .bf16⟩
  | .local _ .vmem, ⟨4, _⟩ => ⟨S1536x2048, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x2048, .bf16⟩
  | .local _ .vmem, ⟨10, _⟩ => ⟨S1024x2048, .bf16⟩
  | .local _ .vmem, ⟨11, _⟩ => ⟨S1024x1536, .bf16⟩
  | _, _ => ⟨S16384x29184, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x29184 : Shape := ⟨2, ![16384, 29184]⟩
abbrev S1536 : Shape := ⟨1, ![1536]⟩
abbrev S1536x16x192 : Shape := ⟨3, ![1536, 16, 192]⟩
abbrev S16384x32 : Shape := ⟨2, ![16384, 32]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S1x1536 : Shape := ⟨2, ![1, 1536]⟩
abbrev S16384x16x192 : Shape := ⟨3, ![16384, 16, 192]⟩
abbrev S16384x16x128 : Shape := ⟨3, ![16384, 16, 128]⟩
abbrev S16384x16x32 : Shape := ⟨3, ![16384, 16, 32]⟩
abbrev S16384x1x32 : Shape := ⟨3, ![16384, 1, 32]⟩
abbrev S16384x16x64 : Shape := ⟨3, ![16384, 16, 64]⟩
abbrev S16384x16x256 : Shape := ⟨3, ![16384, 16, 256]⟩
abbrev S16384x4096 : Shape := ⟨2, ![16384, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16384x29184, .bf16⟩
  | .hbm, ⟨1, _⟩ => ⟨S1536, .f32⟩
  | .hbm, ⟨2, _⟩ => ⟨S1536x16x192, .f32⟩
  | .hbm, ⟨3, _⟩ => ⟨S16384x32, .f32⟩
  | .hbm, ⟨4, _⟩ => ⟨S16384x32, .f32⟩
  | .hbm, ⟨5, _⟩ => ⟨S16384x1536, .bf16⟩
  | .hbm, ⟨6, _⟩ => ⟨S16384x1536, .f32⟩
  | .hbm, ⟨7, _⟩ => ⟨S16384x1536, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1536, .f32⟩
  | .hbm, ⟨19, _⟩ => ⟨S16384x1536, .f32⟩
  | .hbm, ⟨20, _⟩ => ⟨S1x1536, .f32⟩
  | .hbm, ⟨21, _⟩ => ⟨S16384x1536, .f32⟩
  | .hbm, ⟨22, _⟩ => ⟨S16384x1536, .f32⟩
  | .hbm, ⟨23, _⟩ => ⟨S16384x16x192, .f32⟩
  | .hbm, ⟨24, _⟩ => ⟨S16384x16x128, .f32⟩
  | .hbm, ⟨25, _⟩ => ⟨S16384x16x32, .f32⟩
  | .hbm, ⟨26, _⟩ => ⟨S16384x16x32, .f32⟩
  | .hbm, ⟨27, _⟩ => ⟨S16384x1x32, .f32⟩
  | .hbm, ⟨28, _⟩ => ⟨S16384x1x32, .f32⟩
  | .hbm, ⟨29, _⟩ => ⟨S16384x16x32, .f32⟩
  | .hbm, ⟨30, _⟩ => ⟨S16384x16x32, .f32⟩
  | .hbm, ⟨31, _⟩ => ⟨S16384x16x32, .f32⟩
  | .hbm, ⟨32, _⟩ => ⟨S16384x16x32, .f32⟩
  | .hbm, ⟨33, _⟩ => ⟨S16384x16x32, .f32⟩
  | .hbm, ⟨34, _⟩ => ⟨S16384x16x32, .f32⟩
  | .hbm, ⟨35, _⟩ => ⟨S16384x16x32, .f32⟩
  | .hbm, ⟨36, _⟩ => ⟨S16384x16x32, .f32⟩
  | .hbm, ⟨37, _⟩ => ⟨S16384x16x32, .f32⟩
  | .hbm, ⟨38, _⟩ => ⟨S16384x16x32, .f32⟩
  | .hbm, ⟨39, _⟩ => ⟨S_, .f32⟩
  | .hbm, ⟨40, _⟩ => ⟨S16384x16x64, .f32⟩
  | .hbm, ⟨41, _⟩ => ⟨S16384x16x256, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x4096, .bf16⟩
  | _, _ => ⟨S16384x29184, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel7.lean ====
abbrev S16384x4096 : Shape := ⟨2, ![16384, 4096]⟩
abbrev S16384x128 : Shape := ⟨2, ![16384, 128]⟩
abbrev S16384x29184 : Shape := ⟨2, ![16384, 29184]⟩
abbrev S16384x2048 : Shape := ⟨2, ![16384, 2048]⟩
abbrev S2048x1024 : Shape := ⟨2, ![2048, 1024]⟩
abbrev S2048x512 : Shape := ⟨2, ![2048, 512]⟩
abbrev S2048x128 : Shape := ⟨2, ![2048, 128]⟩
abbrev S4x2048x256 : Shape := ⟨3, ![4, 2048, 256]⟩
abbrev S1x2048x128 : Shape := ⟨3, ![1, 2048, 128]⟩
abbrev S256x256 : Shape := ⟨2, ![256, 256]⟩
abbrev S1x2048x256 : Shape := ⟨3, ![1, 2048, 256]⟩
abbrev S2048x256 : Shape := ⟨2, ![2048, 256]⟩
abbrev S1792x256 : Shape := ⟨2, ![1792, 256]⟩
abbrev S256x1792 : Shape := ⟨2, ![256, 1792]⟩
abbrev S1536x256 : Shape := ⟨2, ![1536, 256]⟩
abbrev S256x1536 : Shape := ⟨2, ![256, 1536]⟩
abbrev S1280x256 : Shape := ⟨2, ![1280, 256]⟩
abbrev S256x1280 : Shape := ⟨2, ![256, 1280]⟩
abbrev S256 : Shape := ⟨1, ![256]⟩
abbrev S256x1 : Shape := ⟨2, ![256, 1]⟩
abbrev S1x256x256 : Shape := ⟨3, ![1, 256, 256]⟩
abbrev S1x1792x256 : Shape := ⟨3, ![1, 1792, 256]⟩
abbrev S256x128 : Shape := ⟨2, ![256, 128]⟩
abbrev S1024x256 : Shape := ⟨2, ![1024, 256]⟩
abbrev S256x1024 : Shape := ⟨2, ![256, 1024]⟩
abbrev S1x1536x256 : Shape := ⟨3, ![1, 1536, 256]⟩
abbrev S768x256 : Shape := ⟨2, ![768, 256]⟩
abbrev S256x768 : Shape := ⟨2, ![256, 768]⟩
abbrev S1x1280x256 : Shape := ⟨3, ![1, 1280, 256]⟩
abbrev S512x256 : Shape := ⟨2, ![512, 256]⟩
abbrev S256x512 : Shape := ⟨2, ![256, 512]⟩
abbrev S1x1024x256 : Shape := ⟨3, ![1, 1024, 256]⟩
abbrev S1x768x256 : Shape := ⟨3, ![1, 768, 256]⟩
abbrev S1x512x256 : Shape := ⟨3, ![1, 512, 256]⟩

abbrev nBuf : Space → Nat
  | .hbm => 5
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x128, .bf16⟩
  | .hbm, ⟨3, _⟩ => ⟨S16384x29184, .bf16⟩
  | .hbm, ⟨4, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S2048x128, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S4x2048x256, .bf16⟩
  | .local _ .vmem, ⟨13, _⟩ => ⟨S4x2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel7Ideal.lean ====
variable {F : FTy → Type} [FloatOps F] [Named F]
def κ : String → Option EReal := fun
  | "masked" => some ⊥
  | _ => none
-- ==== Reference7Ideal.lean ====
abbrev S16384x4096 : Shape := ⟨2, ![16384, 4096]⟩
abbrev S16384x128 : Shape := ⟨2, ![16384, 128]⟩
abbrev S16384x29184 : Shape := ⟨2, ![16384, 29184]⟩
abbrev S8x2048x16x256 : Shape := ⟨4, ![8, 2048, 16, 256]⟩
abbrev S16384x2048 : Shape := ⟨2, ![16384, 2048]⟩
abbrev S8x2048x16x128 : Shape := ⟨4, ![8, 2048, 16, 128]⟩
abbrev S8x2048x1x128 : Shape := ⟨4, ![8, 2048, 1, 128]⟩
abbrev S2048 : Shape := ⟨1, ![2048]⟩
abbrev S8x16x2048x2048 : Shape := ⟨4, ![8, 16, 2048, 2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S_ : Shape := ⟨0, ![]⟩
abbrev S8x16x2048 : Shape := ⟨3, ![8, 16, 2048]⟩
abbrev S8x16x2048x1 : Shape := ⟨4, ![8, 16, 2048, 1]⟩
abbrev S8x16x128x2048 : Shape := ⟨4, ![8, 16, 128, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x128, .bf16⟩
  | .hbm, ⟨3, _⟩ => ⟨S16384x29184, .bf16⟩
  | .hbm, ⟨4, _⟩ => ⟨S16384x4096, .f32⟩
  | .hbm, ⟨5, _⟩ => ⟨S8x2048x16x256, .f32⟩
  | .hbm, ⟨6, _⟩ => ⟨S16384x2048, .bf16⟩
  | .hbm, ⟨7, _⟩ => ⟨S16384x2048, .f32⟩
  | .hbm, ⟨8, _⟩ => ⟨S8x2048x16x128, .f32⟩
  | .hbm, ⟨9, _⟩ => ⟨S16384x2048, .bf16⟩
  | .hbm, ⟨10, _⟩ => ⟨S16384x2048, .f32⟩
  | .hbm, ⟨11, _⟩ => ⟨S8x2048x16x128, .f32⟩
  | .hbm, ⟨12, _⟩ => ⟨S16384x128, .f32⟩
  | .hbm, ⟨13, _⟩ => ⟨S8x2048x1x128, .f32⟩
  | .hbm, ⟨14, _⟩ => ⟨S8x2048x16x128, .f32⟩
  | .hbm, ⟨15, _⟩ => ⟨S8x2048x16x256, .f32⟩
  | .hbm, ⟨16, _⟩ => ⟨S16384x2048, .bf16⟩
  | .hbm, ⟨17, _⟩ => ⟨S16384x2048, .f32⟩
  | .hbm, ⟨18, _⟩ => ⟨S2048, .i32⟩
  | .hbm, ⟨19, _⟩ => ⟨S8x16x2048x2048, .f32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S1x1x2048x2048, .i1⟩
  | .hbm, ⟨26, _⟩ => ⟨S_, .f32⟩
  | .hbm, ⟨27, _⟩ => ⟨S_, .f32⟩
  | .hbm, ⟨28, _⟩ => ⟨S8x16x2048x2048, .i1⟩
  | .hbm, ⟨29, _⟩ => ⟨S8x16x2048x2048, .f32⟩
  | .hbm, ⟨30, _⟩ => ⟨S8x16x2048x2048, .f32⟩
  | .hbm, ⟨31, _⟩ => ⟨S_, .f32⟩
  | .hbm, ⟨32, _⟩ => ⟨S8x16x2048, .f32⟩
  | .hbm, ⟨33, _⟩ => ⟨S8x16x2048x1, .f32⟩
  | .hbm, ⟨34, _⟩ => ⟨S8x16x2048x2048, .f32⟩
  | .hbm, ⟨35, _⟩ => ⟨S8x16x2048x2048, .f32⟩
  | .hbm, ⟨36, _⟩ => ⟨S_, .f32⟩
  | .hbm, ⟨37, _⟩ => ⟨S8x16x2048x2048, .f32⟩
  | .hbm, ⟨38, _⟩ => ⟨S8x16x2048x2048, .f32⟩
  | .hbm, ⟨39, _⟩ => ⟨S_, .f32⟩
  | .hbm, ⟨40, _⟩ => ⟨S8x16x2048, .f32⟩
  | .hbm, ⟨41, _⟩ => ⟨S8x16x2048x1, .f32⟩
  | .hbm, ⟨42, _⟩ => ⟨S_, .f32⟩
  | .hbm, ⟨43, _⟩ => ⟨S8x16x2048x1, .f32⟩
  | .hbm, ⟨44, _⟩ => ⟨S8x16x2048x1, .f32⟩
  | .hbm, ⟨45, _⟩ => ⟨S8x16x2048x2048, .f32⟩
  | .hbm, ⟨46, _⟩ => ⟨S8x16x2048x2048, .f32⟩
  | .hbm, ⟨47, _⟩ => ⟨S8x16x128x2048, .f32⟩
  | .hbm, ⟨48, _⟩ => ⟨S8x2048x16x128, .f32⟩
  | .hbm, ⟨49, _⟩ => ⟨S16384x2048, .f32⟩
  | .hbm, ⟨50, _⟩ => ⟨S16384x2048, .f32⟩
  | .hbm, ⟨51, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel8.lean ====
abbrev S16384x29184 : Shape := ⟨2, ![16384, 29184]⟩
abbrev S16384x128 : Shape := ⟨2, ![16384, 128]⟩
abbrev S8x128x2048 : Shape := ⟨3, ![8, 128, 2048]⟩
abbrev S16384x2048 : Shape := ⟨2, ![16384, 2048]⟩
abbrev S2048x512 : Shape := ⟨2, ![2048, 512]⟩
abbrev S2048x128 : Shape := ⟨2, ![2048, 128]⟩
abbrev S1x128x2048 : Shape := ⟨3, ![1, 128, 2048]⟩
abbrev S4x2048x256 : Shape := ⟨3, ![4, 2048, 256]⟩
abbrev S1x2048x128 : Shape := ⟨3, ![1, 2048, 128]⟩
abbrev S2048 : Shape := ⟨1, ![2048]⟩
abbrev S2048x1 : Shape := ⟨2, ![2048, 1]⟩
abbrev S1x1x2048 : Shape := ⟨3, ![1, 1, 2048]⟩
abbrev S1x2048 : Shape := ⟨2, ![1, 2048]⟩
abbrev S256x256 : Shape := ⟨2, ![256, 256]⟩
abbrev S256x128 : Shape := ⟨2, ![256, 128]⟩
abbrev S1x256 : Shape := ⟨2, ![1, 256]⟩
abbrev S1792x128 : Shape := ⟨2, ![1792, 128]⟩
abbrev S256x1792 : Shape := ⟨2, ![256, 1792]⟩
abbrev S1x1792 : Shape := ⟨2, ![1, 1792]⟩
abbrev S1536x128 : Shape := ⟨2, ![1536, 128]⟩
abbrev S256x1536 : Shape := ⟨2, ![256, 1536]⟩
abbrev S1x1536 : Shape := ⟨2, ![1, 1536]⟩
abbrev S1280x128 : Shape := ⟨2, ![1280, 128]⟩
abbrev S256x1280 : Shape := ⟨2, ![256, 1280]⟩
abbrev S1x1280 : Shape := ⟨2, ![1, 1280]⟩
abbrev S256 : Shape := ⟨1, ![256]⟩
abbrev S256x1 : Shape := ⟨2, ![256, 1]⟩
abbrev S1x256x256 : Shape := ⟨3, ![1, 256, 256]⟩
abbrev S1x1792x256 : Shape := ⟨3, ![1, 1792, 256]⟩
abbrev S1792x256 : Shape := ⟨2, ![1792, 256]⟩
abbrev S1024x128 : Shape := ⟨2, ![1024, 128]⟩
abbrev S256x1024 : Shape := ⟨2, ![256, 1024]⟩
abbrev S1x1024 : Shape := ⟨2, ![1, 1024]⟩
abbrev S1x1536x256 : Shape := ⟨3, ![1, 1536, 256]⟩
abbrev S1536x256 : Shape := ⟨2, ![1536, 256]⟩
abbrev S768x128 : Shape := ⟨2, ![768, 128]⟩
abbrev S256x768 : Shape := ⟨2, ![256, 768]⟩
abbrev S1x768 : Shape := ⟨2, ![1, 768]⟩
abbrev S1x1280x256 : Shape := ⟨3, ![1, 1280, 256]⟩
abbrev S1280x256 : Shape := ⟨2, ![1280, 256]⟩
abbrev S512x128 : Shape := ⟨2, ![512, 128]⟩
abbrev S256x512 : Shape := ⟨2, ![256, 512]⟩
abbrev S1x512 : Shape := ⟨2, ![1, 512]⟩
abbrev S1x1024x256 : Shape := ⟨3, ![1, 1024, 256]⟩
abbrev S1024x256 : Shape := ⟨2, ![1024, 256]⟩
abbrev S1x768x256 : Shape := ⟨3, ![1, 768, 256]⟩
abbrev S768x256 : Shape := ⟨2, ![768, 256]⟩
abbrev S1x512x256 : Shape := ⟨3, ![1, 512, 256]⟩
abbrev S512x256 : Shape := ⟨2, ![512, 256]⟩

abbrev nBuf : Space → Nat
  | .hbm => 4
  | .vmem => 15
  | .smem => 0
  | _ => 0

abbrev bufTy : (tb : Table) → Fin (tcTables nBuf tb) → BufTy
  | .hbm, ⟨0, _⟩ => ⟨S16384x29184, .bf16⟩
  | .hbm, ⟨1, _⟩ => ⟨S16384x128, .f32⟩
  | .hbm, ⟨2, _⟩ => ⟨S8x128x2048, .f32⟩
  | .hbm, ⟨3, _⟩ => ⟨S16384x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x128, .f32⟩
  | .local _ .vmem, ⟨9, _⟩ => ⟨S2048x128, .f32⟩
  | .local _ .vmem, ⟨10, _⟩ => ⟨S1x128x2048, .f32⟩
  | .local _ .vmem, ⟨11, _⟩ => ⟨S1x128x2048, .f32⟩
  | .local _ .vmem, ⟨12, _⟩ => ⟨S2048x512, .bf16⟩
  | .local _ .vmem, ⟨13, _⟩ => ⟨S2048x512, .bf16⟩
  | .local _ .vmem, ⟨14, _⟩ => ⟨S4x2048x256, .bf16⟩
  | _, _ => ⟨S16384x29184, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_off1 (i : grid0.Coords) (c0_i32_7 : BitVec 32) : Fin 3 → Nat :=
  let c0_13 : Index := 0#32
  let c64_i32_12 : BitVec 32 := 64#32
  let arg1 : BitVec 32 := BitVec.ofNat 32 (i 1).val
  let c4_i32 : BitVec 32 := 4#32
  let v14 : BitVec 32 := Scalar.muli arg1 c4_i32
  let v15 : BitVec 32 := Scalar.addi v14 c0_i32_7
  let v24 : BitVec 32 := Scalar.addi c64_i32_12 v15
  let v25 : Index := Scalar.indexCast v24
  let c0_14 : Index := 0#32
  ![0, v25.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel8Ideal.lean ====
variable {F : FTy → Type} [FloatOps F] [Named F]
def κ : String → Option EReal := fun
  | "masked" => some ⊥
  | _ => none
-- ==== Reference8Ideal.lean ====
abbrev S16384x29184 : Shape := ⟨2, ![16384, 29184]⟩
abbrev S16384x128 : Shape := ⟨2, ![16384, 128]⟩
abbrev S8x128x2048 : Shape := ⟨3, ![8, 128, 2048]⟩
abbrev S16384x2048 : Shape := ⟨2, ![16384, 2048]⟩
abbrev S8x2048x16x128 : Shape := ⟨4, ![8, 2048, 16, 128]⟩
abbrev S16384x16 : Shape := ⟨2, ![16384, 16]⟩
abbrev S8x2048x16 : Shape := ⟨3, ![8, 2048, 16]⟩
abbrev S8x16x2048 : Shape := ⟨3, ![8, 16, 2048]⟩
abbrev S2048 : Shape := ⟨1, ![2048]⟩
abbrev S8x16x2048x2048 : Shape := ⟨4, ![8, 16, 2048, 2048]⟩
abbrev S8x16x2048x1 : Shape := ⟨4, ![8, 16, 2048, 1]⟩
abbrev S8x16x1x2048 : Shape := ⟨4, ![8, 16, 1, 2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S_ : Shape := ⟨0, ![]⟩
abbrev S8x16x128x2048 : Shape := ⟨4, ![8, 16, 128, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x29184, .bf16⟩
  | .hbm, ⟨1, _⟩ => ⟨S16384x128, .f32⟩
  | .hbm, ⟨2, _⟩ => ⟨S8x128x2048, .f32⟩
  | .hbm, ⟨3, _⟩ => ⟨S16384x2048, .bf16⟩
  | .hbm, ⟨4, _⟩ => ⟨S16384x2048, .f32⟩
  | .hbm, ⟨5, _⟩ => ⟨S8x2048x16x128, .f32⟩
  | .hbm, ⟨6, _⟩ => ⟨S16384x2048, .bf16⟩
  | .hbm, ⟨7, _⟩ => ⟨S16384x2048, .f32⟩
  | .hbm, ⟨8, _⟩ => ⟨S8x2048x16x128, .f32⟩
  | .hbm, ⟨9, _⟩ => ⟨S16384x2048, .bf16⟩
  | .hbm, ⟨10, _⟩ => ⟨S16384x2048, .f32⟩
  | .hbm, ⟨11, _⟩ => ⟨S8x2048x16x128, .f32⟩
  | .hbm, ⟨12, _⟩ => ⟨S16384x2048, .bf16⟩
  | .hbm, ⟨13, _⟩ => ⟨S16384x2048, .f32⟩
  | .hbm, ⟨14, _⟩ => ⟨S16384x16, .f32⟩
  | .hbm, ⟨15, _⟩ => ⟨S8x2048x16, .f32⟩
  | .hbm, ⟨16, _⟩ => ⟨S8x16x2048, .f32⟩
  | .hbm, ⟨17, _⟩ => ⟨S8x16x2048, .f32⟩
  | .hbm, ⟨18, _⟩ => ⟨S2048, .i32⟩
  | .hbm, ⟨19, _⟩ => ⟨S8x16x2048x2048, .f32⟩
  | .hbm, ⟨20, _⟩ => ⟨S8x16x2048x1, .f32⟩
  | .hbm, ⟨21, _⟩ => ⟨S8x16x2048x2048, .f32⟩
  | .hbm, ⟨22, _⟩ => ⟨S8x16x2048x2048, .f32⟩
  | .hbm, ⟨23, _⟩ => ⟨S8x16x1x2048, .f32⟩
  | .hbm, ⟨24, _⟩ => ⟨S8x16x2048x2048, .f32⟩
  | .hbm, ⟨25, _⟩ => ⟨S8x16x2048x2048, .f32⟩
  | .hbm, ⟨26, _⟩ => ⟨S1x2048, .i32⟩
  | .hbm, ⟨27, _⟩ => ⟨S2048x1, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S1x1x2048x2048, .i1⟩
  | .hbm, ⟨32, _⟩ => ⟨S_, .f32⟩
  | .hbm, ⟨33, _⟩ => ⟨S_, .f32⟩
  | .hbm, ⟨34, _⟩ => ⟨S8x16x2048x2048, .i1⟩
  | .hbm, ⟨35, _⟩ => ⟨S8x16x2048x2048, .f32⟩
  | .hbm, ⟨36, _⟩ => ⟨S8x16x2048x2048, .f32⟩
  | .hbm, ⟨37, _⟩ => ⟨S_, .f32⟩
  | .hbm, ⟨38, _⟩ => ⟨S8x16x2048, .f32⟩
  | .hbm, ⟨39, _⟩ => ⟨S8x16x2048x1, .f32⟩
  | .hbm, ⟨40, _⟩ => ⟨S8x16x2048x2048, .f32⟩
  | .hbm, ⟨41, _⟩ => ⟨S8x16x2048x2048, .f32⟩
  | .hbm, ⟨42, _⟩ => ⟨S_, .f32⟩
  | .hbm, ⟨43, _⟩ => ⟨S8x16x2048x2048, .f32⟩
  | .hbm, ⟨44, _⟩ => ⟨S8x16x2048x2048, .f32⟩
  | .hbm, ⟨45, _⟩ => ⟨S_, .f32⟩
  | .hbm, ⟨46, _⟩ => ⟨S8x16x2048, .f32⟩
  | .hbm, ⟨47, _⟩ => ⟨S8x16x2048x1, .f32⟩
  | .hbm, ⟨48, _⟩ => ⟨S_, .f32⟩
  | .hbm, ⟨49, _⟩ => ⟨S8x16x2048x1, .f32⟩
  | .hbm, ⟨50, _⟩ => ⟨S8x16x2048x1, .f32⟩
  | .hbm, ⟨51, _⟩ => ⟨S8x16x2048x2048, .f32⟩
  | .hbm, ⟨52, _⟩ => ⟨S8x16x2048x2048, .f32⟩
  | .hbm, ⟨53, _⟩ => ⟨S8x16x128x2048, .f32⟩
  | .hbm, ⟨54, _⟩ => ⟨S8x2048x16x128, .f32⟩
  | .hbm, ⟨55, _⟩ => ⟨S16384x2048, .f32⟩
  | .hbm, ⟨56, _⟩ => ⟨S16384x2048, .f32⟩
  | .hbm, ⟨57, _⟩ => ⟨S16384x2048, .bf16⟩
  | _, _ => ⟨S16384x29184, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Proof.FusedTable.lean ====
/- The fused projection's table of row offsets. It is a constant of the host program, so the side condition its
   element window asks for (every block of 512 weight rows lies inside the array) is decided outright. -/
module

public import proofs.«01_k».proof.Proof.Gen.KernelIdeal.Frame
public import Idealize.ShloMosaic.PureOps.BitExact

@[expose] public section

set_option maxRecDepth 16384

noncomputable section

namespace Cert.Proof.Fused

open Idealize.ShloMosaic Idealize.ShloMosaic.TcCoe
open Cert.KernelIdeal Cert.KernelIdeal.Gen

variable {F : FTy → Type} [FloatOps F]
variable (m : (ℓ : Loc nD τ sig) → Buf (Elt F) ℓ)

/-- The first weight row (of the transposed weights) that column chunk `j` reads. -/
def rowOf (j : Fin 57) : ℕ := (lit0 j).toNat

set_option backward.proofsInPublic true in
/-- The one table's contents: the literal, read row-major. -/
def rows : pre0.Contents (Elt F) :=
  fun | ⟨0, _⟩ => fun x => lit0 (S57.rowMajor x) | ⟨_ + 1, h⟩ => absurd h (by simp)

/-- The table the launch reads is the literal: no later host operation writes it. -/
theorem tbl_eq : tbl m = rows := by
  funext j x
  match j with
  | ⟨0, _⟩ =>
    have e : V m (0 : Dev nD) main_c = fun i => lit0 (S57.rowMajor i) := by
      unfold V; after_results_simp; rfl
    exact congrFun e x

/-- Every block of 512 rows the table names lies inside the weights. -/
theorem ok_bits : ok0 (F := Bits) rows := by decide +kernel

/-- The same at any float values: the table's words are integers. -/
theorem ok : Ok m := by
  unfold Ok; rw [tbl_eq m]; exact ok_bits

end Cert.Proof.Fused

end
-- ==== Proof.FusedBody.lean ====
/- What one grid point of the fused projection leaves in its block of 2048 rows and 512 columns, over the reals:
   the same function of the point's inputs in each of its eight row chunks, one formula for each of the three
   kinds of column chunk. -/
module

public import proofs.«01_k».proof.Proof.FusedTable
public import Idealize.ShloMosaic.Lib.ValueIdxCore
public import Idealize.ShloMosaic.Lib.MatmulPlain
public import Idealize.ShloMosaic.PureOps.Ideal
public import Idealize.ShloMosaic.Lib.Pipeline.Value

@[expose] public section

set_option maxRecDepth 16384

noncomputable section

namespace Cert.Proof.Fused

open Idealize.ShloMosaic Idealize.ShloMosaic.TcCoe Idealize.ShloMosaic.Tactic Idealize.ShloMosaic.ValueIdx
open Idealize.SL Idealize.SL.RA
open Cert.KernelIdeal Cert.KernelIdeal.Gen

/-! ## One row chunk -/

/-- The zero a product starts from. -/
theorem zero_lit (s : Shape) (i : s.Idx) : constant (F := Ideal) s .f32 0x00000000#32 i = 0 := by
  show Ideal.ofBits .f32 0x00000000#32 = 0
  simp

/-- Rows times rows: the product with the transposed weights at an index. -/
theorem mmT_apply (a : FVec Ideal S256x4096 .bf16) (w : FVec Ideal S512x4096 .bf16) (p : S256x512.Idx) :
    matmul dot_S256x4096_S512x4096_S256x512_1_1_0_0_n_n none a w (constant S256x512 .f32 0x00000000#32) p
      = ∑ k : Fin 4096, a (ix2 (p 0) k) * w (ix2 (p 1) k) := by
  obtain ⟨r, q, rfl⟩ : ∃ r q, p = ix2 r q := ⟨_, _, eq_ix2 p⟩
  refine (Ideal.matmul_transposedRhs_apply (M := 256) (K := 4096) (N := 512) none a w _ r q).trans ?_
  rw [zero_lit, zero_add]

/-- Rows times columns: the product with the gate weights at an index. -/
theorem mm_apply (a : FVec Ideal S256x4096 .bf16) (w : FVec Ideal S4096x512 .bf16) (p : S256x512.Idx) :
    matmul dot_S256x4096_S4096x512_S256x512_1_0_0_1_n_n none a w (constant S256x512 .f32 0x00000000#32) p
      = ∑ k : Fin 4096, a (ix2 (p 0) k) * w (ix2 k (p 1)) := by
  obtain ⟨r, q, rfl⟩ : ∃ r q, p = ix2 r q := ⟨_, _, eq_ix2 p⟩
  refine (Ideal.matmul_plain_apply (M := 256) (K := 4096) (N := 512) none a w _ r q).trans ?_
  rw [zero_lit, zero_add]

/-- The product of a row chunk with the point's 512 weight rows. -/
def prodT (a : Vec Ideal S256x4096 .bf16) (w : Vec Ideal S1x512x4096 .bf16) (p : S256x512.Idx) : EReal :=
  ∑ k : Fin 4096, a (ix2 (p 0) k) * w (ix3 0 (p 1) k)

theorem k0_pay11_eq (a : Vec Ideal S256x4096 .bf16) (w : Vec Ideal S1x512x4096 .bf16) : k0_pay11 a w = prodT a w := by
  funext p
  refine (mmT_apply _ _ p).trans (Finset.sum_congr rfl fun k _ => congrArg (a (ix2 (p 0) k) * ·) ?_)
  refine (shapeCast_dropUnit_apply ![512, 4096] w shapeCasts_S1x512x4096_S512x4096 _).trans (congrArg w ?_)
  funext d; fin_cases d <;> rfl

/-- A chunk of case A: the product times the column's scale. -/
theorem pay_A (a : Vec Ideal S256x4096 .bf16) (w : Vec Ideal S1x512x4096 .bf16) (s : Vec Ideal S1x512 .f32) (p : S256x512.Idx) :
    k0_pay1 (k0_pay11 a w) (k0_pay12 s) p = prodT a w p * s (ix2 0 (p 1)) := by
  show k0_pay11 a w p * k0_pay12 s p = _
  rw [k0_pay11_eq]
  refine congrArg (prodT a w p * ·) ?_
  show (broadcastTo S256x512 (shapeCast S1x512 s shapeCasts_S1x512_S1x512) broadcasts_S1x512_S256x512 : Vec Ideal S256x512 .f32) p = _
  rw [shapeCast_self]
  refine congrArg s ?_
  funext d; fin_cases d <;> rfl

/-- A chunk of case B: the product times its logistic. -/
theorem pay_B (a : Vec Ideal S256x4096 .bf16) (w : Vec Ideal S1x512x4096 .bf16) (p : S256x512.Idx) :
    k0_pay4 a w p = prodT a w p * Ideal.logistic (prodT a w p) := by
  rw [← k0_pay11_eq]; rfl

/-- A chunk of case C: the logistic of the product with the gate weights. -/
theorem pay_C (a : Vec Ideal S256x4096 .bf16) (w : Vec Ideal S1x4096x512 .bf16) (p : S256x512.Idx) :
    k0_pay5 a (k0_pay28 w) p = Ideal.logistic (∑ k : Fin 4096, a (ix2 (p 0) k) * w (ix3 0 k (p 1))) := by
  show Ideal.logistic (matmul dot_S256x4096_S4096x512_S256x512_1_0_0_1_n_n none a (k0_pay28 w) (constant S256x512 .f32 0x00000000#32) p) = _
  rw [mm_apply]
  refine congrArg Ideal.logistic (Finset.sum_congr rfl fun k _ => congrArg (a (ix2 (p 0) k) * ·) ?_)
  refine (shapeCast_dropUnit_apply ![4096, 512] w shapeCasts_S1x4096x512_S4096x512 _).trans (congrArg w ?_)
  funext d; fin_cases d <;> rfl

/-! ## The block -/

/-- The block of case A, from the point's rows `x0`, weight rows `x1` and scales `x3`. -/
def blkA (x0 : Vec Ideal S2048x4096 .bf16) (x1 : Vec Ideal S1x512x4096 .bf16) (x3 : Vec Ideal S1x512 .f32) (y : S2048x512.Idx) : EReal :=
  (∑ k : Fin 4096, x0 (ix2 (y 0) k) * x1 (ix3 0 (y 1) k)) * x3 (ix2 0 (y 1))

/-- The block of case B. -/
def blkB (x0 : Vec Ideal S2048x4096 .bf16) (x1 : Vec Ideal S1x512x4096 .bf16) (y : S2048x512.Idx) : EReal :=
  (∑ k : Fin 4096, x0 (ix2 (y 0) k) * x1 (ix3 0 (y 1) k)) * Ideal.logistic (∑ k : Fin 4096, x0 (ix2 (y 0) k) * x1 (ix3 0 (y 1) k))

/-- The block of case C. -/
def blkC (x0 : Vec Ideal S2048x4096 .bf16) (x2 : Vec Ideal S1x4096x512 .bf16) (y : S2048x512.Idx) : EReal :=
  Ideal.logistic (∑ k : Fin 4096, x0 (ix2 (y 0) k) * x2 (ix3 0 k (y 1)))

/-- Reading a whole weight block is that block. -/
theorem ld3 {a b : ℕ} {e : EltTy} (w : (⟨3, ![1, a, b]⟩ : Shape).Idx → Elt Ideal e) (h) :
    View.ld w (Rect.unit (s := ⟨3, ![1, a, b]⟩) ![0, 0, 0] ![1, a, b] h) = w :=
  View.ld_unit_zero (by funext d; fin_cases d <;> rfl) _ w

theorem ld2 {a : ℕ} {e : EltTy} (w : (⟨2, ![1, a]⟩ : Shape).Idx → Elt Ideal e) (h) :
    View.ld w (Rect.unit (s := ⟨2, ![1, a]⟩) ![0, 0] ![1, a] h) = w :=
  View.ld_unit_zero (by funext d; fin_cases d <;> rfl) _ w

/-- The rows of a chunk starting at `o`, inside the block. -/
theorem ld_rows (x0 : Vec Ideal S2048x4096 .bf16) (o : ℕ) (h) (h') (p : S256x512.Idx) (k : Fin 4096) :
    View.ld x0 (Rect.unit (s := S2048x4096) ![o, 0] ![256, 4096] h) (ix2 (p 0) k)
      = x0 (ix2 ((Rect.unit (s := S2048x512) ![o, 0] ![256, 512] h').emb p 0) k) := by
  refine congrArg x0 ?_
  funext d; fin_cases d
  · rfl
  · exact Fin.ext (by show 0 + 1 * k.val = k.val; omega)

theorem emb_col (o : ℕ) (h') (p : S256x512.Idx) : ((Rect.unit (s := S2048x512) ![o, 0] ![256, 512] h').emb p 1) = p 1 :=
  Fin.ext (by show 0 + 1 * (p 1).val = (p 1).val; omega)

/-- A chunk of case A is its part of the block. -/
theorem piece_A (x0 : Vec Ideal S2048x4096 .bf16) (x1 : Vec Ideal S1x512x4096 .bf16) (x3 : Vec Ideal S1x512 .f32) (o : ℕ) (h) (h')
    (p : S256x512.Idx) :
    k0_pay1 (k0_pay11 (View.ld x0 (Rect.unit (s := S2048x4096) ![o, 0] ![256, 4096] h)) x1) (k0_pay12 x3) p
      = blkA x0 x1 x3 ((Rect.unit (s := S2048x512) ![o, 0] ![256, 512] h').emb p) := by
  rw [pay_A]; unfold blkA prodT
  rw [emb_col]
  simp only [ld_rows x0 o h h']

theorem piece_B (x0 : Vec Ideal S2048x4096 .bf16) (x1 : Vec Ideal S1x512x4096 .bf16) (o : ℕ) (h) (h') (p : S256x512.Idx) :
    k0_pay4 (View.ld x0 (Rect.unit (s := S2048x4096) ![o, 0] ![256, 4096] h)) x1 p
      = blkB x0 x1 ((Rect.unit (s := S2048x512) ![o, 0] ![256, 512] h').emb p) := by
  rw [pay_B]; unfold blkB prodT
  rw [emb_col]
  simp only [ld_rows x0 o h h']

theorem piece_C (x0 : Vec Ideal S2048x4096 .bf16) (x2 : Vec Ideal S1x4096x512 .bf16) (o : ℕ) (h) (h') (p : S256x512.Idx) :
    k0_pay5 (View.ld x0 (Rect.unit (s := S2048x4096) ![o, 0] ![256, 4096] h)) (k0_pay28 x2) p
      = blkC x0 x2 ((Rect.unit (s := S2048x512) ![o, 0] ![256, 512] h').emb p) := by
  rw [pay_C]; unfold blkC
  rw [emb_col]
  simp only [ld_rows x0 o h h']

section
variable (c : Dev nD) (i : grid0.Coords) (arg3 : Memref sig .tc .vmem S2048x4096 .bf16) (h3 : arg3.IsWhole)
    (arg4 : Memref sig .tc .vmem S1x512x4096 .bf16) (h4 : arg4.IsWhole) (arg5 : Memref sig .tc .vmem S1x4096x512 .bf16) (h5 : arg5.IsWhole)
    (arg6 : Memref sig .tc .vmem S1x512 .f32) (h6 : arg6.IsWhole) (arg7 : Memref sig .tc .vmem S2048x512 .bf16) (h7 : arg7.IsWhole)
    (x0 : Vec Ideal S2048x4096 .bf16) (x1 : Vec Ideal S1x512x4096 .bf16)
    (x2 : Vec Ideal S1x4096x512 .bf16) (x3 : Vec Ideal S1x512 .f32) (xt : TbBuf0 (F := Ideal) c tbM0_0)

/-- A scaled chunk's point leaves `blkA`. -/
theorem out_A (hc0 : cond0_0 i) (hc1 : ¬cond0_1 i) (hc2 : ¬cond0_2 i) :
    out0_A_4 c i arg3 h3 arg4 h4 arg5 h5 arg6 h6 arg7 h7 hc0 hc1 hc2 x0 x1 x2 x3 xt = blkA x0 x1 x3 := by
  funext y
  unfold out0_A_4
  rw [View.read_writes_eq_canon _ _ _ (cover0_A_4 c i arg3 h3 arg4 h4 arg5 h5 arg6 h6 arg7 h7 hc0 hc1 hc2 x0 x1 x2 x3 xt)]
  refine View.canon_apply_of_pieces (blkA x0 x1 x3) _ ?_ y (cover0_A_4 c i arg3 h3 arg4 h4 arg5 h5 arg6 h6 arg7 h7 hc0 hc1 hc2 x0 x1 x2 x3 xt y)
  unfold kernelRun0_A
  dsimp only
  sl_unfold_words
  simp only [View.readAt_eq_ld, h3.read_unread, h4.read_unread, h6.read_unread, ld3, ld2]
  simp only [List.forall_mem_cons]
  exact ⟨piece_A x0 x1 x3 _ _ _, piece_A x0 x1 x3 _ _ _, piece_A x0 x1 x3 _ _ _, piece_A x0 x1 x3 _ _ _, piece_A x0 x1 x3 _ _ _, piece_A x0 x1 x3 _ _ _, piece_A x0 x1 x3 _ _ _, piece_A x0 x1 x3 _ _ _, List.forall_mem_nil _⟩

/-- A gated chunk's point leaves `blkB`. -/
theorem out_B (hc0 : ¬cond0_0 i) (hc1 : cond0_1 i) (hc2 : ¬cond0_2 i) :
    out0_B_4 c i arg3 h3 arg4 h4 arg5 h5 arg6 h6 arg7 h7 hc0 hc1 hc2 x0 x1 x2 x3 xt = blkB x0 x1 := by
  funext y
  unfold out0_B_4
  rw [View.read_writes_eq_canon _ _ _ (cover0_B_4 c i arg3 h3 arg4 h4 arg5 h5 arg6 h6 arg7 h7 hc0 hc1 hc2 x0 x1 x2 x3 xt)]
  refine View.canon_apply_of_pieces (blkB x0 x1) _ ?_ y (cover0_B_4 c i arg3 h3 arg4 h4 arg5 h5 arg6 h6 arg7 h7 hc0 hc1 hc2 x0 x1 x2 x3 xt y)
  unfold kernelRun0_B
  dsimp only
  sl_unfold_words
  simp only [View.readAt_eq_ld, h3.read_unread, h4.read_unread, ld3, ld2]
  simp only [List.forall_mem_cons]
  exact ⟨piece_B x0 x1 _ _ _, piece_B x0 x1 _ _ _, piece_B x0 x1 _ _ _, piece_B x0 x1 _ _ _, piece_B x0 x1 _ _ _, piece_B x0 x1 _ _ _, piece_B x0 x1 _ _ _, piece_B x0 x1 _ _ _, List.forall_mem_nil _⟩

/-- A merge gate's point leaves `blkC`. -/
theorem out_C (hc0 : ¬cond0_0 i) (hc1 : ¬cond0_1 i) (hc2 : cond0_2 i) :
    out0_C_4 c i arg3 h3 arg4 h4 arg5 h5 arg6 h6 arg7 h7 hc0 hc1 hc2 x0 x1 x2 x3 xt = blkC x0 x2 := by
  funext y
  unfold out0_C_4
  rw [View.read_writes_eq_canon _ _ _ (cover0_C_4 c i arg3 h3 arg4 h4 arg5 h5 arg6 h6 arg7 h7 hc0 hc1 hc2 x0 x1 x2 x3 xt)]
  refine View.canon_apply_of_pieces (blkC x0 x2) _ ?_ y (cover0_C_4 c i arg3 h3 arg4 h4 arg5 h5 arg6 h6 arg7 h7 hc0 hc1 hc2 x0 x1 x2 x3 xt y)
  unfold kernelRun0_C
  dsimp only
  sl_unfold_words
  simp only [View.readAt_eq_ld, h3.read_unread, h5.read_unread, ld3, ld2]
  simp only [List.forall_mem_cons]
  exact ⟨piece_C x0 x2 _ _ _, piece_C x0 x2 _ _ _, piece_C x0 x2 _ _ _, piece_C x0 x2 _ _ _, piece_C x0 x2 _ _ _, piece_C x0 x2 _ _ _, piece_C x0 x2 _ _ _, piece_C x0 x2 _ _ _, List.forall_mem_nil _⟩

end

end Cert.Proof.Fused

end
-- ==== Proof.FusedSpec.lean ====
/- What the fused projection computes, as one formula per output column over the reals: both the kernel's result and
   the reference's are shown equal to it. -/
module

public import Idealize.ShloMosaic.Lib.ValueIdxCore
public import Idealize.ShloMosaic.PureOps.Ideal

@[expose] public section

noncomputable section

namespace Cert.Proof.Fused

open Idealize.ShloMosaic Idealize.ShloMosaic.ValueIdx

/-- The token rows, the layer's input weights and its gate weights. -/
abbrev Rows : Type := (⟨2, ![16384, 4096]⟩ : Shape).Idx → EReal
abbrev Weights : Type := (⟨3, ![2, 4096, 16976]⟩ : Shape).Idx → EReal
abbrev Gates : Type := (⟨3, ![2, 4096, 12288]⟩ : Shape).Idx → EReal

/-- The scale of output column `q`: the queries' logit scales, one elsewhere. -/
def scale (q : ℕ) : EReal :=
  if 4096 ≤ q ∧ q < 6144 then Ideal.ofBits .f32 0x3E0293EE#32
  else if 2048 ≤ q ∧ q < 4096 then Ideal.ofBits .f32 0x3E38AA3B#32 else 1

/-- The weight column that output column `q` is a product with (outside the gates). -/
def src (q : ℕ) : ℕ :=
  if q < 2048 then q else if q < 4096 then q + 2112 else if q < 6144 then q + 4672 else if q < 8192 then q + 4672
  else if q < 10240 then q + 4672 else if q < 12288 then q - 3520 else if q < 14336 then q - 10176
  else if q < 16384 then q + 592 else q - 22464

/-- Row `r` of the tokens times column `n` of layer 0's input weights (zero past the last column). -/
def proj (h : Rows) (w : Weights) (r : Fin 16384) (n : ℕ) : EReal :=
  if hn : n < 16976 then ∑ k : Fin 4096, h (ix2 r k) * w (ix3 0 k ⟨n, hn⟩) else 0

/-- Row `r` of the tokens times column `n` of layer 0's gate weights (zero past the last column). -/
def gate (h : Rows) (g : Gates) (r : Fin 16384) (n : ℕ) : EReal :=
  if hn : n < 12288 then ∑ k : Fin 4096, h (ix2 r k) * g (ix3 0 k ⟨n, hn⟩) else 0

/-- The result at row `r` and column `q`: a merge gate, a gated column, or a scaled column. -/
def out (h : Rows) (w : Weights) (g : Gates) (r : Fin 16384) (q : ℕ) : EReal :=
  if 16384 ≤ q ∧ q < 28672 then Ideal.logistic (gate h g r (q - 16384))
  else if 10240 ≤ q ∧ q < 16384 then proj h w r (src q) * Ideal.logistic (proj h w r (src q))
  else proj h w r (src q) * scale q

end Cert.Proof.Fused

end
-- ==== Proof.FusedHost.lean ====
/- The arrays the fused projection's launch reads, at an index: the weights with their last two axes exchanged, the
   gate weights as given, and the row of column scales (one, but for two runs of 2048 columns). -/
module

public import proofs.«01_k».proof.Proof.FusedBody
public import proofs.«01_k».proof.Proof.FusedSpec
public import Idealize.ShloMosaic.Lib.Routing.OpsPair
public import Idealize.ShloMosaic.Lib.Routing.OpsSet
public import Idealize.ShloMosaic.Lib.IdealHost

@[expose] public section

set_option maxRecDepth 16384

noncomputable section

namespace Cert.Proof.Fused

open Idealize.ShloMosaic Idealize.ShloMosaic.TcCoe Idealize.ShloMosaic.Tactic Idealize.ShloMosaic.ValueIdx
open Idealize.ShloMosaic.Routing
open Cert.KernelIdeal Cert.KernelIdeal.Gen

variable (m : (ℓ : Loc nD τ sig) → Buf (Elt Ideal) ℓ) (c : Dev nD)

/-- The transposed weights the launch reads. -/
theorem V_weights (l : Fin 2) (r : Fin 16976) (k : Fin 4096) :
    (V m c main_v1 : S2x16976x4096.Idx → EReal) (ix3 l r k) = (m ((c : Thread nD τ).loc main_arg1) : S2x4096x16976.Idx → EReal) (ix3 l k r) := by
  have e : (V m c main_v1 : S2x16976x4096.Idx → EReal)
      = truncf (F := Ideal) .bf16 (transpose S2x16976x4096 [0, 2, 1] (m ((c : Thread nD τ).loc main_arg1)) transposes_S2x4096x16976_S2x16976x4096_0_2_1) bitsLt_bf16_f32 := by
    unfold V; after_results_simp
  rw [e]
  show (m ((c : Thread nD τ).loc main_arg1) : S2x4096x16976.Idx → EReal) _ = _
  refine congrArg (m ((c : Thread nD τ).loc main_arg1) : S2x4096x16976.Idx → EReal) ?_
  funext d; fin_cases d <;> rfl

/-- The gate weights the launch reads. -/
theorem V_gates : (V m c main_v2 : S2x4096x12288.Idx → EReal) = m ((c : Thread nD τ).loc main_arg2) := by
  have e : (V m c main_v2 : S2x4096x12288.Idx → EReal)
      = truncf (F := Ideal) .bf16 (m ((c : Thread nD τ).loc main_arg2)) bitsLt_bf16_f32 := by
    unfold V; after_results_simp
  rw [e]; rfl

/-! ## The column scales -/

/-- `2048` scalars set from position `o` of the row, read at an entry: inside the run the new value, elsewhere the old. -/
theorem set_run (x : S29184.Idx → EReal) (o : BitVec 32) (v : EReal) (e : Fin 29184) :
    Host.scatter scatter_S29184_S1_S2048_0_n_0_0 (fun _ b => b) x (fun _ => o) (fun _ => v) (ix1 e)
      = if o.toInt ≤ e.val ∧ (e.val : ℤ) < o.toInt + 2048 then v else x (ix1 e) := by
  have lands : ∀ k : S2048.Idx, scatter_S29184_S1_S2048_0_n_0_0.resultIdx? k (fun _ => o) = some (ix1 e)
      ↔ o.toInt + ((k 0).val : ℤ) = e.val := fun k => by
    refine (resultIdx?_ix1 (N := 29184) scatter_S29184_S1_S2048_0_n_0_0 k (fun _ => o) e).trans (iff_of_eq (congrArg₂ (fun (a b : ℤ) => a + b = (e.val : ℤ)) ?_ ?_))
    · unfold ScatterDims.start; rw [dif_pos (by decide)]
    · unfold ScatterDims.window; rw [dif_pos (by decide)]; rfl
  by_cases h : o.toInt ≤ e.val ∧ (e.val : ℤ) < o.toInt + 2048
  · rw [if_pos h]
    refine scatter_set_hit scatter_S29184_S1_S2048_0_n_0_0 x _ _ _ v (fun _ _ => rfl) (ix1 (n := 2048) ⟨(e.val - o.toInt).toNat, by omega⟩) ((lands _).2 ?_)
    show o.toInt + (((e.val - o.toInt).toNat : ℕ) : ℤ) = e.val
    omega
  · rw [if_neg h]
    refine scatter_set_miss scatter_S29184_S1_S2048_0_n_0_0 x _ _ _ fun k hk => h ?_
    have := (lands k).1 hk
    have hlt : (k 0).val < 2048 := (k 0).isLt
    omega

theorem one_lit : Ideal.ofBits .f32 0x3F800000#32 = 1 := Ideal.ofBits_one_f32

/-- The row of scales the launch reads. -/
theorem V_scale (q : Fin 29184) : (V m c main_v10 : S1x29184.Idx → EReal) (ix2 0 q) = scale q.val := by
  have e : (V m c main_v10 : S1x29184.Idx → EReal)
      = shapeCast S1x29184 (Host.scatter scatter_S29184_S1_S2048_0_n_0_0 (fun _ b => b)
          (Host.scatter scatter_S29184_S1_S2048_0_n_0_0 (fun _ b => b) (fun _ => Ideal.ofBits .f32 0x3F800000#32) (fun _ => 2048#32) (fun _ => Ideal.ofBits .f32 0x3E38AA3B#32))
          (fun _ => 4096#32) (fun _ => Ideal.ofBits .f32 0x3E0293EE#32)) shapeCasts_S29184_S1x29184 := by
    unfold V; after_results_simp; rfl
  rw [e]
  refine (shapeCast_addUnit_apply ![29184] _ shapeCasts_S29184_S1x29184 _).trans ?_
  rw [show (fun a : Fin 1 => (ix2 (0 : Fin 1) q : S1x29184.Idx) a.succ) = (ix1 q : S29184.Idx) from by funext d; fin_cases d; rfl]
  rw [set_run, set_run, one_lit]
  unfold scale
  have h1 : (4096#32 : BitVec 32).toInt = 4096 := by decide
  have h2 : (2048#32 : BitVec 32).toInt = 2048 := by decide
  rw [h1, h2]
  have i1 : ((4096 : ℤ) ≤ q.val ∧ (q.val : ℤ) < 4096 + 2048) = (4096 ≤ q.val ∧ q.val < 6144) := propext (by omega)
  have i2 : ((2048 : ℤ) ≤ q.val ∧ (q.val : ℤ) < 2048 + 2048) = (2048 ≤ q.val ∧ q.val < 4096) := propext (by omega)
  simp only [i1, i2]

end Cert.Proof.Fused

end
-- ==== Proof.FusedArray.lean ====
/- The array the fused projection's launch leaves: the block a grid point writes back is the shared formula at that
   block's rows and columns, and the blocks cover the array. -/
module

public import proofs.«01_k».proof.Proof.FusedTable
public import proofs.«01_k».proof.Proof.FusedBody
public import proofs.«01_k».proof.Proof.FusedHost
public import Idealize.ShloMosaic.Lib.Pipeline.ValueKit
public import Idealize.ShloMosaic.Lib.Pipeline.Covers

@[expose] public section

set_option maxRecDepth 16384

noncomputable section

namespace Cert.Proof.Fused

open Idealize.ShloMosaic hiding ix1 ix2 ix3
open Idealize.ShloMosaic.TcCoe Idealize.ShloMosaic.ValueIdx
open Cert.KernelIdeal Cert.KernelIdeal.Gen

/-! ## Which block each window names at a point -/

/-- The column chunk of a grid point. -/
abbrev chunk (n : ℕ) : Fin 57 := ⟨n % 57, Nat.mod_lt _ (by decide)⟩

theorem index0 : ∀ t : Fin grid0.N, cc0_transform_0 (grid0.coords t) = ![t.val / 57, 0] := by decide +kernel
theorem index1_bits : ∀ t : Fin grid0.N,
    cc0_transform_1 (F := Bits) k0_off1_inb numel1_S1 rows (grid0.coords t) = ![0, rowOf (chunk t.val), 0] := by decide +kernel
theorem index2 : ∀ t : Fin grid0.N, 32 ≤ t.val % 57 → t.val % 57 ≤ 55 →
    cc0_transform_2 (grid0.coords t) = ![0, 0, t.val % 57 - 32] := by decide +kernel
theorem index3 : ∀ t : Fin grid0.N, cc0_transform_3 (grid0.coords t) = ![0, t.val % 57] := by decide +kernel
theorem index4 : ∀ t : Fin grid0.N, cc0_transform_4 (grid0.coords t) = ![t.val / 57, t.val % 57] := by decide +kernel

/-- Within a chunk of 512 columns the formula's source column moves with the column. -/
theorem src_add (a x : ℕ) (ha : a % 512 = 0) (hg : a < 16384 ∨ 28672 ≤ a) (hx : x < 512) : src (a + x) = src a + x := by
  have e : ∀ b, b % 512 = 0 → (a + x < b ↔ a < b) := fun b hb => by omega
  unfold src
  simp only [e 2048 rfl, e 4096 rfl, e 6144 rfl, e 8192 rfl, e 10240 rfl, e 12288 rfl, e 14336 rfl, e 16384 rfl]
  (repeat' split) <;> omega

/-- The table's rows and the formula's columns agree, chunk by chunk. -/
theorem rowOf_src (j : Fin 57) (hj : ¬(32 ≤ j.val ∧ j.val ≤ 55)) (x : ℕ) (hx : x < 512) : rowOf j + x = src (j.val * 512 + x) := by
  have e : ∀ j : Fin 57, ¬(32 ≤ j.val ∧ j.val ≤ 55) → rowOf j = src (j.val * 512) := by decide +kernel
  rw [e j hj]
  have := j.isLt
  exact (src_add _ x (by omega) (by omega) hx).symm

theorem rowOf_lt (j : Fin 57) : rowOf j + 512 ≤ 16976 := by revert j; decide +kernel

variable (m : (ℓ : Loc nD τ sig) → Buf (Elt Ideal) ℓ) (c : Dev nD) (t : Fin (cfgM m (ok m)).N)

theorem index1 : ((cfgM m (ok m)).win 1).index t = ![0, rowOf (chunk t.val), 0] :=
  (congrArg (fun pf => cc0_transform_1 (F := Ideal) k0_off1_inb numel1_S1 pf (grid0.coords t)) (tbl_eq m)).trans (index1_bits t)

/-! ## The blocks read -/

theorem read0 (y : S2048x4096.Idx) (i : S16384x4096.Idx) (h0 : (i 0).val = t.val / 57 * 2048 + (y 0).val) (h1 : (i 1).val = (y 1).val) :
    iblk m (ok m) c 0 t y = m ((c.tc : Thread nD τ).loc main_arg0) i := by
  rw [← V_main_arg0 m c]
  refine congrArg (V m c main_arg0) (funext fun d => Fin.ext ?_)
  refine (Pipeline.Window.rect_emb_val_off ((cfgM m (ok m)).win 0) t y d).trans ?_
  have e : ((cfgM m (ok m)).win 0).index t = ![t.val / 57, 0] := index0 t
  rw [e]; fin_cases d
  · exact h0.symm
  · show 0 * 4096 + (y 1).val = (i 1).val; omega

theorem read1 (r : Fin 512) (k : Fin 4096) (n : Fin 16976) (hn : n.val = rowOf (chunk t.val) + r.val) :
    iblk m (ok m) c 1 t (ix3 0 r k) = m ((c.tc : Thread nD τ).loc main_arg1) (ix3 0 k n) := by
  rw [← V_weights m c 0 n k]
  refine congrArg (V m c main_v1) (funext fun d => Fin.ext ?_)
  refine (Pipeline.Window.rect_emb_val_off ((cfgM m (ok m)).win 1) t (ix3 0 r k) d).trans ?_
  rw [index1 m t]; fin_cases d
  · rfl
  · exact hn.symm
  · exact Nat.zero_add _

theorem read2 (h : 32 ≤ t.val % 57) (h' : t.val % 57 ≤ 55) (k : Fin 4096) (q : Fin 512) (n : Fin 12288)
    (hn : n.val = (t.val % 57 - 32) * 512 + q.val) :
    iblk m (ok m) c 2 t (ix3 0 k q) = m ((c.tc : Thread nD τ).loc main_arg2) (ix3 0 k n) := by
  rw [← V_gates m c]
  refine congrArg (V m c main_v2) (funext fun d => Fin.ext ?_)
  refine (Pipeline.Window.rect_emb_val_off ((cfgM m (ok m)).win 2) t (ix3 0 k q) d).trans ?_
  have e : ((cfgM m (ok m)).win 2).index t = ![0, 0, t.val % 57 - 32] := index2 t h h'
  rw [e]; fin_cases d
  · rfl
  · show 0 * 4096 + k.val = k.val; omega
  · exact hn.symm

theorem read3 (q : Fin 512) (n : Fin 29184) (hn : n.val = t.val % 57 * 512 + q.val) :
    iblk m (ok m) c 3 t (ix2 0 q) = scale n.val := by
  rw [← V_scale m c n]
  refine congrArg (V m c main_v10) (funext fun d => Fin.ext ?_)
  refine (Pipeline.Window.rect_emb_val_off ((cfgM m (ok m)).win 3) t (ix2 0 q) d).trans ?_
  have e : ((cfgM m (ok m)).win 3).index t = ![0, t.val % 57] := index3 t
  rw [e]; fin_cases d
  · rfl
  · exact hn.symm

/-! ## A point's block, and the array -/

theorem t_lt : t.val < 456 := t.isLt

/-- Row `y 0` of the token block times row `y 1` of the weight block. -/
def dotT (x0 : Vec Ideal S2048x4096 .bf16) (x1 : Vec Ideal S1x512x4096 .bf16) (y : S2048x512.Idx) : EReal :=
  ∑ k : Fin 4096, x0 (ix2 (y 0) k) * x1 (ix3 0 (y 1) k)

/-- A product of one point: the formula's projection. -/
theorem dot_proj (y : S2048x512.Idx) (r : Fin 16384) (q : ℕ) (hr : r.val = t.val / 57 * 2048 + (y 0).val)
    (hq : q = t.val % 57 * 512 + (y 1).val) (hj : ¬(32 ≤ t.val % 57 ∧ t.val % 57 ≤ 55)) :
    dotT (iblk m (ok m) c 0 t) (iblk m (ok m) c 1 t) y
      = proj (m ((c.tc : Thread nD τ).loc main_arg0)) (m ((c.tc : Thread nD τ).loc main_arg1)) r (src q) := by
  have hy : (y 1).val < 512 := (y 1).isLt
  have hs := rowOf_src (chunk t.val) hj _ hy
  have hl := rowOf_lt (chunk t.val)
  subst hq
  unfold proj
  rw [← hs, dif_pos (by omega)]
  exact Finset.sum_congr rfl fun k _ => congrArg₂ (fun (a b : EReal) => a * b)
    (read0 m c t (ix2 (y 0) k) (ix2 r k) hr rfl) (read1 m c t (y 1) k ⟨_, _⟩ rfl)

/-- What the body leaves at a point. -/
theorem point (y : S2048x512.Idx) (r : Fin 16384) (q : Fin 29184) (hr : r.val = t.val / 57 * 2048 + (y 0).val)
    (hq : q.val = t.val % 57 * 512 + (y 1).val) :
    outsAt0 m (ok m) c t.val t.isLt y
      = out (m ((c.tc : Thread nD τ).loc main_arg0)) (m ((c.tc : Thread nD τ).loc main_arg1)) (m ((c.tc : Thread nD τ).loc main_arg2)) r q.val := by
  have hy : (y 1).val < 512 := (y 1).isLt
  by_cases hC : 32 ≤ t.val % 57 ∧ t.val % 57 ≤ 55
  · refine (congrFun (outsAt0_C m (ok m) c t (by omega) (by omega) hC) y).trans ((congrFun (out_C _ _ _ _ _ _ _ _ _ _ _ _ _ _ _ _ _ _ _ _) y).trans ?_)
    unfold out; rw [if_pos (by omega)]
    refine congrArg Ideal.logistic ?_
    unfold gate; rw [dif_pos (by omega)]
    exact Finset.sum_congr rfl fun k _ => congrArg₂ (fun (a b : EReal) => a * b)
      (read0 m c t (ix2 (y 0) k) (ix2 r k) hr rfl) (read2 m c t hC.1 hC.2 k (y 1) ⟨_, _⟩ (by show q.val - 16384 = _; omega))
  by_cases hB : 20 ≤ t.val % 57 ∧ t.val % 57 ≤ 31
  · refine (congrFun (outsAt0_B m (ok m) c t (by omega) hB (by omega)) y).trans ((congrFun (out_B _ _ _ _ _ _ _ _ _ _ _ _ _ _ _ _ _ _ _ _) y).trans ?_)
    unfold out; rw [if_neg (by omega), if_pos (by omega), ← dot_proj m c t y r q.val hr hq hC]
    rfl
  · refine (congrFun (outsAt0_A m (ok m) c t (by omega) (by omega) (by omega)) y).trans ((congrFun (out_A _ _ _ _ _ _ _ _ _ _ _ _ _ _ _ _ _ _ _ _) y).trans ?_)
    unfold out; rw [if_neg (by omega), if_neg (by omega)]
    exact congrArg₂ (fun (a b : EReal) => a * b) (dot_proj m c t y r q.val hr hq hC) (read3 m c t (y 1) q hq)

theorem covers : ((cfgM m (ok m)).win 4).Covers := by
  refine Pipeline.Window.covers_of_indexMap_surj ((cfgM m (ok m)).win 4) rfl (by decide : ∀ a : Fin 2, 0 < S2048x512.size a) ?_
  show ∀ β : (a : Fin 2) → Fin ((S16384x29184.size a + S2048x512.size a - 1) / S2048x512.size a), _
  intro β
  have b0 : (β 0).val < 8 := (β 0).isLt
  have b1 : (β 1).val < 57 := (β 1).isLt
  refine ⟨fun | 0 => ⟨(β 0).val, b0⟩ | 1 => ⟨(β 1).val, b1⟩, fun (a : Fin 2) => ?_⟩
  fin_cases a
  · show (BitVec.ofNat 32 (β 0).val).toNat = (β 0).val
    rw [BitVec.toNat_ofNat]; exact Nat.mod_eq_of_lt (by omega)
  · show (BitVec.ofNat 32 (β 1).val).toNat = (β 1).val
    rw [BitVec.toNat_ofNat]; exact Nat.mod_eq_of_lt (by omega)

/-- The array after the launch. -/
theorem array : (dats m (ok m) 0 c).arrAt 4 (cfgM m (ok m)).N
    = fun i : S16384x29184.Idx => out (m ((c.tc : Thread nD τ).loc main_arg0)) (m ((c.tc : Thread nD τ).loc main_arg1)) (m ((c.tc : Thread nD τ).loc main_arg2)) (i 0) (i 1).val := by
  refine (dats m (ok m) 0 c).arrAt_eq_of_covers 4 _ (covers m) fun t _ y => ?_
  have e : ((cfgM m (ok m)).win 4).index t = ![t.val / 57, t.val % 57] := index4 t
  have hb := Pipeline.Window.rect_emb_val_off ((cfgM m (ok m)).win 4) t y
  rw [e] at hb
  refine (congrFun (after0_4 m (ok m) c t) y).trans ?_
  exact point m c t y _ _ (hb (0 : Fin 2)) (hb (1 : Fin 2))

end Cert.Proof.Fused

end
-- ==== Proof.FusedRef.lean ====
/- The fused projection's reference at an index: each of the twelve column runs it lays side by side is the shared
   formula's value there. -/
module

public import proofs.«01_k».proof.Proof.FusedSpec
public import proofs.«01_k».proof.Proof.Gen.ReferenceIdeal.Read
public import Idealize.ShloMosaic.Lib.IdealHost

@[expose] public section

set_option maxRecDepth 16384

noncomputable section

namespace Cert.Proof.Fused

open Idealize.ShloMosaic Idealize.ShloMosaic.TcCoe Idealize.ShloMosaic.ValueIdx
open Cert.ReferenceIdeal Cert.ReferenceIdeal.Gen Cert.ReferenceIdeal.Read

variable (x0 : (⟨S16384x4096, .bf16⟩ : BufTy).Contents (Elt Ideal)) (x1 : (⟨S2x4096x16976, .f32⟩ : BufTy).Contents (Elt Ideal))
  (x2 : (⟨S2x4096x12288, .f32⟩ : BufTy).Contents (Elt Ideal))

/-- The input projection at an index. -/
theorem ref_proj (i : S16384x16976.Idx) : val_main_v3 (F := Ideal) x0 x1 i = proj x0 x1 (i 0) (i 1).val := by
  have hn : (i 1).val < 16976 := (i 1).isLt
  rw [val_main_v3_apply]; unfold proj; rw [dif_pos hn]
  refine Finset.sum_congr rfl fun k _ => ?_
  rw [val_main_v2_apply, val_main_v1_apply]
  refine congrArg₂ (fun (a b : EReal) => a * b) (congrArg x0 ?_) (congrArg x1 ?_)
  · funext d; fin_cases d <;> rfl
  · have hk : k.val < 4096 := k.isLt
    funext d; fin_cases d
    · rfl
    · exact Fin.ext (by show (k.val * 16976 + (i 1).val) / 16976 % 4096 = k.val; omega)
    · exact Fin.ext (by show (k.val * 16976 + (i 1).val) % 16976 = (i 1).val; omega)

/-- The gate projection at an index. -/
theorem ref_gate (i : S16384x12288.Idx) : val_main_v19 (F := Ideal) x0 x2 i = gate x0 x2 (i 0) (i 1).val := by
  have hn : (i 1).val < 12288 := (i 1).isLt
  rw [val_main_v19_apply]; unfold gate; rw [dif_pos hn]
  refine Finset.sum_congr rfl fun k _ => ?_
  rw [val_main_v18_apply, val_main_v17_apply]
  refine congrArg₂ (fun (a b : EReal) => a * b) (congrArg x0 ?_) (congrArg x2 ?_)
  · funext d; fin_cases d <;> rfl
  · have hk : k.val < 4096 := k.isLt
    funext d; fin_cases d
    · rfl
    · exact Fin.ext (by show (k.val * 12288 + (i 1).val) / 12288 % 4096 = k.val; omega)
    · exact Fin.ext (by show (k.val * 12288 + (i 1).val) % 12288 = (i 1).val; omega)

/-- The host's quotient `1 / (1 + exp (-x))` is the logistic. -/
theorem host_logistic (x : EReal) :
    Ideal.div (Ideal.ofBits .f32 0x3F800000#32) (Ideal.ofBits .f32 0x3F800000#32 + Ideal.exp (-x)) = Ideal.logistic x := by
  rw [Ideal.ofBits_one_f32]; rfl

theorem ref_v4 (r : Fin 16384) (q : ℕ) (hq : 0 ≤ q) (hq' : q < 1536) :
    val_main_v4 (F := Ideal) x0 x1 (ix2 r ⟨q - 0, by omega⟩) = out x0 x1 x2 r q := by
  unfold out; rw [if_neg (by omega), if_neg (by omega)]
  rw [val_main_v4_apply, ref_proj]
  unfold scale; rw [if_neg (by omega), if_neg (by omega), mul_one]
  exact congrArg (proj x0 x1 r) (by unfold src; rw [if_pos (by omega)]; show q - 0 = q; omega)

theorem ref_v5 (r : Fin 16384) (q : ℕ) (hq : 1536 ≤ q) (hq' : q < 2048) :
    val_main_v5 (F := Ideal) x0 x1 (ix2 r ⟨q - 1536, by omega⟩) = out x0 x1 x2 r q := by
  unfold out; rw [if_neg (by omega), if_neg (by omega)]
  rw [val_main_v5_apply, ref_proj]
  unfold scale; rw [if_neg (by omega), if_neg (by omega), mul_one]
  exact congrArg (proj x0 x1 r) (by unfold src; show _ = (_ : ℕ); (repeat' split) <;> (try show _ + (_ - _) = _) <;> omega)

theorem ref_v27 (r : Fin 16384) (q : ℕ) (hq : 2048 ≤ q) (hq' : q < 4096) :
    val_main_v27 (F := Ideal) x0 x1 (ix2 r ⟨q - 2048, by omega⟩) = out x0 x1 x2 r q := by
  unfold out; rw [if_neg (by omega), if_neg (by omega)]
  rw [val_main_v27_apply, val_main_v8_apply, ref_proj]
  refine congrArg₂ (fun (a b : EReal) => a * b) (congrArg (proj x0 x1 r) (by unfold src; show _ = (_ : ℕ); (repeat' split) <;> (try show _ + (_ - _) = _) <;> omega)) ?_
  unfold scale; split <;> first | rfl | (split <;> first | rfl | omega) | omega

theorem ref_v29 (r : Fin 16384) (q : ℕ) (hq : 4096 ≤ q) (hq' : q < 6144) :
    val_main_v29 (F := Ideal) x0 x1 (ix2 r ⟨q - 4096, by omega⟩) = out x0 x1 x2 r q := by
  unfold out; rw [if_neg (by omega), if_neg (by omega)]
  rw [val_main_v29_apply, val_main_v12_apply, ref_proj]
  refine congrArg₂ (fun (a b : EReal) => a * b) (congrArg (proj x0 x1 r) (by unfold src; show _ = (_ : ℕ); (repeat' split) <;> (try show _ + (_ - _) = _) <;> omega)) ?_
  unfold scale; split <;> first | rfl | (split <;> first | rfl | omega) | omega

theorem ref_v13 (r : Fin 16384) (q : ℕ) (hq : 6144 ≤ q) (hq' : q < 8192) :
    val_main_v13 (F := Ideal) x0 x1 (ix2 r ⟨q - 6144, by omega⟩) = out x0 x1 x2 r q := by
  unfold out; rw [if_neg (by omega), if_neg (by omega)]
  rw [val_main_v13_apply, ref_proj]
  unfold scale; rw [if_neg (by omega), if_neg (by omega), mul_one]
  exact congrArg (proj x0 x1 r) (by unfold src; show _ = (_ : ℕ); (repeat' split) <;> (try show _ + (_ - _) = _) <;> omega)

theorem ref_v14 (r : Fin 16384) (q : ℕ) (hq : 8192 ≤ q) (hq' : q < 10240) :
    val_main_v14 (F := Ideal) x0 x1 (ix2 r ⟨q - 8192, by omega⟩) = out x0 x1 x2 r q := by
  unfold out; rw [if_neg (by omega), if_neg (by omega)]
  rw [val_main_v14_apply, ref_proj]
  unfold scale; rw [if_neg (by omega), if_neg (by omega), mul_one]
  exact congrArg (proj x0 x1 r) (by unfold src; show _ = (_ : ℕ); (repeat' split) <;> (try show _ + (_ - _) = _) <;> omega)

theorem ref_v30 (r : Fin 16384) (q : ℕ) (hq : 10240 ≤ q) (hq' : q < 12288) :
    val_main_v30 (F := Ideal) x0 x1 (ix2 r ⟨q - 10240, by omega⟩) = out x0 x1 x2 r q := by
  unfold out; rw [if_neg (by omega), if_pos (by omega)]
  have e : val_main_v11 (F := Ideal) x0 x1 (ix2 r ⟨q - 10240, by omega⟩) = proj x0 x1 r (src q) := by
    rw [val_main_v11_apply, ref_proj]
    exact congrArg (proj x0 x1 r) (by unfold src; show _ = (_ : ℕ); (repeat' split) <;> (try show _ + (_ - _) = _) <;> omega)
  rw [← e]
  exact congrArg (val_main_v11 (F := Ideal) x0 x1 (ix2 r ⟨q - 10240, by omega⟩) * ·) (host_logistic _)

theorem ref_v31 (r : Fin 16384) (q : ℕ) (hq : 12288 ≤ q) (hq' : q < 14336) :
    val_main_v31 (F := Ideal) x0 x1 (ix2 r ⟨q - 12288, by omega⟩) = out x0 x1 x2 r q := by
  unfold out; rw [if_neg (by omega), if_pos (by omega)]
  have e : val_main_v7 (F := Ideal) x0 x1 (ix2 r ⟨q - 12288, by omega⟩) = proj x0 x1 r (src q) := by
    rw [val_main_v7_apply, ref_proj]
    exact congrArg (proj x0 x1 r) (by unfold src; show _ = (_ : ℕ); (repeat' split) <;> (try show _ + (_ - _) = _) <;> omega)
  rw [← e]
  exact congrArg (val_main_v7 (F := Ideal) x0 x1 (ix2 r ⟨q - 12288, by omega⟩) * ·) (host_logistic _)

theorem ref_v32 (r : Fin 16384) (q : ℕ) (hq : 14336 ≤ q) (hq' : q < 16384) :
    val_main_v32 (F := Ideal) x0 x1 (ix2 r ⟨q - 14336, by omega⟩) = out x0 x1 x2 r q := by
  unfold out; rw [if_neg (by omega), if_pos (by omega)]
  have e : val_main_v16 (F := Ideal) x0 x1 (ix2 r ⟨q - 14336, by omega⟩) = proj x0 x1 r (src q) := by
    rw [val_main_v16_apply, ref_proj]
    exact congrArg (proj x0 x1 r) (by unfold src; show _ = (_ : ℕ); (repeat' split) <;> (try show _ + (_ - _) = _) <;> omega)
  rw [← e]
  exact congrArg (val_main_v16 (F := Ideal) x0 x1 (ix2 r ⟨q - 14336, by omega⟩) * ·) (host_logistic _)

theorem ref_v25 (r : Fin 16384) (q : ℕ) (hq : 16384 ≤ q) (hq' : q < 28672) :
    val_main_v25 (F := Ideal) x0 x2 (ix2 r ⟨q - 16384, by omega⟩) = out x0 x1 x2 r q := by
  unfold out; rw [if_pos (by omega)]
  have e : val_main_v19 (F := Ideal) x0 x2 (ix2 r ⟨q - 16384, by omega⟩) = gate x0 x2 r (q - 16384) := ref_gate x0 x2 _
  rw [← e]
  exact host_logistic _

theorem ref_v9 (r : Fin 16384) (q : ℕ) (hq : 28672 ≤ q) (hq' : q < 28928) :
    val_main_v9 (F := Ideal) x0 x1 (ix2 r ⟨q - 28672, by omega⟩) = out x0 x1 x2 r q := by
  unfold out; rw [if_neg (by omega), if_neg (by omega)]
  rw [val_main_v9_apply, ref_proj]
  unfold scale; rw [if_neg (by omega), if_neg (by omega), mul_one]
  exact congrArg (proj x0 x1 r) (by unfold src; show _ = (_ : ℕ); (repeat' split) <;> (try show _ + (_ - _) = _) <;> omega)

theorem ref_v10 (r : Fin 16384) (q : ℕ) (hq : 28928 ≤ q) (hq' : q < 29184) :
    val_main_v10 (F := Ideal) x0 x1 (ix2 r ⟨q - 28928, by omega⟩) = out x0 x1 x2 r q := by
  unfold out; rw [if_neg (by omega), if_neg (by omega)]
  rw [val_main_v10_apply, ref_proj]
  unfold scale; rw [if_neg (by omega), if_neg (by omega), mul_one]
  exact congrArg (proj x0 x1 r) (by unfold src; show _ = (_ : ℕ); (repeat' split) <;> (try show _ + (_ - _) = _) <;> omega)

/-- The reference's result at an index. -/
theorem ref_at (r : Fin 16384) (q : Fin 29184) : val_main_v34 (F := Ideal) x0 x1 x2 (ix2 r q) = out x0 x1 x2 r q.val := by
  have hq := q.isLt
  show val_main_v33 (F := Ideal) x0 x1 x2 (ix2 r q) = _
  unfold val_main_v33
  by_cases h0 : q.val < 1536
  · refine (concatenate_apply_piece 1 _ _ (ix2 r q) 0 (of_decide_eq_true rfl) S16384x1536 _ rfl rfl 0 (by simp) (ix2 r ⟨q.val - 0, by omega⟩) (fun b hb => ?_) ?_).trans (ref_v4 x0 x1 x2 r q.val (by omega) (by omega))
    · fin_cases b; · rfl
      exact absurd rfl hb
    · show 0 + (q.val - 0) = q.val; omega
  by_cases h1 : q.val < 2048
  · refine (concatenate_apply_piece 1 _ _ (ix2 r q) 1 (of_decide_eq_true rfl) S16384x512 _ rfl rfl 1536 (by simp) (ix2 r ⟨q.val - 1536, by omega⟩) (fun b hb => ?_) ?_).trans (ref_v5 x0 x1 x2 r q.val (by omega) (by omega))
    · fin_cases b; · rfl
      exact absurd rfl hb
    · show 1536 + (q.val - 1536) = q.val; omega
  by_cases h2 : q.val < 4096
  · refine (concatenate_apply_piece 1 _ _ (ix2 r q) 2 (of_decide_eq_true rfl) S16384x2048 _ rfl rfl 2048 (by simp) (ix2 r ⟨q.val - 2048, by omega⟩) (fun b hb => ?_) ?_).trans (ref_v27 x0 x1 x2 r q.val (by omega) (by omega))
    · fin_cases b; · rfl
      exact absurd rfl hb
    · show 2048 + (q.val - 2048) = q.val; omega
  by_cases h3 : q.val < 6144
  · refine (concatenate_apply_piece 1 _ _ (ix2 r q) 3 (of_decide_eq_true rfl) S16384x2048 _ rfl rfl 4096 (by simp) (ix2 r ⟨q.val - 4096, by omega⟩) (fun b hb => ?_) ?_).trans (ref_v29 x0 x1 x2 r q.val (by omega) (by omega))
    · fin_cases b; · rfl
      exact absurd rfl hb
    · show 4096 + (q.val - 4096) = q.val; omega
  by_cases h4 : q.val < 8192
  · refine (concatenate_apply_piece 1 _ _ (ix2 r q) 4 (of_decide_eq_true rfl) S16384x2048 _ rfl rfl 6144 (by simp) (ix2 r ⟨q.val - 6144, by omega⟩) (fun b hb => ?_) ?_).trans (ref_v13 x0 x1 x2 r q.val (by omega) (by omega))
    · fin_cases b; · rfl
      exact absurd rfl hb
    · show 6144 + (q.val - 6144) = q.val; omega
  by_cases h5 : q.val < 10240
  · refine (concatenate_apply_piece 1 _ _ (ix2 r q) 5 (of_decide_eq_true rfl) S16384x2048 _ rfl rfl 8192 (by simp) (ix2 r ⟨q.val - 8192, by omega⟩) (fun b hb => ?_) ?_).trans (ref_v14 x0 x1 x2 r q.val (by omega) (by omega))
    · fin_cases b; · rfl
      exact absurd rfl hb
    · show 8192 + (q.val - 8192) = q.val; omega
  by_cases h6 : q.val < 12288
  · refine (concatenate_apply_piece 1 _ _ (ix2 r q) 6 (of_decide_eq_true rfl) S16384x2048 _ rfl rfl 10240 (by simp) (ix2 r ⟨q.val - 10240, by omega⟩) (fun b hb => ?_) ?_).trans (ref_v30 x0 x1 x2 r q.val (by omega) (by omega))
    · fin_cases b; · rfl
      exact absurd rfl hb
    · show 10240 + (q.val - 10240) = q.val; omega
  by_cases h7 : q.val < 14336
  · refine (concatenate_apply_piece 1 _ _ (ix2 r q) 7 (of_decide_eq_true rfl) S16384x2048 _ rfl rfl 12288 (by simp) (ix2 r ⟨q.val - 12288, by omega⟩) (fun b hb => ?_) ?_).trans (ref_v31 x0 x1 x2 r q.val (by omega) (by omega))
    · fin_cases b; · rfl
      exact absurd rfl hb
    · show 12288 + (q.val - 12288) = q.val; omega
  by_cases h8 : q.val < 16384
  · refine (concatenate_apply_piece 1 _ _ (ix2 r q) 8 (of_decide_eq_true rfl) S16384x2048 _ rfl rfl 14336 (by simp) (ix2 r ⟨q.val - 14336, by omega⟩) (fun b hb => ?_) ?_).trans (ref_v32 x0 x1 x2 r q.val (by omega) (by omega))
    · fin_cases b; · rfl
      exact absurd rfl hb
    · show 14336 + (q.val - 14336) = q.val; omega
  by_cases h9 : q.val < 28672
  · refine (concatenate_apply_piece 1 _ _ (ix2 r q) 9 (of_decide_eq_true rfl) S16384x12288 _ rfl rfl 16384 (by simp) (ix2 r ⟨q.val - 16384, by omega⟩) (fun b hb => ?_) ?_).trans (ref_v25 x0 x1 x2 r q.val (by omega) (by omega))
    · fin_cases b; · rfl
      exact absurd rfl hb
    · show 16384 + (q.val - 16384) = q.val; omega
  by_cases h10 : q.val < 28928
  · refine (concatenate_apply_piece 1 _ _ (ix2 r q) 10 (of_decide_eq_true rfl) S16384x256 _ rfl rfl 28672 (by simp) (ix2 r ⟨q.val - 28672, by omega⟩) (fun b hb => ?_) ?_).trans (ref_v9 x0 x1 x2 r q.val (by omega) (by omega))
    · fin_cases b; · rfl
      exact absurd rfl hb
    · show 28672 + (q.val - 28672) = q.val; omega
  have h11 : 28928 ≤ q.val := by omega
  refine (concatenate_apply_piece 1 _ _ (ix2 r q) 11 (of_decide_eq_true rfl) S16384x256 _ rfl rfl 28928 (by simp) (ix2 r ⟨q.val - 28928, by omega⟩) (fun b hb => ?_) ?_).trans (ref_v10 x0 x1 x2 r q.val (by omega) (by omega))
  · fin_cases b; · rfl
    exact absurd rfl hb
  · show 28928 + (q.val - 28928) = q.val; omega

end Cert.Proof.Fused

end
-- ==== Proof.FusedClaims.lean ====
/- The fused projection's claims: the frames of the kernel and its idealization (one run, generic in the float values,
   read twice), the frame of its reference, and the equality of the two results over the reals. -/
module

public import proofs.«01_k».proof.Defs
public import proofs.«01_k».proof.Proof.Gen.Kernel
public import proofs.«01_k».proof.Proof.FusedArray
public import proofs.«01_k».proof.Proof.FusedRef
public import proofs.«01_k».proof.Proof.Gen.ReferenceIdeal.Run

@[expose] public section

noncomputable section

namespace Cert.Proof.Fused

open Idealize.ShloMosaic Idealize.ShloMosaic.TcCoe Idealize.SL.Sem

theorem frame_ideal : Cert.quiescent_KernelIdeal := fun m ρ _ => Cert.KernelIdeal.Gen.frame m ρ (ok m)

/-- The body called at a point is the same in the kernel and in its idealization … -/
theorem bodies_eq : Cert.Kernel.defs₀ (F := Bits) = Cert.KernelIdeal.defs₀ (F := Bits) := by
  refine congrArg Defs.onTc (funext fun l => funext fun a => ?_)
  match l, a with
  | 0, (t, s) => rfl
  | ⟨n + 1, h⟩, _ => exact absurd h (by omega)

set_option maxRecDepth 100000 in
set_option maxHeartbeats 1000000 in
/-- … and so is the pipeline around it. -/
theorem defs_eq : Cert.Kernel.defs (F := Bits) = Cert.KernelIdeal.defs (F := Bits) := by
  show Pipeline.defs Cert.Kernel.pcfgs Cert.Kernel.defs₀ = _
  rw [bodies_eq]
  rfl

set_option maxRecDepth 100000 in
set_option maxHeartbeats 1000000 in
/-- The kernel's frame is its idealization's run, read at the bits. -/
theorem frame_bits : Cert.quiescent_Kernel := fun m ρ _ => by
  rw [defs_eq]; exact Cert.KernelIdeal.Gen.frame (F := Bits) m ρ (ok m)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Kernel

open Cert.KernelIdeal Cert.KernelIdeal.Gen

/-- The kernel's run: its result the shared formula at every index, its arguments unchanged. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11)
        = (fun i : S16384x29184.Idx => out (m ((c.tc : Thread nD τ).loc main_arg0)) (m ((c.tc : Thread nD τ).loc main_arg1)) (m ((c.tc : Thread nD τ).loc main_arg2)) (i 0) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 4).trans (array m c), h.2 c⟩)
    (θ_run_and (run_main m ρ (ok m)) (unchanged m ρ (ok m)))

end Kernel

/-- The two results are the same formula of the same arguments. -/
theorem algebraic : Cert.algebraic_KernelIdeal_ReferenceIdeal := fun m ρ m' ρ' _ hm => by
  refine ⟨_, run_kernel m ρ, (θ_run _ _ _).mono (fun r h c => ⟨(h c).1.trans ?_, (h c).2⟩) (Cert.ReferenceIdeal.Value.run (F := Ideal) m' ρ')⟩
  refine (Cert.ReferenceIdeal.Read.val_main_v34_eq m' c).trans (funext fun i => ?_)
  rw [(hm c).1, (hm c).2.1, (hm c).2.2]
  refine Eq.trans ?_ (ref_at _ _ _ (i 0) (i 1))
  exact congrArg _ (ValueIdx.eq_ix2 i)

end Cert.Proof.Fused

end
-- ==== Proof.OutBody.lean ====
/- The output projection's body at one grid point: what it leaves in its output block and in its two scratch buffers,
   the stored products and the rows' running sums of squares. -/
module

public import proofs.«01_k».proof.Proof.Gen.Kernel2Ideal.Frame
public import proofs.«01_k».proof.Proof.Gen.Kernel2Ideal.Points
public import proofs.«01_k».proof.Proof.Gen.Kernel2Ideal.Skeleton

@[expose] public section

set_option maxRecDepth 16384

noncomputable section

namespace Cert.Proof.OutProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch is cleared at this point. -/
abbrev clears (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-! ## Where the scratch is read and stored: the sums' slot is the sweep's parity -/

theorem off1_eq : ∀ i : grid0.Coords, k0_off1 i = ![1 - (i 0).val % 2, 0, 0] := by decide +kernel
instance closed_off1 (i : grid0.Coords) : ClosedOff (k0_off1 i) := ⟨_, off1_eq i⟩
theorem off3_eq : ∀ i : grid0.Coords, k0_off3 i = ![(i 0).val % 2, 0, 0] := by decide +kernel
instance closed_off3 (i : grid0.Coords) : ClosedOff (k0_off3 i) := ⟨_, off3_eq i⟩
theorem off5_eq : ∀ i : grid0.Coords, k0_off5 i = ![(i 0).val % 2, 0, 0] := by decide +kernel
instance closed_off5 (i : grid0.Coords) : ClosedOff (k0_off5 i) := ⟨_, off5_eq i⟩
theorem off7_eq : ∀ i : grid0.Coords, k0_off7 i = ![(i 0).val % 2, 256, 0] := by decide +kernel
instance closed_off7 (i : grid0.Coords) : ClosedOff (k0_off7 i) := ⟨_, off7_eq i⟩
theorem off9_eq : ∀ i : grid0.Coords, k0_off9 i = ![(i 0).val % 2, 512, 0] := by decide +kernel
instance closed_off9 (i : grid0.Coords) : ClosedOff (k0_off9 i) := ⟨_, off9_eq i⟩
theorem off11_eq : ∀ i : grid0.Coords, k0_off11 i = ![(i 0).val % 2, 768, 0] := by decide +kernel
instance closed_off11 (i : grid0.Coords) : ClosedOff (k0_off11 i) := ⟨_, off11_eq i⟩
theorem off12_eq : ∀ i : grid0.Coords, k0_off12 i = ![1 - (i 0).val % 2, 0, 0] := by decide +kernel
instance closed_off12 (i : grid0.Coords) : ClosedOff (k0_off12 i) := ⟨_, off12_eq i⟩

/-! ## The body, run -/

set_option maxHeartbeats 1000000 in
/-- The first point, which clears the scratch first: from the blocks, what the
    body stores into the output block and over the scratch, and that it runs to there. -/
noncomputable def runFirst (c : Dev nD) (i : grid0.Coords)
    (arg2 : Memref sig .tc .vmem S1024x4096 .bf16) (harg2 : arg2.IsWhole) (arg3 : Memref sig .tc .vmem S1x4096x512 .bf16) (harg3 : arg3.IsWhole)
    (arg4 : Memref sig .tc .vmem S1024x512 .f32) (harg4 : arg4.IsWhole) (arg5 : Memref sig .tc .vmem S1x512 .f32) (harg5 : arg5.IsWhole)
    (arg6 : Memref sig .tc .vmem S1024x512 .f32) (harg6 : arg6.IsWhole) (arg7 : Memref sig .tc .vmem S8x1024x512 .f32) (harg7 : arg7.IsWhole)
    (arg8 : Memref sig .tc .vmem S2x1024x1 .f32) (harg8 : arg8.IsWhole)
    (h1 : clears i) (h2 : k0_cond2 i = 1#1) (h3 : ¬ k0_cond3 i = 1#1)
    (x0 : Vec F S1024x4096 .bf16) (x1 : Vec F S1x4096x512 .bf16) (x2 : Vec F S1024x512 .f32) (x3 : Vec F S1x512 .f32) :
    { L : List (View.Piece (Elt F) S1024x512 .f32) × List (View.Piece (Elt F) S8x1024x512 .f32) × List (View.Piece (Elt F) S2x1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
              ∗ owns (c : Thread nD τ) arg5 fullShare x3
              ∗ (∃ f, arg6.view.loc (c : Thread nD τ) ↦[arg6.view.set]{fullShare} arg6.view.writes (Elt F) f L.1)
              ∗ (∃ f, arg7.view.loc (c : Thread nD τ) ↦[arg7.view.set]{fullShare} arg7.view.writes (Elt F) f L.2.1)
              ∗ (∃ f, arg8.view.loc (c : Thread nD τ) ↦[arg8.view.set]{fullShare} arg8.view.writes (Elt F) f L.2.2)) -∗ K ⟨⟩))
          ⊢ wp frame (wpE (defs₀ (F := F)) Variants.none c none) E (cc0_out_proj i arg2 harg2 arg3 harg3 arg4 harg4 arg5 harg5 arg6 harg6 arg7 harg7 arg8 harg8) K } := by
  refine ⟨⟨?_, ?_, ?_⟩, fun E K => ?run⟩
  case run =>
    simp only [cc0_out_proj_eq_skeleton]; unfold cc0_out_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H7]; · iexists _; iexact H7
    iexists _; iexact H8

set_option maxHeartbeats 1000000 in
/-- A point that neither clears the scratch nor is in the last sweep: from the blocks and the scratch's contents, what the
    body stores into the output block and over the scratch, and that it runs to there. -/
noncomputable def runMid (c : Dev nD) (i : grid0.Coords)
    (arg2 : Memref sig .tc .vmem S1024x4096 .bf16) (harg2 : arg2.IsWhole) (arg3 : Memref sig .tc .vmem S1x4096x512 .bf16) (harg3 : arg3.IsWhole)
    (arg4 : Memref sig .tc .vmem S1024x512 .f32) (harg4 : arg4.IsWhole) (arg5 : Memref sig .tc .vmem S1x512 .f32) (harg5 : arg5.IsWhole)
    (arg6 : Memref sig .tc .vmem S1024x512 .f32) (harg6 : arg6.IsWhole) (arg7 : Memref sig .tc .vmem S8x1024x512 .f32) (harg7 : arg7.IsWhole)
    (arg8 : Memref sig .tc .vmem S2x1024x1 .f32) (harg8 : arg8.IsWhole)
    (h1 : ¬ clears i) (h2 : k0_cond2 i = 1#1) (h3 : ¬ k0_cond3 i = 1#1)
    (x0 : Vec F S1024x4096 .bf16) (x1 : Vec F S1x4096x512 .bf16) (x2 : Vec F S1024x512 .f32) (x3 : Vec F S1x512 .f32)
    (a7 : Vec F S8x1024x512 .f32) (a8 : Vec F S2x1024x1 .f32) :
    { L : List (View.Piece (Elt F) S1024x512 .f32) × List (View.Piece (Elt F) S8x1024x512 .f32) × List (View.Piece (Elt F) S2x1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ owns (c : Thread nD τ) arg7 fullShare a7 ∗ owns (c : Thread nD τ) arg8 fullShare a8
            ∗ (iprop(owns (c : Thread nD τ) arg2 fullShare x0 ∗ owns (c : Thread nD τ) arg3 fullShare x1 ∗ owns (c : Thread nD τ) arg4 fullShare x2
              ∗ owns (c : Thread nD τ) arg5 fullShare x3
              ∗ (∃ f, arg6.view.loc (c : Thread nD τ) ↦[arg6.view.set]{fullShare} arg6.view.writes (Elt F) f L.1)
              ∗ (arg7.view.loc (c : Thread nD τ) ↦[arg7.view.set]{fullShare} arg7.view.writes (Elt F) (harg7.unread a7) L.2.1)
              ∗ (arg8.view.loc (c : Thread nD τ) ↦[arg8.view.set]{fullShare} arg8.view.writes (Elt F) (harg8.unread a8) L.2.2)) -∗ K ⟨⟩))
          ⊢ wp frame (wpE (defs₀ (F := F)) Variants.none c none) E (cc0_out_proj i arg2 harg2 arg3 harg3 arg4 harg4 arg5 harg5 arg6 harg6 arg7 harg7 arg8 harg8) K } := by
  refine ⟨⟨?_, ?_, ?_⟩, fun E K => ?run⟩
  case run =>
    simp only [cc0_out_proj_eq_skeleton]; unfold cc0_out_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3
    obtain rfl := harg7.eq_unread hf7; obtain rfl := harg8.eq_unread hf8
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H7]; · iexact H7
    iexact H8

set_option maxHeartbeats 1000000 in
/-- A point of the last sweep: from the blocks and the scratch's contents, what the
    body stores into the output block and over the scratch, and that it runs to there. -/
noncomputable def runLast (c : Dev nD) (i : grid0.Coords)
    (arg2 : Memref sig .tc .vmem S1024x4096 .bf16) (harg2 : arg2.IsWhole) (arg3 : Memref sig .tc .vmem S1x4096x512 .bf16) (harg3 : arg3.IsWhole)
    (arg4 : Memref sig .tc .vmem S1024x512 .f32) (harg4 : arg4.IsWhole) (arg5 : Memref sig .tc .vmem S1x512 .f32) (harg5 : arg5.IsWhole)
    (arg6 : Memref sig .tc .vmem S1024x512 .f32) (harg6 : arg6.IsWhole) (arg7 : Memref sig .tc .vmem S8x1024x512 .f32) (harg7 : arg7.IsWhole)
    (arg8 : Memref sig .tc .vmem S2x1024x1 .f32) (harg8 : arg8.IsWhole)
    (h1 : ¬ clears i) (h2 : ¬ k0_cond2 i = 1#1) (h3 : k0_cond3 i = 1#1)
    (x0 : Vec F S1024x4096 .bf16) (x1 : Vec F S1x4096x512 .bf16) (x2 : Vec F S1024x512 .f32) (x3 : Vec F S1x512 .f32)
    (a7 : Vec F S8x1024x512 .f32) (a8 : Vec F S2x1024x1 .f32) :
    { L : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ owns (c : Thread nD τ) arg7 fullShare a7 ∗ owns (c : Thread nD τ) arg8 fullShare a8
            ∗ (iprop(owns (c : Thread nD τ) arg2 fullShare x0 ∗ owns (c : Thread nD τ) arg3 fullShare x1 ∗ owns (c : Thread nD τ) arg4 fullShare x2
              ∗ owns (c : Thread nD τ) arg5 fullShare x3
              ∗ (∃ f, arg6.view.loc (c : Thread nD τ) ↦[arg6.view.set]{fullShare} arg6.view.writes (Elt F) f L)
              ∗ owns (c : Thread nD τ) arg7 fullShare a7
              ∗ owns (c : Thread nD τ) arg8 fullShare a8) -∗ K ⟨⟩))
          ⊢ wp frame (wpE (defs₀ (F := F)) Variants.none c none) E (cc0_out_proj i arg2 harg2 arg3 harg3 arg4 harg4 arg5 harg5 arg6 harg6 arg7 harg7 arg8 harg8) K } := by
  refine ⟨?_, fun E K => ?run⟩
  case run =>
    simp only [cc0_out_proj_eq_skeleton]; unfold cc0_out_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3
    obtain rfl := harg7.eq_unread hf7; obtain rfl := harg8.eq_unread hf8
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H7]
    · iexists _; isplitr; · ipureintro; exact harg7.read_unread _
      iexact H7
    iexists _; isplitr; · ipureintro; exact harg8.read_unread _
    iexact H8

end Cert.Proof.OutProj

end
-- ==== Proof.OutStep.lean ====
/- One grid point of the output projection as a step: the stored products and the sums of squares after the point, and
   the output block, from those before it and the point's blocks. -/
module

public import proofs.«01_k».proof.Proof.OutBody
public import Idealize.ShloMosaic.Lib.VecWindow

@[expose] public section

set_option maxRecDepth 16384

noncomputable section

namespace Cert.Proof.OutProj

open Cert.Kernel2Ideal Cert.Kernel2Ideal.Gen
open Idealize.ShloMosaic Idealize.ShloMosaic.TcCoe Idealize.ShloMosaic.Tactic
open Idealize.SL Idealize.SL.Sem

variable {F : FTy → Type} [FloatOps F]

theorem inb1 (i : grid0.Coords) : ∀ a, (k0_off1 i) a + S1x1024x1.size a ≤ S2x1024x1.size a :=
  (by decide +kernel : ∀ i : grid0.Coords, ∀ a, (k0_off1 i) a + S1x1024x1.size a ≤ S2x1024x1.size a) i
theorem inb2 (i : grid0.Coords) : ∀ a, (k0_off2 i) a + S1x1024x512.size a ≤ S8x1024x512.size a :=
  (by decide +kernel : ∀ i : grid0.Coords, ∀ a, (k0_off2 i) a + S1x1024x512.size a ≤ S8x1024x512.size a) i
theorem inb3 (i : grid0.Coords) : ∀ a, (k0_off3 i) a + S1x1024x1.size a ≤ S2x1024x1.size a :=
  (by decide +kernel : ∀ i : grid0.Coords, ∀ a, (k0_off3 i) a + S1x1024x1.size a ≤ S2x1024x1.size a) i

/-- The whole of a block, as a rectangle. -/
abbrev rW : Rect S1x4096x512 := Rect.unit (s := S1x4096x512) ![0, 0, 0] S1x4096x512.size inb_S1x4096x512_S1x4096x512_0_0_0
abbrev rX : Rect S1024x512 := Rect.unit (s := S1024x512) ![0, 0] S1024x512.size inb_S1024x512_S1024x512_0_0
abbrev rG : Rect S1x512 := Rect.unit (s := S1x512) ![0, 0] S1x512.size inb_S1x512_S1x512_0_0
/-- The four chunks of 256 rows. -/
abbrev rY0 : Rect S1024x4096 := Rect.unit (s := S1024x4096) ![0, 0] S256x4096.size inb_S1024x4096_S256x4096_0_0
abbrev rY1 : Rect S1024x4096 := Rect.unit (s := S1024x4096) ![256, 0] S256x4096.size inb_S1024x4096_S256x4096_256_0
abbrev rY2 : Rect S1024x4096 := Rect.unit (s := S1024x4096) ![512, 0] S256x4096.size inb_S1024x4096_S256x4096_512_0
abbrev rY3 : Rect S1024x4096 := Rect.unit (s := S1024x4096) ![768, 0] S256x4096.size inb_S1024x4096_S256x4096_768_0

/-- The rows' sums so far, as the point starts from: zero at a sweep's first column. -/
def sums (i : grid0.Coords) (a8 : Vec F S2x1024x1 .f32) : FVec F S1024x1 .f32 :=
  k0_pay9 (BitVec.ofNat 32 (i 1).val) (View.ld a8 (Rect.unit (k0_off3 i) S1x1024x1.size (inb3 i)))

/-- The stored products after the point: the point's column has its four chunks of rows stored. -/
def accNext (i : grid0.Coords) (x0 : Vec F S1024x4096 .bf16) (x1 : Vec F S1x4096x512 .bf16) (a7 : Vec F S8x1024x512 .f32) : Vec F S8x1024x512 .f32 :=
  VecWindow.put (VecWindow.put (VecWindow.put (VecWindow.put a7
    (k0_off4 i) S1x256x512.size (k0_pay11 (View.ld x0 rY0) (View.ld x1 rW)))
    (k0_off6 i) S1x256x512.size (k0_pay14 (View.ld x0 rY1) (View.ld x1 rW)))
    (k0_off8 i) S1x256x512.size (k0_pay17 (View.ld x0 rY2) (View.ld x1 rW)))
    (k0_off10 i) S1x256x512.size (k0_pay5 (View.ld x0 rY3) (View.ld x1 rW))

/-- The sums of squares after the point: the sweep's slot has its four chunks of rows stored. -/
def ssqNext (i : grid0.Coords) (x0 : Vec F S1024x4096 .bf16) (x1 : Vec F S1x4096x512 .bf16) (a8 : Vec F S2x1024x1 .f32) : Vec F S2x1024x1 .f32 :=
  VecWindow.put (VecWindow.put (VecWindow.put (VecWindow.put a8
    (k0_off5 i) S1x256x1.size (k0_pay12 (sums i a8) (k0_pay10 (View.ld x0 rY0) (View.ld x1 rW))))
    (k0_off7 i) S1x256x1.size (k0_pay15 (sums i a8) (View.ld x0 rY1) (View.ld x1 rW)))
    (k0_off9 i) S1x256x1.size (k0_pay3 (sums i a8) (k0_pay16 (View.ld x0 rY2) (View.ld x1 rW))))
    (k0_off11 i) S1x256x1.size (k0_pay6 (sums i a8) (View.ld x0 rY3) (View.ld x1 rW))

/-- The output block of the point: the residual plus the stored product, normalised by the previous sweep's sums. -/
def outBlk (i : grid0.Coords) (x2 : Vec F S1024x512 .f32) (x3 : Vec F S1x512 .f32) (a7 : Vec F S8x1024x512 .f32) (a8 : Vec F S2x1024x1 .f32) :
    Vec F S1024x512 .f32 :=
  k0_pay8 (View.ld a8 (Rect.unit (k0_off1 i) S1x1024x1.size (inb1 i))) (View.ld x2 rX)
    (View.ld a7 (Rect.unit (k0_off2 i) S1x1024x512.size (inb2 i))) (View.ld x3 rG)

/-- Where the last sweep reads is where the others do. -/
theorem off12_off1 (i : grid0.Coords) : k0_off12 i = k0_off1 i := (off12_eq i).trans (off1_eq i).symm
theorem off13_off2 (i : grid0.Coords) : k0_off13 i = k0_off2 i := (k0_off13_eq i).trans (k0_off2_eq i).symm

section
variable (c : Dev nD) (i : grid0.Coords)
    (arg2 : Memref sig .tc .vmem S1024x4096 .bf16) (harg2 : arg2.IsWhole) (arg3 : Memref sig .tc .vmem S1x4096x512 .bf16) (harg3 : arg3.IsWhole)
    (arg4 : Memref sig .tc .vmem S1024x512 .f32) (harg4 : arg4.IsWhole) (arg5 : Memref sig .tc .vmem S1x512 .f32) (harg5 : arg5.IsWhole)
    (arg6 : Memref sig .tc .vmem S1024x512 .f32) (harg6 : arg6.IsWhole) (arg7 : Memref sig .tc .vmem S8x1024x512 .f32) (harg7 : arg7.IsWhole)
    (arg8 : Memref sig .tc .vmem S2x1024x1 .f32) (harg8 : arg8.IsWhole)
    (x0 : Vec F S1024x4096 .bf16) (x1 : Vec F S1x4096x512 .bf16) (x2 : Vec F S1024x512 .f32) (x3 : Vec F S1x512 .f32)
    (a7 : Vec F S8x1024x512 .f32) (a8 : Vec F S2x1024x1 .f32)

section
variable (h1 : ¬ clears i) (h2 : k0_cond2 i = 1#1) (h3 : ¬ k0_cond3 i = 1#1)

theorem mid_acc : arg7.view.read (Elt F) (arg7.view.writes (Elt F) (harg7.unread a7)
      (runMid c i arg2 harg2 arg3 harg3 arg4 harg4 arg5 harg5 arg6 harg6 arg7 harg7 arg8 harg8 h1 h2 h3 x0 x1 x2 x3 a7 a8).1.2.1) = accNext i x0 x1 a7 := by
  unfold runMid
  dsimp only
  rw [View.read_writes_cons_put _ _ _ _ _ rfl, View.read_writes_cons_put _ _ _ _ _ rfl, View.read_writes_cons_put _ _ _ _ _ rfl,
    View.read_writes_cons_put _ _ _ _ _ rfl, View.writes_nil, harg7.read_unread]
  simp only [View.readAt_eq_ld, harg2.read_unread, harg3.read_unread]
  rfl

theorem mid_ssq : arg8.view.read (Elt F) (arg8.view.writes (Elt F) (harg8.unread a8)
      (runMid c i arg2 harg2 arg3 harg3 arg4 harg4 arg5 harg5 arg6 harg6 arg7 harg7 arg8 harg8 h1 h2 h3 x0 x1 x2 x3 a7 a8).1.2.2) = ssqNext i x0 x1 a8 := by
  unfold runMid
  dsimp only
  rw [View.read_writes_cons_put _ _ _ _ _ rfl, View.read_writes_cons_put _ _ _ _ _ rfl, View.read_writes_cons_put _ _ _ _ _ rfl,
    View.read_writes_cons_put _ _ _ _ _ rfl, View.writes_nil, harg8.read_unread]
  unfold runMid.sl.r runMid.sl.r_1 runMid.sl.r_2
  simp only [View.readAt_eq_ld, harg2.read_unread, harg3.read_unread, harg8.read_unread]
  rfl

theorem mid_out (f) : arg6.view.read (Elt F) (arg6.view.writes (Elt F) f
      (runMid c i arg2 harg2 arg3 harg3 arg4 harg4 arg5 harg5 arg6 harg6 arg7 harg7 arg8 harg8 h1 h2 h3 x0 x1 x2 x3 a7 a8).1.1) = outBlk i x2 x3 a7 a8 := by
  unfold runMid
  dsimp only
  refine (View.read_writes_full _ _ _ _ _).trans ?_
  simp only [View.readAt_eq_ld, harg4.read_unread, harg5.read_unread, harg7.read_unread, harg8.read_unread]
  rfl
end

section
variable (h1 : clears i) (h2 : k0_cond2 i = 1#1) (h3 : ¬ k0_cond3 i = 1#1)

theorem first_acc (f) : arg7.view.read (Elt F) (arg7.view.writes (Elt F) f
      (runFirst c i arg2 harg2 arg3 harg3 arg4 harg4 arg5 harg5 arg6 harg6 arg7 harg7 arg8 harg8 h1 h2 h3 x0 x1 x2 x3).1.2.1) = accNext i x0 x1 k0_pay1 := by
  unfold runFirst
  dsimp only
  rw [View.read_writes_cons_put _ _ _ _ _ rfl, View.read_writes_cons_put _ _ _ _ _ rfl, View.read_writes_cons_put _ _ _ _ _ rfl,
    View.read_writes_cons_put _ _ _ _ _ rfl]
  unfold runFirst.sl.H7_1
  rw [View.read_writes_full]
  simp only [View.readAt_eq_ld, harg2.read_unread, harg3.read_unread]
  rfl

theorem first_ssq (f) : arg8.view.read (Elt F) (arg8.view.writes (Elt F) f
      (runFirst c i arg2 harg2 arg3 harg3 arg4 harg4 arg5 harg5 arg6 harg6 arg7 harg7 arg8 harg8 h1 h2 h3 x0 x1 x2 x3).1.2.2) = ssqNext i x0 x1 k0_pay2 := by
  unfold runFirst
  dsimp only
  rw [View.read_writes_cons_put _ _ _ _ _ rfl, View.read_writes_cons_put _ _ _ _ _ rfl, View.read_writes_cons_put _ _ _ _ _ rfl,
    View.read_writes_cons_put _ _ _ _ _ rfl]
  unfold runFirst.sl.r runFirst.sl.r_1 runFirst.sl.r_2 runFirst.sl.H8_1
  have hz : ∀ g, arg8.view.read (Elt F) (arg8.view.writes (Elt F) g [⟨Rect.unit (s := S2x1024x1) ![0, 0, 0] ![2, 1024, 1] inb_S2x1024x1_S2x1024x1_0_0_0, k0_pay2⟩])
      = k0_pay2 := fun g => View.read_writes_full _ _ _ _ _
  simp only [View.readAt_eq_ld, harg2.read_unread, harg3.read_unread, hz]
  rfl

theorem first_out (f) : arg6.view.read (Elt F) (arg6.view.writes (Elt F) f
      (runFirst c i arg2 harg2 arg3 harg3 arg4 harg4 arg5 harg5 arg6 harg6 arg7 harg7 arg8 harg8 h1 h2 h3 x0 x1 x2 x3).1.1) = outBlk i x2 x3 k0_pay1 k0_pay2 := by
  unfold runFirst
  dsimp only
  refine (View.read_writes_full _ _ _ _ _).trans ?_
  unfold runFirst.sl.H7_1 runFirst.sl.H8_1
  simp only [View.readAt_eq_ld, harg4.read_unread, harg5.read_unread]
  rw [View.read_writes_full, View.read_writes_full]
  rfl
end

section
variable (h1 : ¬ clears i) (h2 : ¬ k0_cond2 i = 1#1) (h3 : k0_cond3 i = 1#1)

theorem last_out (f) : arg6.view.read (Elt F) (arg6.view.writes (Elt F) f
      (runLast c i arg2 harg2 arg3 harg3 arg4 harg4 arg5 harg5 arg6 harg6 arg7 harg7 arg8 harg8 h1 h2 h3 x0 x1 x2 x3 a7 a8).1) = outBlk i x2 x3 a7 a8 := by
  unfold runLast
  dsimp only
  refine (View.read_writes_full _ _ _ _ _).trans ?_
  unfold runLast.sl.v23 runLast.sl.v32
  simp only [View.readAt_eq_ld, harg4.read_unread, harg5.read_unread, harg7.read_unread, harg8.read_unread]
  unfold outBlk
  have e8 : ∀ (o o' : Fin 3 → ℕ) (h) (h'), o = o' → View.ld a8 (Rect.unit o S1x1024x1.size h) = View.ld a8 (Rect.unit o' S1x1024x1.size h') := by
    intro o o' h h' e; subst e; rfl
  have e7 : ∀ (o o' : Fin 3 → ℕ) (h) (h'), o = o' → View.ld a7 (Rect.unit o S1x1024x512.size h) = View.ld a7 (Rect.unit o' S1x1024x512.size h') := by
    intro o o' h h' e; subst e; rfl
  rw [← e8 (k0_off12 i) (k0_off1 i) (k0_off12_inb i h3) (inb1 i) (off12_off1 i), ← e7 (k0_off13 i) (k0_off2 i) (k0_off13_inb i h3) (inb2 i) (off13_off2 i)]
  rfl
end

end

end Cert.Proof.OutProj

end
-- ==== Proof.OutFrame.lean ====
/- The output projection's run: the two scratch buffers carried from point to point, every point's triple, the launch, and
   what it leaves. -/
module

public import proofs.«01_k».proof.Proof.OutStep
public import Idealize.ShloMosaic.Lib.Claim
public import Idealize.ShloMosaic.Lib.Pipeline.Value

@[expose] public section

set_option maxRecDepth 16384

noncomputable section

namespace Cert.Proof.OutProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## One point, in its three cases -/

section
variable (c : Dev nD) (i : grid0.Coords) (E : Set ℕ)
    (arg2 : Memref sig .tc .vmem S1024x4096 .bf16) (harg2 : arg2.IsWhole) (arg3 : Memref sig .tc .vmem S1x4096x512 .bf16) (harg3 : arg3.IsWhole)
    (arg4 : Memref sig .tc .vmem S1024x512 .f32) (harg4 : arg4.IsWhole) (arg5 : Memref sig .tc .vmem S1x512 .f32) (harg5 : arg5.IsWhole)
    (arg6 : Memref sig .tc .vmem S1024x512 .f32) (harg6 : arg6.IsWhole) (arg7 : Memref sig .tc .vmem S8x1024x512 .f32) (harg7 : arg7.IsWhole)
    (arg8 : Memref sig .tc .vmem S2x1024x1 .f32) (harg8 : arg8.IsWhole)
    (x0 : Vec F S1024x4096 .bf16) (x1 : Vec F S1x4096x512 .bf16) (x2 : Vec F S1024x512 .f32) (x3 : Vec F S1x512 .f32)
    (a7 : Vec F S8x1024x512 .f32) (a8 : Vec F S2x1024x1 .f32)

/-- What a point holds at its end: its blocks as they were, the output block, and the two scratch buffers. -/
abbrev ends (o : Vec F S1024x512 .f32) (b7 : Vec F S8x1024x512 .f32) (b8 : Vec F S2x1024x1 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare o
    ∗ owns (c : Thread nD τ) arg7 fullShare b7 ∗ owns (c : Thread nD τ) arg8 fullShare b8)

/-- A point that clears nothing, before the last sweep. -/
theorem sound_mid (h1 : ¬ clears i) (h2 : k0_cond2 i = 1#1) (h3 : ¬ k0_cond3 i = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare a7 ∗ owns (c : Thread nD τ) arg8 fullShare a8
        ∗ (ends c arg2 arg3 arg4 arg5 arg6 arg7 arg8 x0 x1 x2 x3 (outBlk i x2 x3 a7 a8) (accNext i x0 x1 a7) (ssqNext i x0 x1 a8) -∗ K ⟨⟩))
      ⊢ wp frame (wpE (defs₀ (F := F)) Variants.none c none) E (cc0_out_proj i arg2 harg2 arg3 harg3 arg4 harg4 arg5 harg5 arg6 harg6 arg7 harg7 arg8 harg8) K := by
  refine .trans ?_ ((runMid c i arg2 harg2 arg3 harg3 arg4 harg4 arg5 harg5 arg6 harg6 arg7 harg7 arg8 harg8 h1 h2 h3 x0 x1 x2 x3 a7 a8).2 E K)
  iintro ⟨H0, H1, H2, H3, H4, H7, H8, Hk⟩
  isplitl [H0]; · iexact H0
  isplitl [H1]; · iexact H1
  isplitl [H2]; · iexact H2
  isplitl [H3]; · iexact H3
  isplitl [H4]; · iexact H4
  isplitl [H7]; · iexact H7
  isplitl [H8]; · iexact H8
  iintro ⟨H0, H1, H2, H3, ⟨%f4, H4⟩, H7, H8⟩
  iapply Hk
  isplitl [H0]; · iexact H0
  isplitl [H1]; · iexact H1
  isplitl [H2]; · iexact H2
  isplitl [H3]; · iexact H3
  isplitl [H4]
  · unfold owns; iexists _; isplitr; · ipureintro; exact mid_out c i arg2 harg2 arg3 harg3 arg4 harg4 arg5 harg5 arg6 harg6 arg7 harg7 arg8 harg8 x0 x1 x2 x3 a7 a8 h1 h2 h3 f4
    iexact H4
  isplitl [H7]
  · unfold owns; iexists _; isplitr; · ipureintro; exact mid_acc c i arg2 harg2 arg3 harg3 arg4 harg4 arg5 harg5 arg6 harg6 arg7 harg7 arg8 harg8 x0 x1 x2 x3 a7 a8 h1 h2 h3
    iexact H7
  unfold owns; iexists _; isplitr; · ipureintro; exact mid_ssq c i arg2 harg2 arg3 harg3 arg4 harg4 arg5 harg5 arg6 harg6 arg7 harg7 arg8 harg8 x0 x1 x2 x3 a7 a8 h1 h2 h3
  iexact H8

/-- The first point, whatever the scratch held. -/
theorem sound_first (h1 : clears i) (h2 : k0_cond2 i = 1#1) (h3 : ¬ k0_cond3 i = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (∃ d, owns (c : Thread nD τ) arg7 fullShare d) ∗ (∃ d, owns (c : Thread nD τ) arg8 fullShare d)
        ∗ (ends c arg2 arg3 arg4 arg5 arg6 arg7 arg8 x0 x1 x2 x3 (outBlk i x2 x3 k0_pay1 k0_pay2) (accNext i x0 x1 k0_pay1) (ssqNext i x0 x1 k0_pay2) -∗ K ⟨⟩))
      ⊢ wp frame (wpE (defs₀ (F := F)) Variants.none c none) E (cc0_out_proj i arg2 harg2 arg3 harg3 arg4 harg4 arg5 harg5 arg6 harg6 arg7 harg7 arg8 harg8) K := by
  refine .trans ?_ ((runFirst c i arg2 harg2 arg3 harg3 arg4 harg4 arg5 harg5 arg6 harg6 arg7 harg7 arg8 harg8 h1 h2 h3 x0 x1 x2 x3).2 E K)
  iintro ⟨H0, H1, H2, H3, H4, H7, H8, Hk⟩
  isplitl [H0]; · iexact H0
  isplitl [H1]; · iexact H1
  isplitl [H2]; · iexact H2
  isplitl [H3]; · iexact H3
  isplitl [H4]; · iexact H4
  isplitl [H7]; · iexact H7
  isplitl [H8]; · iexact H8
  iintro ⟨H0, H1, H2, H3, ⟨%f4, H4⟩, ⟨%f7, H7⟩, ⟨%f8, H8⟩⟩
  iapply Hk
  isplitl [H0]; · iexact H0
  isplitl [H1]; · iexact H1
  isplitl [H2]; · iexact H2
  isplitl [H3]; · iexact H3
  isplitl [H4]
  · unfold owns; iexists _; isplitr; · ipureintro; exact first_out c i arg2 harg2 arg3 harg3 arg4 harg4 arg5 harg5 arg6 harg6 arg7 harg7 arg8 harg8 x0 x1 x2 x3 h1 h2 h3 f4
    iexact H4
  isplitl [H7]
  · unfold owns; iexists _; isplitr; · ipureintro; exact first_acc c i arg2 harg2 arg3 harg3 arg4 harg4 arg5 harg5 arg6 harg6 arg7 harg7 arg8 harg8 x0 x1 x2 x3 h1 h2 h3 f7
    iexact H7
  unfold owns; iexists _; isplitr; · ipureintro; exact first_ssq c i arg2 harg2 arg3 harg3 arg4 harg4 arg5 harg5 arg6 harg6 arg7 harg7 arg8 harg8 x0 x1 x2 x3 h1 h2 h3 f8
  iexact H8

/-- A point of the last sweep, which leaves the scratch alone. -/
theorem sound_last (h1 : ¬ clears i) (h2 : ¬ k0_cond2 i = 1#1) (h3 : k0_cond3 i = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare a7 ∗ owns (c : Thread nD τ) arg8 fullShare a8
        ∗ (ends c arg2 arg3 arg4 arg5 arg6 arg7 arg8 x0 x1 x2 x3 (outBlk i x2 x3 a7 a8) (a7) (a8) -∗ K ⟨⟩))
      ⊢ wp frame (wpE (defs₀ (F := F)) Variants.none c none) E (cc0_out_proj i arg2 harg2 arg3 harg3 arg4 harg4 arg5 harg5 arg6 harg6 arg7 harg7 arg8 harg8) K := by
  refine .trans ?_ ((runLast c i arg2 harg2 arg3 harg3 arg4 harg4 arg5 harg5 arg6 harg6 arg7 harg7 arg8 harg8 h1 h2 h3 x0 x1 x2 x3 a7 a8).2 E K)
  iintro ⟨H0, H1, H2, H3, H4, H7, H8, Hk⟩
  isplitl [H0]; · iexact H0
  isplitl [H1]; · iexact H1
  isplitl [H2]; · iexact H2
  isplitl [H3]; · iexact H3
  isplitl [H4]; · iexact H4
  isplitl [H7]; · iexact H7
  isplitl [H8]; · iexact H8
  iintro ⟨H0, H1, H2, H3, ⟨%f4, H4⟩, H7, H8⟩
  iapply Hk
  isplitl [H0]; · iexact H0
  isplitl [H1]; · iexact H1
  isplitl [H2]; · iexact H2
  isplitl [H3]; · iexact H3
  isplitl [H4]
  · unfold owns; iexists _; isplitr; · ipureintro; exact last_out c i arg2 harg2 arg3 harg3 arg4 harg4 arg5 harg5 arg6 harg6 arg7 harg7 arg8 harg8 x0 x1 x2 x3 a7 a8 h1 h2 h3 f4
    iexact H4
  isplitl [H7]; · iexact H7
  iexact H8

end

/-! ## Which case a point is in -/

theorem clears_iff : ∀ t : Fin cfg0.N, clears (grid0.coords t) ↔ t.val = 0 :=
  (by decide +kernel : ∀ t : Fin grid0.N, clears (grid0.coords t) ↔ t.val = 0)
theorem cond2_iff : ∀ t : Fin cfg0.N, k0_cond2 (grid0.coords t) = 1#1 ↔ t.val < 128 :=
  (by decide +kernel : ∀ t : Fin grid0.N, k0_cond2 (grid0.coords t) = 1#1 ↔ t.val < 128)
theorem cond3_iff : ∀ t : Fin cfg0.N, k0_cond3 (grid0.coords t) = 1#1 ↔ 128 ≤ t.val :=
  (by decide +kernel : ∀ t : Fin grid0.N, k0_cond3 (grid0.coords t) = 1#1 ↔ 128 ≤ t.val)

variable (m : (ℓ : Loc nD τ sig) → Buf (Elt F) ℓ) (ρ : Dev nD → PrngReg)

/-! ## The scratch from point to point -/

/-- The stored products and the sums of squares before point `n`: zero at first, and after a point of the first sixteen
    sweeps that point's step. -/
def st (c : Dev nD) : ℕ → Vec F S8x1024x512 .f32 × Vec F S2x1024x1 .f32
  | 0 => (k0_pay1, k0_pay2)
  | n + 1 => if h : n < 128 then
      (accNext (grid0.coords ⟨n, h.trans (by decide)⟩) (iblk m c 0 ⟨n, h.trans (by decide)⟩) (iblk m c 1 ⟨n, h.trans (by decide)⟩) (st c n).1,
        ssqNext (grid0.coords ⟨n, h.trans (by decide)⟩) (iblk m c 0 ⟨n, h.trans (by decide)⟩) (iblk m c 1 ⟨n, h.trans (by decide)⟩) (st c n).2)
    else st c n

theorem st_zero (c : Dev nD) : st m c 0 = (k0_pay1, k0_pay2) := by unfold st; rfl

theorem st_step (c : Dev nD) (t : Fin cfg0.N) (h : t.val < 128) : st m c (t.val + 1)
    = (accNext (grid0.coords t) (iblk m c 0 t) (iblk m c 1 t) (st m c t.val).1, ssqNext (grid0.coords t) (iblk m c 0 t) (iblk m c 1 t) (st m c t.val).2) := by
  conv_lhs => unfold st
  rw [dif_pos h]

theorem st_stay (c : Dev nD) (n : ℕ) (h : 128 ≤ n) : st m c (n + 1) = st m c n := by
  conv_lhs => unfold st
  rw [dif_neg (by omega)]

/-- The scratch before point `n`: anything at all before the first, then the two buffers at `st`. -/
def carried (c : Dev nD) (n : ℕ) : sProp 𝕄 :=
  if n = 0 then Pipeline.ΦA spec0 c else
    iprop(owns (c : Thread nD τ) (Memref.whole cc0_scratch0) fullShare (st m c n).1
      ∗ owns (c : Thread nD τ) (Memref.whole cc0_scratch1) fullShare (st m c n).2 ∗ ∃ r, prngReg c r)

theorem carried_zero (c : Dev nD) : carried m c 0 = Pipeline.ΦA spec0 c := if_pos rfl

theorem carried_pos (c : Dev nD) (n : ℕ) (h : n ≠ 0) : carried m c n =
    iprop(owns (c : Thread nD τ) (Memref.whole cc0_scratch0) fullShare (st m c n).1
      ∗ owns (c : Thread nD τ) (Memref.whole cc0_scratch1) fullShare (st m c n).2 ∗ ∃ r, prngReg c r) := if_neg h

/-- The proof data: each input's block in place, the output block of the carried scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (grid0.coords t) (iblk m c 2 t) (iblk m c 3 t) (st m c t.val).1 (st m c t.val).2
  Φ t := carried m c t.val
  q w := Pipeline.shareOf spec0 w
  owed _ := 0

theorem A_eq (c : Dev nD) (w : Fin cfg0.W) : (dats m 0 c).A w = V m c (Pipeline.arrRef spec0 w) := by dsimp only [dats]
theorem carried_eq (c : Dev nD) (t) : (dats m 0 c).Φ t = carried m c t.val := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t
    = outBlk (grid0.coords t) (iblk m c 2 t) (iblk m c 3 t) (st m c t.val).1 (st m c t.val).2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## Every point's triple -/

/-- What the body is called with at point `t` … -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- … and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The scratch before any but the first point. -/
theorem carried_castSucc (c : Dev nD) (t : Fin cfg0.N) (h : t.val ≠ 0) : carried m c t.castSucc.val =
    iprop(owns (c : Thread nD τ) (Memref.whole cc0_scratch0) fullShare (st m c t.val).1
      ∗ owns (c : Thread nD τ) (Memref.whole cc0_scratch1) fullShare (st m c t.val).2 ∗ ∃ r, prngReg c r) := carried_pos m c t.val h
/-- The scratch after any point. -/
theorem carried_succ (c : Dev nD) (t : Fin cfg0.N) : carried m c t.succ.val =
    iprop(owns (c : Thread nD τ) (Memref.whole cc0_scratch0) fullShare (st m c (t.val + 1)).1
      ∗ owns (c : Thread nD τ) (Memref.whole cc0_scratch1) fullShare (st m c (t.val + 1)).2 ∗ ∃ r, prngReg c r) :=
  carried_pos m c (t.val + 1) (Nat.succ_ne_zero _)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4, carried_eq, carried_eq, carried_succ]
  by_cases h0 : t.val = 0
  · rw [show t.castSucc.val = 0 from h0, carried_zero, st_step m c t (by omega), h0, st_zero]
    unfold Pipeline.ΦA
    rw [scopedRest0_eq]
    iintro ⟨⟨⟨⟨%f7, H7⟩, ⟨%f8, H8⟩⟩, HP⟩, Ho, ⟨%d0, H0⟩, ⟨%d1, H1⟩, ⟨%d2, H2⟩, ⟨%d3, H3⟩, ⟨%d4, H4⟩⟩
    iapply (sound_first c (grid0.coords t) Set.univ _ _ _ _ _ _ _ _ _ _ _ _ _ _ (iblk m c 0 t) (iblk m c 1 t) (iblk m c 2 t) (iblk m c 3 t)
      ((clears_iff t).2 h0) ((cond2_iff t).2 (by omega)) (fun h => by have := (cond3_iff t).1 h; omega) _)
    isplitl [H0]; · iexact H0
    isplitl [H1]; · iexact H1
    isplitl [H2]; · iexact H2
    isplitl [H3]; · iexact H3
    isplitl [H4]; · iexists _; iexact H4
    isplitl [H7]; · iexists f7; rw [owns_whole]; iexact H7
    isplitl [H8]; · iexists f8; rw [owns_whole]; iexact H8
    iintro ⟨H0, H1, H2, H3, H4, H7, H8⟩
    isplitl [H7 H8 HP]
    · isplitl [H7]; · iexact H7
      isplitl [H8]; · iexact H8
      iexact HP
    isplitl [Ho]; · iexact Ho
    isplitl [H0]; · iexact H0
    isplitl [H1]; · iexact H1
    isplitl [H2]; · iexact H2
    isplitl [H3]; · iexact H3
    iexact H4
  · rw [carried_castSucc m c t h0]
    by_cases hl : t.val < 128
    · rw [st_step m c t hl]
      iintro ⟨⟨H7, H8, HP⟩, Ho, ⟨%d0, H0⟩, ⟨%d1, H1⟩, ⟨%d2, H2⟩, ⟨%d3, H3⟩, ⟨%d4, H4⟩⟩
      iapply (sound_mid c (grid0.coords t) Set.univ _ _ _ _ _ _ _ _ _ _ _ _ _ _ (iblk m c 0 t) (iblk m c 1 t) (iblk m c 2 t) (iblk m c 3 t)
        (st m c t.val).1 (st m c t.val).2 (fun h => h0 ((clears_iff t).1 h)) ((cond2_iff t).2 hl) (fun h => by have := (cond3_iff t).1 h; omega) _)
      isplitl [H0]; · iexact H0
      isplitl [H1]; · iexact H1
      isplitl [H2]; · iexact H2
      isplitl [H3]; · iexact H3
      isplitl [H4]; · iexists _; iexact H4
      isplitl [H7]; · iexact H7
      isplitl [H8]; · iexact H8
      iintro ⟨H0, H1, H2, H3, H4, H7, H8⟩
      isplitl [H7 H8 HP]
      · isplitl [H7]; · iexact H7
        isplitl [H8]; · iexact H8
        iexact HP
      isplitl [Ho]; · iexact Ho
      isplitl [H0]; · iexact H0
      isplitl [H1]; · iexact H1
      isplitl [H2]; · iexact H2
      isplitl [H3]; · iexact H3
      iexact H4
    · rw [st_stay m c t.val (by omega)]
      iintro ⟨⟨H7, H8, HP⟩, Ho, ⟨%d0, H0⟩, ⟨%d1, H1⟩, ⟨%d2, H2⟩, ⟨%d3, H3⟩, ⟨%d4, H4⟩⟩
      iapply (sound_last c (grid0.coords t) Set.univ _ _ _ _ _ _ _ _ _ _ _ _ _ _ (iblk m c 0 t) (iblk m c 1 t) (iblk m c 2 t) (iblk m c 3 t)
        (st m c t.val).1 (st m c t.val).2 (fun h => h0 ((clears_iff t).1 h)) (fun h => hl ((cond2_iff t).1 h)) ((cond3_iff t).2 (by omega)) _)
      isplitl [H0]; · iexact H0
      isplitl [H1]; · iexact H1
      isplitl [H2]; · iexact H2
      isplitl [H3]; · iexact H3
      isplitl [H4]; · iexists _; iexact H4
      isplitl [H7]; · iexact H7
      isplitl [H8]; · iexact H8
      iintro ⟨H0, H1, H2, H3, H4, H7, H8⟩
      isplitl [H7 H8 HP]
      · isplitl [H7]; · iexact H7
        isplitl [H8]; · iexact H8
        iexact HP
      isplitl [Ho]; · iexact Ho
      isplitl [H0]; · iexact H0
      isplitl [H1]; · iexact H1
      isplitl [H2]; · iexact H2
      isplitl [H3]; · iexact H3
      iexact H4

theorem defs₀_row (t : Fin cfg0.N) :
    defs₀ (F := F) .tc cfg0.body (cfg0.bodyArgs t (cfg0.slots t)) = bodyAt0 t := by
  unfold defs₀; rw [Defs.onTc_tc]

/-- Every point stores the output block. -/
theorem stores : ∀ i : grid0.Coords, cfg0.idle 4 i = false := (by decide +kernel : ∀ i : grid0.Coords, idle0 4 i = false)

theorem body_obligation (c : Dev nD) : BodyObligation (dats (F := F) m 0 c) (defs₀ (F := F)) Variants.none () Set.univ := fun t => by
  rw [bigSep_W0, bigSep_W0, defs₀_row, stores]
  exact triple_restated (sound_body m c t) rfl .rfl fun _ => .rfl

/-! ## The launch -/

/-- Before the first point the scratch holds anything … -/
theorem enter (c : Dev nD) : Pipeline.ΦA spec0 c ⊢ (dats m 0 c).Φ 0 := by
  rw [carried_eq]; exact .of_eq (carried_zero m c).symm

/-- … and after the last what it holds is forgotten. -/
theorem leave (c : Dev nD) : (dats m 0 c).Φ (Fin.last cfg0.N) ⊢ Pipeline.ΦA spec0 c := by
  rw [carried_eq, carried_pos m c _ (by decide)]
  unfold Pipeline.ΦA
  rw [scopedRest0_eq, owns_whole, owns_whole]
  iintro ⟨H7, H8, HP⟩
  isplitl [H7 H8]
  · isplitl [H7]
    · iexists _; iexact H7
    iexists _; iexact H8
  iexact HP

set_option backward.isDefEq.respectTransparency.types false in
set_option maxHeartbeats 800000 in
/-- The launch: every array of the pipeline at what the points leave, and every counter at zero. -/
theorem launched : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ w => by fin_cases w <;> rfl)
    (howed := fun _ _ => rfl) (V := V m) (hmain := hmain m Variants.none) (hA := A_eq m) (hin := enter m) (hout := leave m)
    (hQ' := fun _ h => h)

/-- The frame, at any float values: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.Proof.OutProj

end
-- ==== Proof.OutValue.lean ====
/- One grid point of the output projection over the reals: the step's stored products, its sums of squares and its output
   block, at every index. -/
module

public import proofs.«01_k».proof.Proof.OutStep
public import Idealize.ShloMosaic.Lib.ValueIdxCore
public import Idealize.ShloMosaic.Lib.MatmulPlain
public import Idealize.ShloMosaic.PureOps.Ideal
public import Idealize.ShloMosaic.Lib.Pipeline.Value

@[expose] public section

set_option maxRecDepth 16384

noncomputable section

namespace Cert.Proof.OutProj

open Idealize.ShloMosaic Idealize.ShloMosaic.TcCoe Idealize.ShloMosaic.ValueIdx
open Cert.Kernel2Ideal Cert.Kernel2Ideal.Gen

/-! ## A chunk of 256 rows -/

/-- A chunk's product at an index. -/
theorem prod_apply (a : Vec Ideal S256x4096 .bf16) (w : Vec Ideal S1x4096x512 .bf16) (r : Fin 256) (q : Fin 512) :
    k0_pay10 a w (ix2 r q) = ∑ k : Fin 4096, a (ix2 r k) * w (ix3 0 k q) := by
  refine (Ideal.matmul_plain_apply (M := 256) (K := 4096) (N := 512) (φ₁ := .bf16) (φ₂ := .bf16) none a (shapeCast S4096x512 w shapeCasts_S1x4096x512_S4096x512) (constant S256x512 .f32 0x00000000#32) r q).trans ?_
  have z : constant (F := Ideal) S256x512 .f32 0x00000000#32 (ix2 r q) = 0 := by
    show Ideal.ofBits .f32 0x00000000#32 = 0
    simp
  rw [z, zero_add]
  refine Finset.sum_congr rfl fun k _ => congrArg (a (ix2 r k) * ·) ?_
  refine (shapeCast_dropUnit_apply ![4096, 512] w shapeCasts_S1x4096x512_S4096x512 _).trans (congrArg w ?_)
  funext d; fin_cases d <;> rfl

/-- The product as it is stored, a plane of one. -/
theorem plane_apply (v : FVec Ideal S256x512 .f32) (p : S1x256x512.Idx) :
    shapeCast S1x256x512 v shapeCasts_S256x512_S1x256x512 p = v (ix2 (p 1) (p 2)) := by
  refine (shapeCast_addUnit_apply ![256, 512] v shapeCasts_S256x512_S1x256x512 p).trans (congrArg v ?_)
  funext d; fin_cases d <;> rfl

/-- A chunk's sums: what they were, plus the chunk's products squared along each row. -/
theorem squares_apply (o : ℕ) (h : S1024x1.Slices ![o, 0] S256x1) (s : FVec Ideal S1024x1 .f32) (v : FVec Ideal S256x512 .f32) (p : S1x256x1.Idx)
    (hb : o + (p 1).val < 1024) :
    shapeCast S1x256x1 (addf (extractStridedSlice S256x1 ![o, 0] s h)
        (shapeCast S256x1 (multiReduction .add [1] S256 (mulf v v) 0x00000000#32 reduces_S256x512_S256 (.inl rfl) rfl) shapeCasts_S256_S256x1))
        shapeCasts_S256x1_S1x256x1 p
      = (s (ix2 ⟨o + (p 1).val, hb⟩ 0) + ∑ q : Fin 512, v (ix2 (p 1) q) * v (ix2 (p 1) q) : EReal) := by
  refine (shapeCast_addUnit_apply ![256, 1] _ shapeCasts_S256x1_S1x256x1 p).trans ?_
  refine congrArg₂ (fun (a b : EReal) => a + b) (congrArg s ?_) ?_
  · funext d; fin_cases d
    · rfl
    · exact Fin.ext (by have := (p 2).isLt; show 0 + (p 2).val = 0; change (p 2).val < 1 at this; omega)
  · refine (shapeCast_apply _ shapeCasts_S256_S256x1 _ (ix1 (p 1)) ?_).trans ?_
    · refine (Shape.rowMajor_val_one (d := ![256]) _).trans (.trans ?_ (Shape.rowMajor_val_two (d := ![256, 1]) _).symm)
      have := (p 2).isLt; change (p 2).val < 1 at this
      show (p 1).val = (p 1).val * 1 + (p 2).val
      omega
    · refine (Ideal.multiReduction_add_single _ _ reduces_S256x512_S256 _ _ _).trans ?_
      refine Finset.sum_congr rfl fun q _ => ?_
      have e : reduces_S256x512_S256.lift (ix1 (p 1)) q = ix2 (p 1) q := by funext d; fin_cases d <;> rfl
      rw [e]; rfl

/-! ## Four chunks stored one after another -/

/-- Four chunks of one plane stored over `a`: the plane holds the chunks' rows, the others what they held. -/
theorem four_puts {n K : ℕ} (f : Fin 1024 → Fin K → EReal) (a : (⟨3, ![n, 1024, K]⟩ : Shape).Idx → EReal) (j : ℕ)
    (o0 o1 o2 o3 : Fin 3 → ℕ) (e0 : o0 = ![j, 0, 0]) (e1 : o1 = ![j, 256, 0]) (e2 : o2 = ![j, 512, 0]) (e3 : o3 = ![j, 768, 0])
    (w0 w1 w2 w3 : (⟨3, ![1, 256, K]⟩ : Shape).Idx → EReal)
    (h0 : ∀ p (hb : 0 + (p 1).val < 1024), w0 p = f ⟨0 + (p 1).val, hb⟩ (p 2)) (h1 : ∀ p (hb : 256 + (p 1).val < 1024), w1 p = f ⟨256 + (p 1).val, hb⟩ (p 2))
    (h2 : ∀ p (hb : 512 + (p 1).val < 1024), w2 p = f ⟨512 + (p 1).val, hb⟩ (p 2)) (h3 : ∀ p (hb : 768 + (p 1).val < 1024), w3 p = f ⟨768 + (p 1).val, hb⟩ (p 2))
    (y : (⟨3, ![n, 1024, K]⟩ : Shape).Idx) :
    VecWindow.put (s := ⟨3, ![n, 1024, K]⟩) (VecWindow.put (s := ⟨3, ![n, 1024, K]⟩) (VecWindow.put (s := ⟨3, ![n, 1024, K]⟩) (VecWindow.put (s := ⟨3, ![n, 1024, K]⟩) a
      o0 ![1, 256, K] w0) o1 ![1, 256, K] w1) o2 ![1, 256, K] w2) o3 ![1, 256, K] w3 y
      = if (y 0).val = j then f (y 1) (y 2) else a y := by
  subst e0 e1 e2 e3
  have y1 : (y 1).val < 1024 := (y 1).isLt
  have y2 : (y 2).val < K := (y 2).isLt
  have hit : ∀ (o : ℕ) (w : (⟨3, ![1, 256, K]⟩ : Shape).Idx → EReal) (_ : ∀ p (hb : o + (p 1).val < 1024), w p = f ⟨o + (p 1).val, hb⟩ (p 2))
      (x : (⟨3, ![n, 1024, K]⟩ : Shape).Idx → EReal),
      VecWindow.put (s := ⟨3, ![n, 1024, K]⟩) x ![j, o, 0] ![1, 256, K] w y
        = if (y 0).val = j ∧ o ≤ (y 1).val ∧ (y 1).val < o + 256 then f (y 1) (y 2) else x y := by
    intro o w hw x
    unfold VecWindow.put
    by_cases hc : (y 0).val = j ∧ o ≤ (y 1).val ∧ (y 1).val < o + 256
    · have hin : ∀ a, (![j, o, 0] : Fin 3 → ℕ) a ≤ (y a).val ∧ (y a).val < (![j, o, 0] : Fin 3 → ℕ) a + (![1, 256, K] : Fin 3 → ℕ) a := by
        intro a; fin_cases a
        · show j ≤ (y 0).val ∧ (y 0).val < j + 1; omega
        · show o ≤ (y 1).val ∧ (y 1).val < o + 256; omega
        · show 0 ≤ (y 2).val ∧ (y 2).val < 0 + K; omega
      rw [dif_pos hin, if_pos hc]
      refine (hw _ (by show o + ((y 1).val - o) < 1024; omega)).trans (congrArg₂ f (Fin.ext ?_) (Fin.ext ?_))
      · show o + ((y 1).val - o) = (y 1).val; omega
      · show (y 2).val - 0 = (y 2).val; omega
    · rw [if_neg hc, dif_neg]
      intro hin
      have i0 : j ≤ (y 0).val ∧ (y 0).val < j + 1 := hin 0
      have i1 : o ≤ (y 1).val ∧ (y 1).val < o + 256 := hin 1
      omega
  rw [hit 768 w3 h3, hit 512 w2 h2, hit 256 w1 h1, hit 0 w0 h0]
  by_cases hj : (y 0).val = j
  · rw [if_pos hj]
    split_ifs <;> first | rfl | omega
  · rw [if_neg hj, if_neg (by omega), if_neg (by omega), if_neg (by omega), if_neg (by omega)]

/-! ## The step -/

variable (i : grid0.Coords) (x0 : Vec Ideal S1024x4096 .bf16) (x1 : Vec Ideal S1x4096x512 .bf16) (x2 : Vec Ideal S1024x512 .f32) (x3 : Vec Ideal S1x512 .f32)
  (a7 : Vec Ideal S8x1024x512 .f32) (a8 : Vec Ideal S2x1024x1 .f32)

/-- Row `r` of the block of rows times column `q` of the block of weights. -/
def dot (r : Fin 1024) (q : Fin 512) : EReal := ∑ k : Fin 4096, x0 (ix2 r k) * x1 (ix3 0 k q)

theorem ld_weights : View.ld x1 rW = x1 := View.ld_unit_zero (by funext d; fin_cases d <;> rfl) _ x1

/-- A chunk's product is its rows of the block's. -/
theorem chunk_dot (o : ℕ) (h) (r : Fin 256) (q : Fin 512) (hb : o + r.val < 1024) :
    k0_pay10 (View.ld x0 (Rect.unit (s := S1024x4096) ![o, 0] S256x4096.size h)) (View.ld x1 rW) (ix2 r q) = dot x0 x1 ⟨o + r.val, hb⟩ q := by
  rw [prod_apply, ld_weights]
  refine Finset.sum_congr rfl fun k _ => congrArg (· * x1 (ix3 0 k q)) (congrArg x0 ?_)
  funext d; fin_cases d
  · exact Fin.ext (by show o + 1 * r.val = o + r.val; omega)
  · exact Fin.ext (by show 0 + 1 * k.val = k.val; omega)

/-- The stored products after the point. -/
theorem accNext_apply (y : S8x1024x512.Idx) : accNext i x0 x1 a7 y = if (y 0).val = (i 1).val then dot x0 x1 (y 1) (y 2) else a7 y := by
  unfold accNext
  refine four_puts (dot x0 x1) a7 (i 1).val _ _ _ _ (k0_off4_eq i) (k0_off6_eq i) (k0_off8_eq i) (k0_off10_eq i) _ _ _ _
    (fun p hb => ?_) (fun p hb => ?_) (fun p hb => ?_) (fun p hb => ?_) y
  all_goals exact (plane_apply _ p).trans (chunk_dot x0 x1 _ _ _ _ hb)

/-- The sums a point starts from. -/
theorem sums_apply (r : Fin 1024) : sums i a8 (ix2 r 0) = if (i 1).val = 0 then 0 else a8 (ix3 ⟨(i 0).val % 2, Nat.mod_lt _ (by decide)⟩ r 0) := by
  unfold sums k0_pay9
  have hi : (i 1).val < 8 := (i 1).isLt
  by_cases h : (i 1).val = 0
  · rw [if_pos h, h]
    show Ideal.ofBits .f32 0x00000000#32 = 0
    simp
  · rw [if_neg h]
    have hc : Scalar.cmpi .eq (BitVec.ofNat 32 (i 1).val) 0#32 = 0#1 := by
      revert h
      exact (by decide +kernel : ∀ i : grid0.Coords, ¬ (i 1).val = 0 → Scalar.cmpi .eq (BitVec.ofNat 32 (i 1).val) 0#32 = 0#1) i
    dsimp only
    rw [hc]
    show shapeCast S1024x1 (View.ld a8 (Rect.unit (k0_off3 i) S1x1024x1.size (inb3 i))) shapeCasts_S1x1024x1_S1024x1 (ix2 r 0) = _
    refine (shapeCast_dropUnit_apply ![1024, 1] _ shapeCasts_S1x1024x1_S1024x1 _).trans (congrArg a8 ?_)
    have e := off3_eq i
    funext d; fin_cases d
    · exact Fin.ext (by show (k0_off3 i) 0 + 1 * 0 = _; rw [e]; rfl)
    · exact Fin.ext (by show (k0_off3 i) 1 + 1 * r.val = r.val; rw [e]; show 0 + 1 * r.val = r.val; omega)
    · exact Fin.ext (by show (k0_off3 i) 2 + 1 * 0 = 0; rw [e]; rfl)

/-- The sums of squares after the point. -/
theorem ssqNext_apply (y : S2x1024x1.Idx) : ssqNext i x0 x1 a8 y
    = if (y 0).val = (i 0).val % 2 then sums i a8 (ix2 (y 1) 0) + ∑ q : Fin 512, dot x0 x1 (y 1) q * dot x0 x1 (y 1) q else a8 y := by
  unfold ssqNext
  refine four_puts (fun r _ => sums i a8 (ix2 r 0) + ∑ q : Fin 512, dot x0 x1 r q * dot x0 x1 r q) a8 ((i 0).val % 2)
    _ _ _ _ (off5_eq i) (off7_eq i) (off9_eq i) (off11_eq i) _ _ _ _ (fun p hb => ?_) (fun p hb => ?_) (fun p hb => ?_) (fun p hb => ?_) y
  · refine (squares_apply 0 slices_S1024x1_o0_0_S256x1 (sums i a8) (k0_pay10 (View.ld x0 rY0) (View.ld x1 rW)) p hb).trans ?_
    simp only [chunk_dot x0 x1 0 _ (p 1) _ hb]
  · refine (squares_apply 256 slices_S1024x1_o256_0_S256x1 (sums i a8) (k0_pay10 (View.ld x0 rY1) (View.ld x1 rW)) p hb).trans ?_
    simp only [chunk_dot x0 x1 256 _ (p 1) _ hb]
  · refine (squares_apply 512 slices_S1024x1_o512_0_S256x1 (sums i a8) (k0_pay10 (View.ld x0 rY2) (View.ld x1 rW)) p hb).trans ?_
    simp only [chunk_dot x0 x1 512 _ (p 1) _ hb]
  · refine (squares_apply 768 slices_S1024x1_o768_0_S256x1 (sums i a8) (k0_pay10 (View.ld x0 rY3) (View.ld x1 rW)) p hb).trans ?_
    simp only [chunk_dot x0 x1 768 _ (p 1) _ hb]

/-- The output block. -/
theorem outBlk_apply (r : Fin 1024) (q : Fin 512) : outBlk i x2 x3 a7 a8 (ix2 r q)
    = x2 (ix2 r q) + a7 (ix3 (i 1) r q)
        * Ideal.rsqrt (a8 (ix3 ⟨1 - (i 0).val % 2, by omega⟩ r 0) * Ideal.ofBits .f32 0x39800000#32 + Ideal.ofBits .f32 0x358637BD#32) * x3 (ix2 0 q) := by
  unfold outBlk k0_pay8
  have e1 := off1_eq i
  have e2 := k0_off2_eq i
  refine congrArg₂ (fun (a b : EReal) => a + b) (congrFun (View.ld_unit_zero (by funext d; fin_cases d <;> rfl) _ x2) _) ?_
  refine congrArg₂ (fun (a b : EReal) => a * b) (congrArg₂ (fun (a b : EReal) => a * b) ?_ ?_) ?_
  · refine (shapeCast_dropUnit_apply ![1024, 512] _ shapeCasts_S1x1024x512_S1024x512 _).trans (congrArg a7 ?_)
    funext d; fin_cases d
    · exact Fin.ext (by show (k0_off2 i) 0 + 1 * 0 = _; rw [e2]; rfl)
    · exact Fin.ext (by show (k0_off2 i) 1 + 1 * r.val = r.val; rw [e2]; show 0 + 1 * r.val = r.val; omega)
    · exact Fin.ext (by show (k0_off2 i) 2 + 1 * q.val = q.val; rw [e2]; show 0 + 1 * q.val = q.val; omega)
  · refine (broadcastTo_apply _ broadcasts_S1024x1_S1024x512 (ix2 r q) (ix2 r (0 : Fin 1)) fun a => ?_).trans ?_
    · fin_cases a <;> rfl
    · refine congrArg Ideal.rsqrt (congrArg (· + Ideal.ofBits .f32 0x358637BD#32) (congrArg (· * Ideal.ofBits .f32 0x39800000#32) ?_))
      refine (shapeCast_dropUnit_apply ![1024, 1] _ shapeCasts_S1x1024x1_S1024x1 _).trans (congrArg a8 ?_)
      funext d; fin_cases d
      · exact Fin.ext (by show (k0_off1 i) 0 + 1 * 0 = _; rw [e1]; rfl)
      · exact Fin.ext (by show (k0_off1 i) 1 + 1 * r.val = r.val; rw [e1]; show 0 + 1 * r.val = r.val; omega)
      · exact Fin.ext (by show (k0_off1 i) 2 + 1 * 0 = 0; rw [e1]; rfl)
  · refine (broadcastTo_apply _ broadcasts_S1x512_S1024x512 (ix2 r q) (ix2 (0 : Fin 1) q) fun a => ?_).trans ?_
    · fin_cases a <;> rfl
    · rw [shapeCast_self]
      exact congrFun (View.ld_unit_zero (by funext d; fin_cases d <;> rfl) _ x3) _

end Cert.Proof.OutProj

end
-- ==== Proof.OutArray.lean ====
/- The array the output projection's launch leaves: at every index the residual plus the product, normalised by the mean
   square of the product's row. -/
module

public import proofs.«01_k».proof.Proof.OutFrame
public import proofs.«01_k».proof.Proof.OutValue
public import Idealize.ShloMosaic.Lib.Pipeline.ValueKit

@[expose] public section

set_option maxRecDepth 16384

noncomputable section

namespace Cert.Proof.OutProj

open Idealize.ShloMosaic hiding ix1 ix2 ix3
open Idealize.ShloMosaic.TcCoe Idealize.ShloMosaic.ValueIdx
open Idealize.SL.Sem
open Cert.Kernel2Ideal Cert.Kernel2Ideal.Gen

/-! ## The formula -/

/-- The rows, the two layers' weights, and the scales. -/
abbrev Rows : Type := (⟨2, ![16384, 4096]⟩ : Shape).Idx → EReal
abbrev Weights : Type := (⟨3, ![2, 4096, 4096]⟩ : Shape).Idx → EReal
abbrev Scales : Type := (⟨1, ![4096]⟩ : Shape).Idx → EReal

/-- Row `R` of the rows times column `C` of layer 0's weights (nothing outside them). -/
def cell (y : Rows) (w : Weights) (R C : ℕ) : EReal :=
  if h : R < 16384 ∧ C < 4096 then ∑ k : Fin 4096, y (ix2 ⟨R, h.1⟩ k) * w (ix3 0 k ⟨C, h.2⟩) else 0

/-- The first `n` products of row `R`, squared and summed. -/
def sumsq (y : Rows) (w : Weights) (R n : ℕ) : EReal := ∑ C ∈ Finset.range n, cell y w R C * cell y w R C

/-- The residual plus the normalised product. -/
def normed (y : Rows) (w : Weights) (x : Rows) (g : Scales) (R : Fin 16384) (C : Fin 4096) : EReal :=
  x (ix2 R C) + cell y w R.val C.val
    * Ideal.rsqrt (sumsq y w R.val 4096 * Ideal.ofBits .f32 0x39800000#32 + Ideal.ofBits .f32 0x358637BD#32) * g (ix1 C)

/-! ## The windows' blocks in their arrays -/

theorem coord_row : ∀ t : Fin cfg0.N, (grid0.coords t 0).val = t.val / 8 :=
  (by decide +kernel : ∀ t : Fin grid0.N, (grid0.coords t 0).val = t.val / 8)
theorem coord_col : ∀ t : Fin cfg0.N, (grid0.coords t 1).val = t.val % 8 :=
  (by decide +kernel : ∀ t : Fin grid0.N, (grid0.coords t 1).val = t.val % 8)
theorem index_rows : ∀ t : Fin grid0.N, t.val < 128 → cc0_transform_0 (grid0.coords t) = ![t.val / 8, 0] := by decide +kernel
theorem index_weights : ∀ t : Fin grid0.N, cc0_transform_1 (grid0.coords t) = ![0, 0, t.val % 8] := by decide +kernel
theorem index_residual : ∀ t : Fin grid0.N, cc0_transform_2 (grid0.coords t) = ![t.val / 8 - 1, t.val % 8] := by decide +kernel
theorem index_scales : ∀ t : Fin grid0.N, cc0_transform_3 (grid0.coords t) = ![0, t.val % 8] := by decide +kernel
theorem index_out : ∀ t : Fin grid0.N, cc0_transform_4 (grid0.coords t) = ![t.val / 8 - 1, t.val % 8] := by decide +kernel

variable (m : (ℓ : Loc nD τ sig) → Buf (Elt Ideal) ℓ) (c : Dev nD)

theorem V_weights : (V m c main_v0 : S2x4096x4096.Idx → EReal) = m ((c : Thread nD τ).loc main_arg1) := by
  have e : (V m c main_v0 : S2x4096x4096.Idx → EReal) = truncf (F := Ideal) .bf16 (m ((c : Thread nD τ).loc main_arg1)) bitsLt_bf16_f32 := by
    unfold V; after_results_simp
  rw [e]; rfl

theorem V_scales : (V m c main_v1 : S1x4096.Idx → EReal) = shapeCast S1x4096 (m ((c : Thread nD τ).loc main_arg3)) shapeCasts_S4096_S1x4096 := by
  unfold V; after_results_simp; rfl

/-- The program's own rows, weights, residual and scales. -/
abbrev ys : Rows := m ((c : Thread nD τ).loc main_arg0)
abbrev ws : Weights := m ((c : Thread nD τ).loc main_arg1)
abbrev xs : Rows := m ((c : Thread nD τ).loc main_arg2)
abbrev gs : Scales := m ((c : Thread nD τ).loc main_arg3)

/-- A point's products are its part of the formula's. -/
theorem dot_cell (t : Fin cfg0.N) (ht : t.val < 128) (r : Fin 1024) (q : Fin 512) :
    dot (iblk m c 0 t) (iblk m c 1 t) r q = cell (ys m c) (ws m c) (1024 * (t.val / 8) + r.val) (512 * (t.val % 8) + q.val) := by
  have hr := r.isLt
  have hq := q.isLt
  have e0 : (cfg0.win 0).index t = ![t.val / 8, 0] := index_rows t ht
  have e1 : (cfg0.win 1).index t = ![0, 0, t.val % 8] := index_weights t
  unfold dot cell
  rw [dif_pos ⟨by omega, by omega⟩]
  refine Finset.sum_congr rfl fun k _ => congrArg₂ (fun (a b : EReal) => a * b) ?_ ?_
  · show _ = (m ((c : Thread nD τ).loc main_arg0) : Rows) _
    rw [← V_main_arg0 m c]
    refine congrArg (V m c main_arg0) (funext fun d => Fin.ext ?_)
    refine (Pipeline.Window.rect_emb_val_off (cfg0.win 0) t (ix2 r k) d).trans ?_
    rw [e0]; fin_cases d
    · show t.val / 8 * 1024 + r.val = 1024 * (t.val / 8) + r.val; omega
    · show 0 * 4096 + k.val = k.val; omega
  · show _ = (m ((c : Thread nD τ).loc main_arg1) : Weights) _
    rw [← V_weights m c]
    refine congrArg (V m c main_v0) (funext fun d => Fin.ext ?_)
    refine (Pipeline.Window.rect_emb_val_off (cfg0.win 1) t (ix3 0 k q) d).trans ?_
    rw [e1]; fin_cases d
    · rfl
    · show 0 * 4096 + k.val = k.val; omega
    · show t.val % 8 * 512 + q.val = 512 * (t.val % 8) + q.val; omega

/-! ## The scratch along the grid -/

/-- A column's stored products last until the next sweep reads them. -/
theorem acc_kept (t : Fin cfg0.N) (ht : t.val < 128) (r : Fin 1024) (q : Fin 512) (j : Fin 8) (hj : j.val = t.val % 8) :
    ∀ d : ℕ, d < 8 → (st m c (t.val + 1 + d)).1 (ix3 j r q)
      = cell (ys m c) (ws m c) (1024 * (t.val / 8) + r.val) (512 * (t.val % 8) + q.val)
  | 0, _ => by
    rw [Nat.add_zero, st_step m c t ht]
    refine (accNext_apply _ _ _ _ _).trans ((if_pos ?_).trans (dot_cell m c t ht r q))
    rw [coord_col]; exact hj
  | d + 1, hd => by
    have ih := acc_kept t ht r q j hj d (by omega)
    rw [← ih]
    by_cases h : t.val + 1 + d < 128
    · have hN : t.val + 1 + d < cfg0.N := h.trans (by decide)
      have e := st_step m c ⟨t.val + 1 + d, hN⟩ h
      rw [show t.val + 1 + (d + 1) = t.val + 1 + d + 1 from rfl, e]
      refine (accNext_apply _ _ _ _ _).trans (if_neg ?_)
      rw [coord_col]
      show ¬ j.val = (t.val + 1 + d) % 8
      omega
    · exact congrFun (congrArg Prod.fst (st_stay m c (t.val + 1 + d) (by omega))) _

/-- In sweep `i`, after column `j`: the sweep's slot holds the rows' squares summed over the columns so far. -/
theorem ssq_sweep (i : ℕ) (hi : i < 16) (r : Fin 1024) (s : Fin 2) (hs : s.val = i % 2) :
    ∀ j : ℕ, j < 8 → (st m c (8 * i + j + 1)).2 (ix3 s r 0) = sumsq (ys m c) (ws m c) (1024 * i + r.val) (512 * (j + 1)) := by
  have add (j : ℕ) : sumsq (ys m c) (ws m c) (1024 * i + r.val) (512 * (j + 1)) = sumsq (ys m c) (ws m c) (1024 * i + r.val) (512 * j)
      + ∑ q : Fin 512, cell (ys m c) (ws m c) (1024 * i + r.val) (512 * j + q.val) * cell (ys m c) (ws m c) (1024 * i + r.val) (512 * j + q.val) := by
    unfold sumsq
    rw [show 512 * (j + 1) = 512 * j + 512 by ring, Finset.sum_range_add]
    exact congrArg (_ + ·) (Finset.sum_range _)
  have point (j : ℕ) (hj : j < 8) (x : EReal)
      (hx : (if j = 0 then 0 else (st m c (8 * i + j)).2 (ix3 s r 0)) = x) :
      (st m c (8 * i + j + 1)).2 (ix3 s r 0) = x
        + ∑ q : Fin 512, cell (ys m c) (ws m c) (1024 * i + r.val) (512 * j + q.val) * cell (ys m c) (ws m c) (1024 * i + r.val) (512 * j + q.val) := by
    have hb : 8 * i + j < 128 := by omega
    have hN : 8 * i + j < cfg0.N := hb.trans (by decide)
    have h8 : (8 * i + j) / 8 = i := by omega
    have h9 : (8 * i + j) % 8 = j := by omega
    have e := st_step m c ⟨8 * i + j, hN⟩ hb
    have c0 := coord_row ⟨8 * i + j, hN⟩
    have c1 := coord_col ⟨8 * i + j, hN⟩
    rw [e]
    refine (ssqNext_apply _ _ _ _ _).trans ((if_pos ?_).trans ?_)
    · rw [c0]; show s.val = (8 * i + j) / 8 % 2; omega
    · refine congrArg₂ (fun (a b : EReal) => a + b) ?_ ?_
      · refine (sums_apply _ _ _).trans (.trans ?_ hx)
        have es : (⟨(grid0.coords ⟨8 * i + j, hN⟩ 0).val % 2, Nat.mod_lt _ (by decide)⟩ : Fin 2) = s :=
          Fin.ext (by show (grid0.coords ⟨8 * i + j, hN⟩ 0).val % 2 = s.val; rw [c0]; show (8 * i + j) / 8 % 2 = s.val; omega)
        rw [es, c1]
        show (if (8 * i + j) % 8 = 0 then _ else _) = _
        rw [h9]
      · refine Finset.sum_congr rfl fun q _ => ?_
        have ed := dot_cell m c ⟨8 * i + j, hN⟩ hb r q
        have ed' : cell (ys m c) (ws m c) (1024 * ((8 * i + j) / 8) + r.val) (512 * ((8 * i + j) % 8) + q.val)
            = cell (ys m c) (ws m c) (1024 * i + r.val) (512 * j + q.val) := by rw [h8, h9]
        exact congrArg₂ (fun (a b : EReal) => a * b) (ed.trans ed') (ed.trans ed')
  intro j
  induction j with
  | zero =>
    intro hj
    rw [add 0]
    refine point 0 hj _ ?_
    rw [if_pos rfl]; unfold sumsq; simp
  | succ j ih =>
    intro hj
    rw [add (j + 1)]
    refine point (j + 1) hj _ ?_
    rw [if_neg (Nat.succ_ne_zero j)]
    exact ih (by omega)

/-- A sweep's whole sums last through the next sweep. -/
theorem ssq_kept (i : ℕ) (hi : i < 16) (r : Fin 1024) (s : Fin 2) (hs : s.val = i % 2) :
    ∀ d : ℕ, d < 8 → (st m c (8 * i + 8 + d)).2 (ix3 s r 0) = sumsq (ys m c) (ws m c) (1024 * i + r.val) 4096
  | 0, _ => ssq_sweep m c i hi r s hs 7 (by omega)
  | d + 1, hd => by
    have ih := ssq_kept i hi r s hs d (by omega)
    rw [← ih]
    by_cases h : 8 * i + 8 + d < 128
    · have hN : 8 * i + 8 + d < cfg0.N := h.trans (by decide)
      have e := st_step m c ⟨8 * i + 8 + d, hN⟩ h
      rw [show 8 * i + 8 + (d + 1) = 8 * i + 8 + d + 1 from rfl, e]
      refine (ssqNext_apply _ _ _ _ _).trans (if_neg ?_)
      rw [coord_row]
      show ¬ s.val = (8 * i + 8 + d) / 8 % 2
      omega
    · exact congrFun (congrArg Prod.snd (st_stay m c (8 * i + 8 + d) (by omega))) _

/-! ## The output -/

/-- A point after the first sweep writes back the formula's block. -/
theorem out_block (t : Fin cfg0.N) (ht : 8 ≤ t.val) (r : Fin 1024) (q : Fin 512) (R : Fin 16384) (C : Fin 4096)
    (hR : R.val = 1024 * (t.val / 8 - 1) + r.val) (hC : C.val = 512 * (t.val % 8) + q.val) :
    outBlk (grid0.coords t) (iblk m c 2 t) (iblk m c 3 t) (st m c t.val).1 (st m c t.val).2 (ix2 r q)
      = normed (ys m c) (ws m c) (xs m c) (gs m c) R C := by
  have hr := r.isLt
  have hq := q.isLt
  have hN : t.val < 136 := lt_of_lt_of_eq t.isLt (by decide)
  have c0 := coord_row t
  have c1 := coord_col t
  have e2 : (cfg0.win 2).index t = ![t.val / 8 - 1, t.val % 8] := index_residual t
  have e3 : (cfg0.win 3).index t = ![0, t.val % 8] := index_scales t
  refine (outBlk_apply _ _ _ _ _ _ _).trans ?_
  unfold normed
  refine congrArg₂ (fun (a b : EReal) => a + b) ?_ (congrArg₂ (fun (a b : EReal) => a * b) (congrArg₂ (fun (a b : EReal) => a * b) ?_ ?_) ?_)
  · show _ = (m ((c : Thread nD τ).loc main_arg2) : Rows) _
    rw [← V_main_arg2 m c]
    refine congrArg (V m c main_arg2) (funext fun d => Fin.ext ?_)
    refine (Pipeline.Window.rect_emb_val_off (cfg0.win 2) t (ix2 r q) d).trans ?_
    rw [e2]; fin_cases d
    · show (t.val / 8 - 1) * 1024 + r.val = R.val; omega
    · show t.val % 8 * 512 + q.val = C.val; omega
  · have e := acc_kept m c ⟨t.val - 8, by have := t.isLt; omega⟩ (by show t.val - 8 < 128; omega) r q (grid0.coords t 1)
      (by rw [c1]; show t.val % 8 = (t.val - 8) % 8; omega) 7 (by omega)
    have en : t.val - 8 + 1 + 7 = t.val := by omega
    change (st m c (t.val - 8 + 1 + 7)).1 _ = cell _ _ (1024 * ((t.val - 8) / 8) + r.val) (512 * ((t.val - 8) % 8) + q.val) at e
    rw [en] at e
    refine e.trans (congrArg₂ (cell (ys m c) (ws m c)) ?_ ?_) <;> omega
  · refine congrArg (fun a : EReal => Ideal.rsqrt (a * Ideal.ofBits .f32 0x39800000#32 + Ideal.ofBits .f32 0x358637BD#32)) ?_
    have e := ssq_kept m c (t.val / 8 - 1) (by omega) r ⟨1 - (grid0.coords t 0).val % 2, by omega⟩
      (by show 1 - (grid0.coords t 0).val % 2 = _; rw [c0]; omega) (t.val % 8) (by omega)
    have en : 8 * (t.val / 8 - 1) + 8 + t.val % 8 = t.val := by omega
    rw [en] at e
    exact e.trans (congrArg (fun n => sumsq (ys m c) (ws m c) n 4096) hR.symm)
  · refine Eq.trans (b := (V m c main_v1 : S1x4096.Idx → EReal) (ix2 0 C)) ?_ ?_
    · refine congrArg (V m c main_v1) (funext fun d => Fin.ext ?_)
      refine (Pipeline.Window.rect_emb_val_off (cfg0.win 3) t (ix2 0 q) d).trans ?_
      rw [e3]; fin_cases d
      · rfl
      · show t.val % 8 * 512 + q.val = C.val; omega
    · rw [V_scales]
      refine (shapeCast_addUnit_apply ![4096] _ shapeCasts_S4096_S1x4096 (ix2 0 C)).trans (congrArg (gs m c) ?_)
      funext d; fin_cases d; rfl

/-- What a point after the first sweep writes back, through its block of the array. -/
theorem flushed_eq (t : Fin cfg0.N) (ht : 8 ≤ t.val) : (dats m 0 c).flushed 4 t
    = ((cfg0.win 4).blk t).view.read (Elt Ideal) (fun p : S16384x4096.Idx => normed (ys m c) (ws m c) (xs m c) (gs m c) (p 0) (p 1)) := by
  have e : (cfg0.win 4).index t = ![t.val / 8 - 1, t.val % 8] := index_out t
  funext y
  have hb := Pipeline.Window.rect_emb_val_off (cfg0.win 4) t y
  rw [e] at hb
  have h0 := hb (0 : Fin 2)
  have h1 := hb (1 : Fin 2)
  refine (congrFun (after_4 m c t) y).trans ?_
  rw [View.read_apply]
  obtain ⟨r, q, rfl⟩ : ∃ (r : Fin 1024) (q : Fin 512), y = ix2 r q := ⟨_, _, ValueIdx.eq_ix2 (n0 := 1024) (n1 := 512) y⟩
  refine out_block m c t ht r q _ _ (h0.trans ?_) (h1.trans ?_)
  · show (t.val / 8 - 1) * 1024 + r.val = _; omega
  · show t.val % 8 * 512 + q.val = _; omega

/-- Every index is in the block of a point after the first sweep. -/
theorem covered (p : S16384x4096.Idx) : ∃ t : Fin cfg0.N, 8 ≤ t.val ∧ p ∈ ((cfg0.win 4).blk t).view.set := by
  have h0 : (p 0).val < 16384 := (p 0).isLt
  have h1 : (p 1).val < 4096 := (p 1).isLt
  have hN : 8 * ((p 0).val / 1024 + 1) + (p 1).val / 512 < cfg0.N := by
    have : cfg0.N = 136 := by decide
    omega
  obtain ⟨t, ht⟩ : ∃ t : Fin cfg0.N, t.val = 8 * ((p 0).val / 1024 + 1) + (p 1).val / 512 := ⟨⟨_, hN⟩, rfl⟩
  refine ⟨t, by omega, ?_⟩
  have e : (cfg0.win 4).index t = ![t.val / 8 - 1, t.val % 8] := index_out t
  have hp : ((cfg0.win 4).blk t).view.emb (ix2 (⟨(p 0).val % 1024, Nat.mod_lt _ (by decide)⟩ : Fin 1024)
      (⟨(p 1).val % 512, Nat.mod_lt _ (by decide)⟩ : Fin 512)) = p := by
    refine funext fun d => Fin.ext ?_
    refine (Pipeline.Window.rect_emb_val_off (cfg0.win 4) t _ d).trans ?_
    rw [e]; fin_cases d
    · show (t.val / 8 - 1) * 1024 + (p 0).val % 1024 = (p 0).val; omega
    · show t.val % 8 * 512 + (p 1).val % 512 = (p 1).val; omega
  rw [← hp]
  exact View.emb_mem_set _ _

/-- So the array after the launch: the first sweep's blocks are all written over. -/
theorem array : (dats m 0 c).arrAt 4 cfg0.N
    = fun p : S16384x4096.Idx => normed (ys m c) (ws m c) (xs m c) (gs m c) (p 0) (p 1) := by
  funext p
  obtain ⟨t, ht, hp⟩ := covered p
  have key : ∀ n, t.val < n → (dats m 0 c).arrAt 4 n p = normed (ys m c) (ws m c) (xs m c) (gs m c) (p 0) (p 1) := by
    intro n
    induction n with
    | zero => intro h; omega
    | succ n ih =>
      intro h
      rw [(dats m 0 c).arrAt_succ_apply]
      by_cases hn : n < cfg0.N
      · rw [dif_pos hn, if_pos (flush0_4 _), flushed_eq m c ⟨n, hn⟩ (by show 8 ≤ n; omega), View.write_read_eq_piecewise]
        by_cases hm : p ∈ ((cfg0.win 4).blk ⟨n, hn⟩).view.setOn Finset.univ
        · rw [Finset.piecewise_eq_of_mem _ _ _ hm]
        · rw [Finset.piecewise_eq_of_notMem _ _ _ hm]
          have hne : t.val ≠ n := fun e => hm (by
            rw [View.setOn_univ]; have : t = ⟨n, hn⟩ := Fin.ext e; exact this ▸ hp)
          exact ih (by omega)
      · rw [dif_neg hn]
        exact ih (by have := t.isLt; omega)
  exact key _ t.isLt

end Cert.Proof.OutProj

end
-- ==== Proof.OutRef.lean ====
/- The output projection's reference at an index: the same formula. Its mean divides by the 4096 columns where the kernel
   multiplies by 2⁻¹². -/
module

public import proofs.«01_k».proof.Proof.OutArray
public import proofs.«01_k».proof.Proof.Gen.Reference2Ideal.Read

@[expose] public section

noncomputable section

namespace Cert.Proof.OutProj

open Idealize.ShloMosaic hiding ix1 ix2 ix3
open Idealize.ShloMosaic.TcCoe Idealize.ShloMosaic.ValueIdx
open Cert.Reference2Ideal Cert.Reference2Ideal.Read

/-- The number of columns, and its reciprocal. -/
theorem columns_lit : Ideal.ofBits .f32 0x45800000#32 = ((4096 : ℝ) : EReal) := by
  simp [Ideal.ofBits, Ideal.ieee, -EReal.coe_mul]; norm_num
theorem recip_lit : Ideal.ofBits .f32 0x39800000#32 = ((1 / 4096 : ℝ) : EReal) := by
  simp [Ideal.ofBits, Ideal.ieee, -EReal.coe_mul]; norm_num

/-- Dividing by the number of columns is multiplying by its reciprocal. -/
theorem mean_eq (x : EReal) : Ideal.div x (Ideal.ofBits .f32 0x45800000#32) = x * Ideal.ofBits .f32 0x39800000#32 := by
  rw [columns_lit, recip_lit]; exact Ideal.div_coe (by norm_num : (4096 : ℝ) ≠ 0) x

variable (x0 : Rows) (x1 : Weights) (x2 : Rows) (x3 : Scales)

/-- The product. -/
theorem ref_cell (i : S16384x4096.Idx) : val_main_v3 (F := Ideal) x0 x1 i = cell x0 x1 (i 0).val (i 1).val := by
  have h0 : (i 0).val < 16384 := (i 0).isLt
  have h1 : (i 1).val < 4096 := (i 1).isLt
  rw [val_main_v3_apply]
  unfold cell
  rw [dif_pos ⟨h0, h1⟩]
  refine Finset.sum_congr rfl fun k _ => congrArg₂ (fun (a b : EReal) => a * b) ?_ ?_
  · rw [val_main_v0_apply]
    refine congrArg x0 (funext fun d => ?_)
    fin_cases d <;> rfl
  · rw [val_main_v2_apply, val_main_v1_apply]
    refine congrArg x1 (funext fun d => ?_)
    fin_cases d
    · rfl
    · exact Fin.ext (by show (k.val * 4096 + (i 1).val) / 4096 % 4096 = k.val; omega)
    · exact Fin.ext (by show (k.val * 4096 + (i 1).val) % 4096 = (i 1).val; omega)

/-- A row's squares, summed. -/
theorem ref_sumsq (i : S16384.Idx) : val_main_v5 (F := Ideal) x0 x1 i = sumsq x0 x1 (i 0).val 4096 := by
  rw [val_main_v5_apply, val_main_cst_apply]
  refine (congrArg (fun a : EReal => a + _) Ideal.ofBits_zero_f32).trans ((zero_add _).trans ?_)
  unfold sumsq
  rw [Finset.sum_range]
  refine Finset.sum_congr rfl fun k _ => ?_
  rw [val_main_v4_apply, ref_cell]
  rfl

/-- The reference's result at an index. -/
theorem ref_at (i : S16384x4096.Idx) : val_main_v17 (F := Ideal) x0 x1 x2 x3 i = normed x0 x1 x2 x3 (i 0) (i 1) := by
  rw [val_main_v17_apply, val_main_v16_apply, val_main_v13_apply, ref_cell, val_main_v12_apply, val_main_v11_apply,
    val_main_v10_apply, val_main_v8_apply, val_main_v6_apply, ref_sumsq, val_main_v7_apply, val_main_v9_apply,
    val_main_v15_apply, val_main_v14_apply]
  unfold normed
  refine congrArg₂ (fun (a b : EReal) => a + b) (congrArg x2 ?_)
    (congrArg₂ (fun (a b : EReal) => a * b) (congrArg₂ (fun (a b : EReal) => a * b) rfl ?_) (congrArg x3 ?_))
  · funext d; fin_cases d <;> rfl
  · exact congrArg (fun a : EReal => Ideal.rsqrt (a + Ideal.ofBits .f32 0x358637BD#32)) (mean_eq _)
  · funext d; fin_cases d; rfl

end Cert.Proof.OutProj

end
-- ==== Proof.OutClaims.lean ====
/- The output projection's claims: the frames of the kernel and its idealization (one run, generic in the float values,
   read twice), the frame of its reference, and the equality of the two results over the reals. -/
module

public import proofs.«01_k».proof.Defs
public import proofs.«01_k».proof.Proof.Gen.Kernel2
public import proofs.«01_k».proof.Proof.OutRef
public import proofs.«01_k».proof.Proof.Gen.Reference2Ideal.Run

@[expose] public section

noncomputable section

namespace Cert.Proof.OutProj

open Idealize.ShloMosaic Idealize.ShloMosaic.TcCoe Idealize.SL.Sem

theorem frame_ideal : Cert.quiescent_Kernel2Ideal := fun m ρ _ => frame m ρ

/-- The body called at a point is the same in the kernel and in its idealization … -/
theorem bodies_eq : Cert.Kernel2.defs₀ (F := Bits) = Cert.Kernel2Ideal.defs₀ (F := Bits) := by
  refine congrArg Defs.onTc (funext fun l => funext fun a => ?_)
  match l, a with
  | 0, (t, s) => rfl
  | ⟨n + 1, h⟩, _ => exact absurd h (by omega)

/-- … and so is the pipeline around it. -/
theorem defs_eq : Cert.Kernel2.defs (F := Bits) = Cert.Kernel2Ideal.defs (F := Bits) :=
  congrArg (Pipeline.defs Cert.Kernel2Ideal.pcfgs) bodies_eq

/-- The kernel's frame is its idealization's run, read at the bits. -/
theorem frame_bits : Cert.quiescent_Kernel2 := fun m ρ _ => by
  rw [defs_eq]; exact frame (F := Bits) m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two results are the same formula of the same arguments. -/
theorem algebraic : Cert.algebraic_Kernel2Ideal_Reference2Ideal := fun m ρ m' ρ' _ hm => by
  refine ⟨_, (θ_run _ _ _).mono (fun r h c => ⟨((h.2.1 c).1 4).trans (array m c), h.1.1 c⟩)
      (θ_run_and (frame (F := Ideal) m ρ) (launched (F := Ideal) m ρ)),
    (θ_run _ _ _).mono (fun r h c => ⟨(h c).1.trans ?_, (h c).2⟩) (Cert.Reference2Ideal.Value.run (F := Ideal) m' ρ')⟩
  refine (Cert.Reference2Ideal.Read.val_main_v17_eq _ _ _ _).trans (funext fun i => ?_)
  obtain ⟨h0, h1, h2, h3⟩ := hm c
  rw [h0, h1, h2, h3]
  exact ref_at _ _ _ _ i

end Cert.Proof.OutProj

end
-- ==== Proof.MergeBody.lean ====
/- One grid point of the merge projection: the block the body leaves, as three gated products summed, at every index. -/
module

public import proofs.«01_k».proof.Proof.Gen.Kernel3Ideal.Frame
public import Idealize.ShloMosaic.Lib.ValueIdxCore
public import Idealize.ShloMosaic.Lib.MatmulPlain
public import Idealize.ShloMosaic.PureOps.Ideal
public import Idealize.ShloMosaic.Lib.Pipeline.Value

@[expose] public section

set_option maxRecDepth 16384

noncomputable section

namespace Cert.Proof.Merge

open Idealize.ShloMosaic Idealize.ShloMosaic.TcCoe Idealize.ShloMosaic.ValueIdx
open Cert.Kernel3Ideal Cert.Kernel3Ideal.Gen

/-! ## One row chunk -/

/-- A chunk's product, as the body computes it. -/
abbrev prod (a : Vec Ideal S256x2048 .bf16) (w : Vec Ideal S1x2048x512 .bf16) : FVec Ideal S256x512 .f32 :=
  matmul (φ₁ := .bf16) (φ₂ := .bf16) dot_S256x2048_S2048x512_S256x512_1_0_0_1_n_n none a (shapeCast S2048x512 w shapeCasts_S1x2048x512_S2048x512 : FVec Ideal S2048x512 .bf16)
    (constant S256x512 .f32 0x00000000#32)

/-- The product at an index: a sum over the 2048 contracted columns. -/
theorem prod_apply (a : Vec Ideal S256x2048 .bf16) (w : Vec Ideal S1x2048x512 .bf16) (p : S256x512.Idx) :
    prod a w p = ∑ k : Fin 2048, a (ix2 (p 0) k) * w (ix3 0 k (p 1)) := by
  obtain ⟨r, q, rfl⟩ : ∃ r q, p = ix2 r q := ⟨_, _, eq_ix2 p⟩
  refine (Ideal.matmul_plain_apply (M := 256) (K := 2048) (N := 512) (φ₁ := .bf16) (φ₂ := .bf16) none a (shapeCast S2048x512 w shapeCasts_S1x2048x512_S2048x512) (constant S256x512 .f32 0x00000000#32) r q).trans ?_
  have z : constant (F := Ideal) S256x512 .f32 0x00000000#32 (ix2 r q) = 0 := by
    show Ideal.ofBits .f32 0x00000000#32 = 0
    simp
  rw [z, zero_add]
  refine Finset.sum_congr rfl fun k _ => congrArg (a (ix2 r k) * ·) ?_
  refine (shapeCast_dropUnit_apply ![2048, 512] w shapeCasts_S1x2048x512_S2048x512 _).trans (congrArg w ?_)
  funext d; fin_cases d <;> rfl

/-- A chunk: the three products, each times its gate. -/
def chunk (a₁ : Vec Ideal S256x2048 .bf16) (w₁ : Vec Ideal S1x2048x512 .bf16) (g₁ : Vec Ideal S256x512 .bf16)
    (a₂ : Vec Ideal S256x2048 .bf16) (w₂ : Vec Ideal S1x2048x512 .bf16) (g₂ : Vec Ideal S256x512 .bf16)
    (a₃ : Vec Ideal S256x2048 .bf16) (w₃ : Vec Ideal S1x2048x512 .bf16) (g₃ : Vec Ideal S256x512 .bf16) (p : S256x512.Idx) : EReal :=
  g₁ p * prod a₁ w₁ p + g₂ p * prod a₂ w₂ p + g₃ p * prod a₃ w₃ p

/-! ## The block -/

/-- Row `y 0` of a branch times column `y 1` of its weights, times the gate there. -/
def gated (a : Vec Ideal S1024x2048 .bf16) (w : Vec Ideal S1x2048x512 .bf16) (g : Vec Ideal S1024x512 .bf16) (y : S1024x512.Idx) : EReal :=
  g y * ∑ k : Fin 2048, a (ix2 (y 0) k) * w (ix3 0 k (y 1))

/-- A chunk's gated product, of rows `o` on, is that part of the block's. -/
theorem gated_rows (a : Vec Ideal S1024x2048 .bf16) (w : Vec Ideal S1x2048x512 .bf16) (g : Vec Ideal S1024x512 .bf16) (o : ℕ) (h) (h')
    (p : S256x512.Idx) :
    (View.ld g (Rect.unit (s := S1024x512) ![o, 0] ![256, 512] h') p : EReal)
        * prod (View.ld a (Rect.unit (s := S1024x2048) ![o, 0] ![256, 2048] h)) (View.ld w r0_2) p
      = gated a w g ((Rect.unit (s := S1024x512) ![o, 0] ![256, 512] h').emb p) := by
  rw [prod_apply, show View.ld w r0_2 = w from View.ld_unit_zero (by funext d; fin_cases d <;> rfl) _ w]
  refine congrArg (fun x : EReal => (View.ld g (Rect.unit (s := S1024x512) ![o, 0] ![256, 512] h') p : EReal) * x) (Finset.sum_congr rfl fun k _ => ?_)
  refine congrArg₂ (fun (x y : EReal) => x * y) (congrArg a ?_) (congrArg w ?_)
  · funext d; fin_cases d
    · rfl
    · exact Fin.ext (by show 0 + 1 * k.val = k.val; omega)
  · funext d; fin_cases d
    · rfl
    · rfl
    · exact Fin.ext (by show (p 1).val = 0 + 1 * (p 1).val; omega)

variable (x0 x1 x2 : Vec Ideal S1024x2048 .bf16) (x3 x4 x5 : Vec Ideal S1x2048x512 .bf16) (x6 x7 x8 : Vec Ideal S1024x512 .bf16)

/-- The block: the three branches' gated products, summed. -/
def blk (y : S1024x512.Idx) : EReal := gated x0 x3 x6 y + gated x1 x4 x7 y + gated x2 x5 x8 y

theorem piece (o : ℕ) (h) (h') (p : S256x512.Idx) :
    chunk (View.ld x0 (Rect.unit (s := S1024x2048) ![o, 0] ![256, 2048] h)) (View.ld x3 r0_2) (View.ld x6 (Rect.unit (s := S1024x512) ![o, 0] ![256, 512] h'))
      (View.ld x1 (Rect.unit (s := S1024x2048) ![o, 0] ![256, 2048] h)) (View.ld x4 r0_2) (View.ld x7 (Rect.unit (s := S1024x512) ![o, 0] ![256, 512] h'))
      (View.ld x2 (Rect.unit (s := S1024x2048) ![o, 0] ![256, 2048] h)) (View.ld x5 r0_2) (View.ld x8 (Rect.unit (s := S1024x512) ![o, 0] ![256, 512] h')) p
    = blk x0 x1 x2 x3 x4 x5 x6 x7 x8 ((Rect.unit (s := S1024x512) ![o, 0] ![256, 512] h').emb p) := by
  unfold chunk blk
  rw [← gated_rows x0 x3 x6 o h h' p, ← gated_rows x1 x4 x7 o h h' p, ← gated_rows x2 x5 x8 o h h' p]

/-- What the body leaves is the block. -/
theorem out_eq : out0_9 x0 x1 x2 x3 x4 x5 x6 x7 x8 = blk x0 x1 x2 x3 x4 x5 x6 x7 x8 := by
  funext y
  refine View.canon_apply_of_pieces (Val := Elt Ideal) (e := .bf16) (blk x0 x1 x2 x3 x4 x5 x6 x7 x8) _ ?_ y (cover0_9 _ _ _ _ y)
  simp only [List.forall_mem_cons]
  exact ⟨fun p => piece x0 x1 x2 x3 x4 x5 x6 x7 x8 768 _ _ p, fun p => piece x0 x1 x2 x3 x4 x5 x6 x7 x8 512 _ _ p,
    fun p => piece x0 x1 x2 x3 x4 x5 x6 x7 x8 256 _ _ p, fun p => piece x0 x1 x2 x3 x4 x5 x6 x7 x8 0 _ _ p, List.forall_mem_nil _⟩

end Cert.Proof.Merge

end
-- ==== Proof.MergeArray.lean ====
/- The array the merge projection's launch leaves, and its reference: at every index three gated products, summed. -/
module

public import proofs.«01_k».proof.Proof.MergeBody
public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Proof.Merge

open Idealize.ShloMosaic hiding ix1 ix2 ix3
open Idealize.ShloMosaic.TcCoe Idealize.ShloMosaic.ValueIdx

/-! ## The formula -/

/-- A branch's rows, its output weights, and the projected gates. -/
abbrev Branch : Type := (⟨2, ![16384, 2048]⟩ : Shape).Idx → EReal
abbrev Weights : Type := (⟨3, ![2, 2048, 4096]⟩ : Shape).Idx → EReal
abbrev Projected : Type := (⟨2, ![16384, 29184]⟩ : Shape).Idx → EReal

/-- Row `r` of a branch times column `q` of layer 0's weights, times the gate in column `o + q`. -/
def term (a : Branch) (w : Weights) (p : Projected) (o : ℕ) (ho : o + 4096 ≤ 29184) (r : Fin 16384) (q : Fin 4096) : EReal :=
  p (ix2 r ⟨o + q.val, by omega⟩) * ∑ k : Fin 2048, a (ix2 r k) * w (ix3 0 k q)

/-- The merged branches: one gated term for each. -/
def merged (a₁ a₂ a₃ : Branch) (w₁ w₂ w₃ : Weights) (p : Projected) (r : Fin 16384) (q : Fin 4096) : EReal :=
  term a₁ w₁ p 16384 (by omega) r q + term a₂ w₂ p 20480 (by omega) r q + term a₃ w₃ p 24576 (by omega) r q

/-! ## The launch -/

section Kernel

open Cert.Kernel3Ideal Cert.Kernel3Ideal.Gen

theorem index_rows : ∀ t : Fin grid0.N, cc0_transform_0 (grid0.coords t) = ![t.val / 8, 0]
    ∧ cc0_transform_1 (grid0.coords t) = ![t.val / 8, 0] ∧ cc0_transform_2 (grid0.coords t) = ![t.val / 8, 0] := by decide +kernel
theorem index_weights : ∀ t : Fin grid0.N, cc0_transform_3 (grid0.coords t) = ![0, 0, t.val % 8]
    ∧ cc0_transform_4 (grid0.coords t) = ![0, 0, t.val % 8] ∧ cc0_transform_5 (grid0.coords t) = ![0, 0, t.val % 8] := by decide +kernel
theorem index_gates : ∀ t : Fin grid0.N, cc0_transform_6 (grid0.coords t) = ![t.val / 8, 32 + t.val % 8]
    ∧ cc0_transform_7 (grid0.coords t) = ![t.val / 8, 40 + t.val % 8] ∧ cc0_transform_8 (grid0.coords t) = ![t.val / 8, 48 + t.val % 8] := by decide +kernel
theorem index_out : ∀ t : Fin grid0.N, cc0_transform_9 (grid0.coords t) = ![t.val / 8, t.val % 8] := by decide +kernel

variable (m : (ℓ : Loc nD τ sig) → Buf (Elt Ideal) ℓ) (c : Dev nD) (t : Fin cfg0.N)

theorem V_wa : (V m c main_v0 : S2x2048x4096.Idx → EReal) = m ((c : Thread nD τ).loc main_arg3) := by
  have e : (V m c main_v0 : S2x2048x4096.Idx → EReal) = truncf (F := Ideal) .bf16 (m ((c : Thread nD τ).loc main_arg3)) bitsLt_bf16_f32 := by
    unfold V; after_results_simp
  rw [e]; rfl
theorem V_wb : (V m c main_v1 : S2x2048x4096.Idx → EReal) = m ((c : Thread nD τ).loc main_arg4) := by
  have e : (V m c main_v1 : S2x2048x4096.Idx → EReal) = truncf (F := Ideal) .bf16 (m ((c : Thread nD τ).loc main_arg4)) bitsLt_bf16_f32 := by
    unfold V; after_results_simp
  rw [e]; rfl
theorem V_wc : (V m c main_v2 : S2x2048x4096.Idx → EReal) = m ((c : Thread nD τ).loc main_arg5) := by
  have e : (V m c main_v2 : S2x2048x4096.Idx → EReal) = truncf (F := Ideal) .bf16 (m ((c : Thread nD τ).loc main_arg5)) bitsLt_bf16_f32 := by
    unfold V; after_results_simp
  rw [e]; rfl

/-- A point's gated product of one branch is the formula's term, given where the three blocks lie in their arrays. -/
theorem gated_term (x : Vec Ideal S1024x2048 .bf16) (w : Vec Ideal S1x2048x512 .bf16) (g : Vec Ideal S1024x512 .bf16)
    (A : Branch) (W : Weights) (P : Projected) (o : ℕ) (ho : o + 4096 ≤ 29184) (y : S1024x512.Idx) (r : Fin 16384) (q : Fin 4096)
    (hx : ∀ k : Fin 2048, x (ix2 (y 0) k) = A (ix2 r k)) (hw : ∀ k : Fin 2048, w (ix3 0 k (y 1)) = W (ix3 0 k q))
    (hg : g y = P (ix2 r ⟨o + q.val, by omega⟩)) : gated x w g y = term A W P o ho r q := by
  unfold gated term
  rw [hg]
  exact congrArg (P (ix2 r ⟨o + q.val, by omega⟩) * ·) (Finset.sum_congr rfl fun k _ => by rw [hx k, hw k])

/-- Branch 1 at a point. -/
theorem term_a (y : S1024x512.Idx) (r : Fin 16384) (q : Fin 4096) (hr : r.val = t.val / 8 * 1024 + (y 0).val) (hq : q.val = t.val % 8 * 512 + (y 1).val) :
    gated (iblk m c 0 t) (iblk m c 3 t) (iblk m c 6 t) y
      = term (m ((c : Thread nD τ).loc main_arg0)) (m ((c : Thread nD τ).loc main_arg3)) (m ((c : Thread nD τ).loc main_arg6)) 16384 (by omega) r q := by
  have ex : (cfg0.win 0).index t = ![t.val / 8, 0] := (index_rows t).1
  have ew : (cfg0.win 3).index t = ![0, 0, t.val % 8] := (index_weights t).1
  have eg : (cfg0.win 6).index t = ![t.val / 8, 32 + t.val % 8] := (index_gates t).1
  refine gated_term _ _ _ _ _ _ 16384 (by omega) y r q (fun k => ?_) (fun k => ?_) ?_
  · rw [← V_main_arg0 m c]
    refine congrArg (V m c main_arg0) (funext fun d => Fin.ext ?_)
    refine (Pipeline.Window.rect_emb_val_off (cfg0.win 0) t (ix2 (y 0) k) d).trans ?_
    rw [ex]; fin_cases d
    · exact hr.symm
    · show 0 * 2048 + k.val = k.val; omega
  · rw [← V_wa m c]
    refine congrArg (V m c main_v0) (funext fun d => Fin.ext ?_)
    refine (Pipeline.Window.rect_emb_val_off (cfg0.win 3) t (ix3 0 k (y 1)) d).trans ?_
    rw [ew]; fin_cases d
    · rfl
    · show 0 * 2048 + k.val = k.val; omega
    · exact hq.symm
  · rw [← V_main_arg6 m c]
    refine congrArg (V m c main_arg6) (funext fun d => Fin.ext ?_)
    refine (Pipeline.Window.rect_emb_val_off (cfg0.win 6) t y d).trans ?_
    rw [eg]; fin_cases d
    · exact hr.symm
    · show (32 + t.val % 8) * 512 + (y 1).val = 16384 + q.val; omega

/-- Branch 2 at a point. -/
theorem term_b (y : S1024x512.Idx) (r : Fin 16384) (q : Fin 4096) (hr : r.val = t.val / 8 * 1024 + (y 0).val) (hq : q.val = t.val % 8 * 512 + (y 1).val) :
    gated (iblk m c 1 t) (iblk m c 4 t) (iblk m c 7 t) y
      = term (m ((c : Thread nD τ).loc main_arg1)) (m ((c : Thread nD τ).loc main_arg4)) (m ((c : Thread nD τ).loc main_arg6)) 20480 (by omega) r q := by
  have ex : (cfg0.win 1).index t = ![t.val / 8, 0] := (index_rows t).2.1
  have ew : (cfg0.win 4).index t = ![0, 0, t.val % 8] := (index_weights t).2.1
  have eg : (cfg0.win 7).index t = ![t.val / 8, 40 + t.val % 8] := (index_gates t).2.1
  refine gated_term _ _ _ _ _ _ 20480 (by omega) y r q (fun k => ?_) (fun k => ?_) ?_
  · rw [← V_main_arg1 m c]
    refine congrArg (V m c main_arg1) (funext fun d => Fin.ext ?_)
    refine (Pipeline.Window.rect_emb_val_off (cfg0.win 1) t (ix2 (y 0) k) d).trans ?_
    rw [ex]; fin_cases d
    · exact hr.symm
    · show 0 * 2048 + k.val = k.val; omega
  · rw [← V_wb m c]
    refine congrArg (V m c main_v1) (funext fun d => Fin.ext ?_)
    refine (Pipeline.Window.rect_emb_val_off (cfg0.win 4) t (ix3 0 k (y 1)) d).trans ?_
    rw [ew]; fin_cases d
    · rfl
    · show 0 * 2048 + k.val = k.val; omega
    · exact hq.symm
  · rw [← V_main_arg6 m c]
    refine congrArg (V m c main_arg6) (funext fun d => Fin.ext ?_)
    refine (Pipeline.Window.rect_emb_val_off (cfg0.win 7) t y d).trans ?_
    rw [eg]; fin_cases d
    · exact hr.symm
    · show (40 + t.val % 8) * 512 + (y 1).val = 20480 + q.val; omega

/-- Branch 3 at a point. -/
theorem term_c (y : S1024x512.Idx) (r : Fin 16384) (q : Fin 4096) (hr : r.val = t.val / 8 * 1024 + (y 0).val) (hq : q.val = t.val % 8 * 512 + (y 1).val) :
    gated (iblk m c 2 t) (iblk m c 5 t) (iblk m c 8 t) y
      = term (m ((c : Thread nD τ).loc main_arg2)) (m ((c : Thread nD τ).loc main_arg5)) (m ((c : Thread nD τ).loc main_arg6)) 24576 (by omega) r q := by
  have ex : (cfg0.win 2).index t = ![t.val / 8, 0] := (index_rows t).2.2
  have ew : (cfg0.win 5).index t = ![0, 0, t.val % 8] := (index_weights t).2.2
  have eg : (cfg0.win 8).index t = ![t.val / 8, 48 + t.val % 8] := (index_gates t).2.2
  refine gated_term _ _ _ _ _ _ 24576 (by omega) y r q (fun k => ?_) (fun k => ?_) ?_
  · rw [← V_main_arg2 m c]
    refine congrArg (V m c main_arg2) (funext fun d => Fin.ext ?_)
    refine (Pipeline.Window.rect_emb_val_off (cfg0.win 2) t (ix2 (y 0) k) d).trans ?_
    rw [ex]; fin_cases d
    · exact hr.symm
    · show 0 * 2048 + k.val = k.val; omega
  · rw [← V_wc m c]
    refine congrArg (V m c main_v2) (funext fun d => Fin.ext ?_)
    refine (Pipeline.Window.rect_emb_val_off (cfg0.win 5) t (ix3 0 k (y 1)) d).trans ?_
    rw [ew]; fin_cases d
    · rfl
    · show 0 * 2048 + k.val = k.val; omega
    · exact hq.symm
  · rw [← V_main_arg6 m c]
    refine congrArg (V m c main_arg6) (funext fun d => Fin.ext ?_)
    refine (Pipeline.Window.rect_emb_val_off (cfg0.win 8) t y d).trans ?_
    rw [eg]; fin_cases d
    · exact hr.symm
    · show (48 + t.val % 8) * 512 + (y 1).val = 24576 + q.val; omega

/-- The array after the launch. -/
theorem array : (dats m 0 c).arrAt 9 cfg0.N
    = fun i : S16384x4096.Idx => merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 9 _ (by decide +kernel) fun t _ y => ?_
  have e : (cfg0.win 9).index t = ![t.val / 8, t.val % 8] := index_out t
  have hb := Pipeline.Window.rect_emb_val_off (cfg0.win 9) t y
  rw [e] at hb
  refine (congrFun (after0_9 m c t) y).trans ((congrFun (out_eq _ _ _ _ _ _ _ _ _) y).trans ?_)
  unfold blk merged
  exact congrArg₂ (fun (a b : EReal) => a + b) (congrArg₂ (fun (a b : EReal) => a + b)
    (term_a m c t y _ _ (hb (0 : Fin 2)) (hb (1 : Fin 2))) (term_b m c t y _ _ (hb (0 : Fin 2)) (hb (1 : Fin 2))))
    (term_c m c t y _ _ (hb (0 : Fin 2)) (hb (1 : Fin 2)))

end Kernel

/-! ## The reference -/

section Reference

open Cert.Reference3Ideal Cert.Reference3Ideal.Gen Cert.Reference3Ideal.Read

variable (x0 x1 x2 : (⟨S16384x2048, .bf16⟩ : BufTy).Contents (Elt Ideal)) (x3 x4 x5 : (⟨S2x2048x4096, .f32⟩ : BufTy).Contents (Elt Ideal))
  (x6 : (⟨S16384x29184, .bf16⟩ : BufTy).Contents (Elt Ideal))

theorem ref_a (i : S16384x4096.Idx) : val_main_v9 (F := Ideal) x0 x3 x6 i = term x0 x3 x6 16384 (by omega) (i 0) (i 1) := by
  have hq : (i 1).val < 4096 := (i 1).isLt
  rw [val_main_v9_apply]
  refine congrArg₂ (fun (a b : EReal) => a * b) ?_ ?_
  · rw [val_main_v2_apply, val_main_v1_apply, val_main_v0_apply]
    refine congrArg x6 (funext fun d => ?_)
    fin_cases d
    · rfl
    · exact Fin.ext (by show 16384 + (i 1).val = 16384 + (i 1).val; omega)
  · rw [val_main_v8_apply]
    refine Finset.sum_congr rfl fun k _ => ?_
    rw [val_main_v7_apply, val_main_v6_apply]
    refine congrArg₂ (fun (a b : EReal) => a * b) (congrArg x0 ?_) (congrArg x3 ?_)
    · funext d; fin_cases d <;> rfl
    · have hk : k.val < 2048 := k.isLt
      funext d; fin_cases d
      · rfl
      · exact Fin.ext (by show (k.val * 4096 + (i 1).val) / 4096 % 2048 = k.val; omega)
      · exact Fin.ext (by show (k.val * 4096 + (i 1).val) % 4096 = (i 1).val; omega)

theorem ref_b (i : S16384x4096.Idx) : val_main_v14 (F := Ideal) x1 x4 x6 i = term x1 x4 x6 20480 (by omega) (i 0) (i 1) := by
  have hq : (i 1).val < 4096 := (i 1).isLt
  rw [val_main_v14_apply]
  refine congrArg₂ (fun (a b : EReal) => a * b) ?_ ?_
  · rw [val_main_v3_apply, val_main_v1_apply, val_main_v0_apply]
    refine congrArg x6 (funext fun d => ?_)
    fin_cases d
    · rfl
    · exact Fin.ext (by show 16384 + (4096 + (i 1).val) = 20480 + (i 1).val; omega)
  · rw [val_main_v13_apply]
    refine Finset.sum_congr rfl fun k _ => ?_
    rw [val_main_v12_apply, val_main_v11_apply]
    refine congrArg₂ (fun (a b : EReal) => a * b) (congrArg x1 ?_) (congrArg x4 ?_)
    · funext d; fin_cases d <;> rfl
    · have hk : k.val < 2048 := k.isLt
      funext d; fin_cases d
      · rfl
      · exact Fin.ext (by show (k.val * 4096 + (i 1).val) / 4096 % 2048 = k.val; omega)
      · exact Fin.ext (by show (k.val * 4096 + (i 1).val) % 4096 = (i 1).val; omega)

theorem ref_c (i : S16384x4096.Idx) : val_main_v20 (F := Ideal) x2 x5 x6 i = term x2 x5 x6 24576 (by omega) (i 0) (i 1) := by
  have hq : (i 1).val < 4096 := (i 1).isLt
  rw [val_main_v20_apply]
  refine congrArg₂ (fun (a b : EReal) => a * b) ?_ ?_
  · rw [val_main_v4_apply, val_main_v1_apply, val_main_v0_apply]
    refine congrArg x6 (funext fun d => ?_)
    fin_cases d
    · rfl
    · exact Fin.ext (by show 16384 + (8192 + (i 1).val) = 24576 + (i 1).val; omega)
  · rw [val_main_v19_apply]
    refine Finset.sum_congr rfl fun k _ => ?_
    rw [val_main_v18_apply, val_main_v17_apply]
    refine congrArg₂ (fun (a b : EReal) => a * b) (congrArg x2 ?_) (congrArg x5 ?_)
    · funext d; fin_cases d <;> rfl
    · have hk : k.val < 2048 := k.isLt
      funext d; fin_cases d
      · rfl
      · exact Fin.ext (by show (k.val * 4096 + (i 1).val) / 4096 % 2048 = k.val; omega)
      · exact Fin.ext (by show (k.val * 4096 + (i 1).val) % 4096 = (i 1).val; omega)

/-- The reference's result at an index. -/
theorem ref_at (i : S16384x4096.Idx) : val_main_v22 (F := Ideal) x0 x1 x2 x3 x4 x5 x6 i = merged x0 x1 x2 x3 x4 x5 x6 (i 0) (i 1) := by
  show val_main_v21 (F := Ideal) x0 x1 x2 x3 x4 x5 x6 i = _
  rw [val_main_v21_apply, val_main_v15_apply, ref_a, ref_b, ref_c]
  rfl

end Reference

end Cert.Proof.Merge

end
-- ==== Proof.MergeClaims.lean ====
/- The merge projection's claims: the frames of the kernel and its idealization (one run, generic in the float values,
   read twice), the frame of its reference, and the equality of the two results over the reals. -/
module

public import proofs.«01_k».proof.Defs
public import proofs.«01_k».proof.Proof.Gen.Kernel3
public import proofs.«01_k».proof.Proof.MergeArray
public import proofs.«01_k».proof.Proof.Gen.Reference3Ideal.Run

@[expose] public section

noncomputable section

namespace Cert.Proof.Merge

open Idealize.ShloMosaic Idealize.ShloMosaic.TcCoe Idealize.SL.Sem

theorem frame_ideal : Cert.quiescent_Kernel3Ideal := fun m ρ _ => Cert.Kernel3Ideal.Gen.frame m ρ

/-- The body called at a point is the same in the kernel and in its idealization … -/
theorem bodies_eq : Cert.Kernel3.defs₀ (F := Bits) = Cert.Kernel3Ideal.defs₀ (F := Bits) := by
  refine congrArg Defs.onTc (funext fun l => funext fun a => ?_)
  match l, a with
  | 0, (t, s) => rfl
  | ⟨n + 1, h⟩, _ => exact absurd h (by omega)

/-- … and so is the pipeline around it. -/
theorem defs_eq : Cert.Kernel3.defs (F := Bits) = Cert.Kernel3Ideal.defs (F := Bits) :=
  congrArg (Pipeline.defs Cert.Kernel3Ideal.pcfgs) bodies_eq

/-- The kernel's frame is its idealization's run, read at the bits. -/
theorem frame_bits : Cert.quiescent_Kernel3 := fun m ρ _ => by
  rw [defs_eq]; exact Cert.Kernel3Ideal.Gen.frame (F := Bits) m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The two results are the same formula of the same arguments. -/
theorem algebraic : Cert.algebraic_Kernel3Ideal_Reference3Ideal := fun m ρ m' ρ' _ hm => by
  refine ⟨_, (θ_run _ _ _).mono (fun r h c => ⟨(h c).1.trans (array m c), (h c).2⟩) (Cert.Kernel3Ideal.Value.run_blocks (F := Ideal) m ρ),
    (θ_run _ _ _).mono (fun r h c => ⟨(h c).1.trans ?_, (h c).2⟩) (Cert.Reference3Ideal.Value.run (F := Ideal) m' ρ')⟩
  refine (Cert.Reference3Ideal.Read.val_main_v22_eq _ _ _ _ _ _ _).trans (funext fun i => ?_)
  obtain ⟨h0, h1, h2, h3, h4, h5, h6⟩ := hm c
  rw [h0, h1, h2, h3, h4, h5, h6]
  exact ref_at _ _ _ _ _ _ _ i

end Cert.Proof.Merge

end
-- ==== Proof.Norm.lean ====
/- A row's norm by its root mean square, the formula three of the calls share. -/
module

public import Idealize.ShloMosaic.PureOps.Ideal

@[expose] public section

noncomputable section

namespace Cert.Proof.Norm

open Idealize.ShloMosaic

/-- A row's factor: one over the root of its mean square, the small constant added; `count` is the row's length as a
    32-bit float. -/
def factor {n : ℕ} (count : BitVec 32) (x : Fin n → EReal) : EReal :=
  Ideal.rsqrt (Ideal.div (∑ k, x k * x k) (Ideal.ofBits .f32 count) + Ideal.ofBits .f32 0x358637BD#32)

/-- The normed row, each column times its gain. -/
def normed {n : ℕ} (count : BitVec 32) (x g : Fin n → EReal) (k : Fin n) : EReal := x k * factor count x * g k

end Cert.Proof.Norm

end
-- ==== Proof.Prenorm.lean ====
/- The norm before the projections: the array its launch leaves and its reference, both one row's norm at every index. -/
module

public import proofs.«01_k».proof.Proof.Norm
public import proofs.«01_k».proof.Proof.Gen.Kernel4Ideal.Value
public import proofs.«01_k».proof.Proof.Gen.Reference4Ideal.Read
public import Idealize.ShloMosaic.Lib.ValueIdxCore
public import Idealize.ShloMosaic.Lib.Pipeline.ValueKit

@[expose] public section

set_option maxRecDepth 16384

noncomputable section

namespace Cert.Proof.Prenorm

open Idealize.ShloMosaic hiding ix1 ix2 ix3
open Idealize.ShloMosaic.TcCoe Idealize.ShloMosaic.ValueIdx

abbrev Tokens : Type := (⟨2, ![16384, 4096]⟩ : Shape).Idx → EReal
abbrev Gains : Type := (⟨1, ![4096]⟩ : Shape).Idx → EReal

/-- Row `r` normed, at column `q`. -/
def row (x : Tokens) (g : Gains) (r : Fin 16384) (q : Fin 4096) : EReal :=
  Norm.normed 0x45800000#32 (fun k => x (ix2 r k)) (fun k => g (ix1 k)) q

section Kernel

open Cert.Kernel4Ideal Cert.Kernel4Ideal.Gen

/-- What the body leaves, over its two blocks. -/
theorem body (x : Vec Ideal S256x4096 .f32) (g : Vec Ideal S1x4096 .f32) (y : S256x4096.Idx) :
    out0_2 x g y = Norm.normed 0x45800000#32 (fun k : Fin 4096 => x (ix2 (y 0) k)) (fun k => g (ix2 0 k)) (y 1) := by
  unfold out0_2
  rw [show View.ld x r0_0 = x from View.ld_unit_zero (by funext d; fin_cases d <;> rfl) _ x,
    show View.ld g r0_1 = g from View.ld_unit_zero (by funext d; fin_cases d <;> rfl) _ g, Value.canon2_eq]
  have hs : multiReduction (F := Ideal) .add [1] S256 (mulf x x) 0x00000000#32 reduces_S256x4096_S256 (.inl rfl) rfl (Value.ix2_1 y)
      = ∑ k : Fin 4096, x (ix2 (y 0) k) * x (ix2 (y 0) k) := by
    refine (Ideal.multiReduction_add_single (mulf x x) _ reduces_S256x4096_S256 (.inl rfl) rfl (Value.ix2_1 y)).trans (Finset.sum_congr rfl fun k _ => ?_)
    have e : reduces_S256x4096_S256.lift (Value.ix2_1 y) k = ix2 (y 0) k := by funext d; fin_cases d <;> rfl
    rw [e]; rfl
  have e0 : Value.ix2_0 y = ix2 (y 0) (y 1) := by funext d; fin_cases d <;> rfl
  have e2 : Value.ix2_2 y = ix2 0 (y 1) := by funext d; fin_cases d <;> rfl
  unfold Value.E2
  rw [hs, e0, e2]
  rfl

theorem index_tokens : ∀ t : Fin grid0.N, cc0_transform_0 (grid0.coords t) = ![t.val, 0] := by decide +kernel
theorem index_gains : ∀ t : Fin grid0.N, cc0_transform_1 (grid0.coords t) = ![0, 0] := by decide +kernel
theorem index_out : ∀ t : Fin grid0.N, cc0_transform_2 (grid0.coords t) = ![t.val, 0] := by decide +kernel

variable (m : (ℓ : Loc nD τ sig) → Buf (Elt Ideal) ℓ) (c : Dev nD) (t : Fin cfg0.N)

/-- The gains, as the launch finds them. -/
theorem V_gains (k : Fin 4096) : (V m c main_v0 : S1x4096.Idx → EReal) (ix2 0 k) = m ((c : Thread nD τ).loc main_arg1) (ix1 k) := by
  have e : (V m c main_v0 : S1x4096.Idx → EReal) = shapeCast S1x4096 (m ((c : Thread nD τ).loc main_arg1)) shapeCasts_S4096_S1x4096 := by
    unfold V; after_results_simp; rfl
  rw [e]
  refine (shapeCast_addUnit_apply ![4096] _ shapeCasts_S4096_S1x4096 (ix2 0 k)).trans (congrArg (m ((c : Thread nD τ).loc main_arg1)) ?_)
  funext d; fin_cases d; rfl

theorem read_tokens (a : Fin 256) (k : Fin 4096) (r : Fin 16384) (hr : r.val = t.val * 256 + a.val) :
    iblk m c 0 t (ix2 a k) = m ((c : Thread nD τ).loc main_arg0) (ix2 r k) := by
  rw [← V_main_arg0 m c]
  refine congrArg (V m c main_arg0) (funext fun d => Fin.ext ?_)
  refine (Pipeline.Window.rect_emb_val_off (cfg0.win 0) t (ix2 a k) d).trans ?_
  have e : (cfg0.win 0).index t = ![t.val, 0] := index_tokens t
  rw [e]; fin_cases d
  · exact hr.symm
  · show 0 * 4096 + k.val = k.val; omega

theorem read_gains (k : Fin 4096) : iblk m c 1 t (ix2 0 k) = m ((c : Thread nD τ).loc main_arg1) (ix1 k) := by
  rw [← V_gains m c k]
  refine congrArg (V m c main_v0) (funext fun d => Fin.ext ?_)
  refine (Pipeline.Window.rect_emb_val_off (cfg0.win 1) t (ix2 0 k) d).trans ?_
  have e : (cfg0.win 1).index t = ![0, 0] := index_gains t
  rw [e]; fin_cases d
  · rfl
  · show 0 * 4096 + k.val = k.val; omega

/-- The array after the launch. -/
theorem array : (dats m 0 c).arrAt 2 cfg0.N
    = fun i : S16384x4096.Idx => row (m ((c : Thread nD τ).loc main_arg0)) (m ((c : Thread nD τ).loc main_arg1)) (i 0) (i 1) := by
  refine (dats m 0 c).arrAt_eq_of_covers 2 _ (by decide +kernel) fun t _ y => ?_
  have e : (cfg0.win 2).index t = ![t.val, 0] := index_out t
  have hb := Pipeline.Window.rect_emb_val_off (cfg0.win 2) t y
  rw [e] at hb
  refine (congrFun (after0_2 m c t) y).trans ((body _ _ y).trans ?_)
  unfold row
  have h1 : (((cfg0.win 2).blk t).view.emb y) 1 = y 1 := Fin.ext ((hb (1 : Fin 2)).trans (by show 0 * 4096 + (y 1).val = (y 1).val; omega))
  rw [h1]
  exact congrArg₂ (fun (a b : Fin 4096 → EReal) => Norm.normed 0x45800000#32 a b (y 1))
    (funext fun k => read_tokens m c t (y 0) k _ (hb (0 : Fin 2))) (funext fun k => read_gains m c t k)

end Kernel

section Reference

open Cert.Reference4Ideal Cert.Reference4Ideal.Gen Cert.Reference4Ideal.Read

variable (x0 : (⟨S16384x4096, .f32⟩ : BufTy).Contents (Elt Ideal)) (x1 : (⟨S4096, .f32⟩ : BufTy).Contents (Elt Ideal))

/-- The reference's sum of squares. -/
theorem squares (i : S16384.Idx) : val_main_v1 (F := Ideal) x0 i = ∑ k : Fin 4096, x0 (ix2 (i 0) k) * x0 (ix2 (i 0) k) := by
  rw [val_main_v1_apply, val_main_cst_apply]
  refine (congrArg (fun a : EReal => a + _) Ideal.ofBits_zero_f32).trans ((zero_add _).trans (Finset.sum_congr rfl fun k _ => ?_))
  have e : idx_main_v1 i k = ix2 (i 0) k := by funext d; fin_cases d <;> rfl
  rw [e]; rfl

/-- The reference's result at an index. -/
theorem ref_at (i : S16384x4096.Idx) : val_main_v13 (F := Ideal) x0 x1 i = row x0 x1 (i 0) (i 1) := by
  rw [val_main_v13_apply, val_main_v12_apply, val_main_v9_apply, val_main_v8_apply, val_main_v7_apply, val_main_v6_apply,
    val_main_v4_apply, val_main_v2_apply, squares, val_main_v3_apply, val_main_cst_0_apply, val_main_v5_apply, val_main_cst_1_apply,
    val_main_v11_apply, val_main_v10_apply]
  have e : idx_main_v10 (idx_main_v11 i) = ix1 (i 1) := by funext d; fin_cases d; rfl
  have e' : x0 i = x0 (ix2 (i 0) (i 1)) := congrArg x0 (ValueIdx.eq_ix2 (n0 := 16384) (n1 := 4096) i)
  rw [e, e']
  rfl

end Reference

end Cert.Proof.Prenorm

end
-- ==== Proof.PrenormClaims.lean ====
/- The prenorm's claims: the frames of the kernel and its idealization (one run, generic in the float values,
   read twice), the frame of its reference, and the equality of the two results over the reals. -/
module

public import proofs.«01_k».proof.Defs
public import proofs.«01_k».proof.Proof.Gen.Kernel4
public import proofs.«01_k».proof.Proof.Prenorm
public import proofs.«01_k».proof.Proof.Gen.Reference4Ideal.Run

@[expose] public section

noncomputable section

namespace Cert.Proof.Prenorm

open Idealize.ShloMosaic Idealize.ShloMosaic.TcCoe Idealize.SL.Sem

theorem frame_ideal : Cert.quiescent_Kernel4Ideal := fun m ρ _ => Cert.Kernel4Ideal.Gen.frame m ρ

/-- The body called at a point is the same in the kernel and in its idealization … -/
theorem bodies_eq : Cert.Kernel4.defs₀ (F := Bits) = Cert.Kernel4Ideal.defs₀ (F := Bits) := by
  refine congrArg Defs.onTc (funext fun l => funext fun a => ?_)
  match l, a with
  | 0, (t, s) => rfl
  | ⟨n + 1, h⟩, _ => exact absurd h (by omega)

/-- … and so is the pipeline around it. -/
theorem defs_eq : Cert.Kernel4.defs (F := Bits) = Cert.Kernel4Ideal.defs (F := Bits) :=
  congrArg (Pipeline.defs Cert.Kernel4Ideal.pcfgs) bodies_eq

/-- The kernel's frame is its idealization's run, read at the bits. -/
theorem frame_bits : Cert.quiescent_Kernel4 := fun m ρ _ => by
  rw [defs_eq]; exact Cert.Kernel4Ideal.Gen.frame (F := Bits) m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The two results are the same formula of the same arguments. -/
theorem algebraic : Cert.algebraic_Kernel4Ideal_Reference4Ideal := fun m ρ m' ρ' _ hm => by
  refine ⟨_, (θ_run _ _ _).mono (fun r h c => ⟨(h c).1.trans (array m c), (h c).2⟩) (Cert.Kernel4Ideal.Value.run_blocks (F := Ideal) m ρ),
    (θ_run _ _ _).mono (fun r h c => ⟨(h c).1.trans ?_, (h c).2⟩) (Cert.Reference4Ideal.Value.run (F := Ideal) m' ρ')⟩
  refine (Cert.Reference4Ideal.Read.val_main_v13_eq _ _).trans (funext fun i => ?_)
  obtain ⟨h0, h1⟩ := hm c
  rw [h0, h1]
  exact ref_at _ _ i

end Cert.Proof.Prenorm

end
-- ==== Proof.LatentKvBody.lean ====
/- One grid point of the keys' and values' projection: the normed rows it keeps between points, and the block it leaves. -/
module

public import proofs.«01_k».proof.Proof.Norm
public import proofs.«01_k».proof.Proof.Gen.Kernel5Ideal.Frame
public import Idealize.ShloMosaic.Lib.ValueIdxCore
public import Idealize.ShloMosaic.Lib.MatmulPlain
public import Idealize.ShloMosaic.PureOps.Ideal
public import Idealize.ShloMosaic.Lib.Pipeline.Value
public import Idealize.ShloMosaic.Lib.Pipeline.ReadBack
public import Idealize.ShloMosaic.Lib.VecWindow

@[expose] public section

set_option maxRecDepth 16384

noncomputable section

namespace Cert.Proof.LatentKv

open Idealize.ShloMosaic Idealize.ShloMosaic.TcCoe Idealize.ShloMosaic.ValueIdx Idealize.ShloMosaic.Tactic
open Cert.Kernel5Ideal Cert.Kernel5Ideal.Gen

/-! ## The normed rows -/

/-- The rows of a block normed. -/
def rows (x : Vec Ideal S1024x512 .bf16) (g : Vec Ideal S1x512 .f32) : Vec Ideal S1024x512 .bf16 :=
  fun y => Norm.normed 0x44000000#32 (fun k : Fin 512 => x (ix2 (y 0) k)) (fun k => g (ix2 0 k)) (y 1)

theorem pay_rows (x : Vec Ideal S1024x512 .bf16) (g : Vec Ideal S1x512 .f32) : k0_pay1 x g = rows x g := by
  funext y
  obtain ⟨r, q, rfl⟩ : ∃ r q, y = ix2 r q := ⟨_, _, eq_ix2 y⟩
  unfold k0_pay1
  simp only [shapeCast_self]
  have hs : multiReduction (F := Ideal) .add [1] S1024 (mulf (extf .f32 x bitsLt_bf16_f32) (extf .f32 x bitsLt_bf16_f32)) 0x00000000#32 reduces_S1024x512_S1024 (.inl rfl) rfl (ix1 r)
      = ∑ k : Fin 512, x (ix2 r k) * x (ix2 r k) := by
    refine (Ideal.multiReduction_add_single _ _ reduces_S1024x512_S1024 (.inl rfl) rfl (ix1 r)).trans (Finset.sum_congr rfl fun k _ => ?_)
    have e : reduces_S1024x512_S1024.lift (ix1 r) k = ix2 r k := by funext d; fin_cases d <;> rfl
    rw [e]; rfl
  have hc : shapeCast S1024x1 (multiReduction (F := Ideal) .add [1] S1024 (mulf (extf .f32 x bitsLt_bf16_f32) (extf .f32 x bitsLt_bf16_f32)) 0x00000000#32 reduces_S1024x512_S1024 (.inl rfl) rfl) shapeCasts_S1024_S1024x1 (ix2 r 0)
      = ∑ k : Fin 512, x (ix2 r k) * x (ix2 r k) :=
    (shapeCast_apply _ _ (ix2 r 0) (ix1 r) (by rw [Shape.rowMajor_val_one, Shape.rowMajor_val_two]; show r.val = r.val * 1 + 0; omega)).trans hs
  unfold rows Norm.normed Norm.factor
  rw [← hc]
  have b0 : ∀ v : FVec Ideal S1024x1 .f32, broadcastTo S1024x512 v broadcasts_S1024x1_S1024x512 (ix2 r q) = v (ix2 r 0) := fun v =>
    congrArg v (by funext d; fin_cases d <;> rfl)
  have b1 : broadcastTo S1024x512 g broadcasts_S1x512_S1024x512 (ix2 r q) = g (ix2 0 q) :=
    congrArg g (by funext d; fin_cases d <;> rfl)
  refine congrArg₂ (fun (a b : EReal) => a * b) (congrArg (fun a : EReal => x (ix2 r q) * a) (b0 _)) b1

/-! ## One row chunk of the product -/

/-- The block's product: row `y 0` of the normed rows times column `y 1` of the weights. -/
def blk (s : Vec Ideal S1024x512 .bf16) (w : Vec Ideal S512x2048 .bf16) (y : S1024x2048.Idx) : EReal :=
  ∑ k : Fin 512, s (ix2 (y 0) k) * w (ix2 k (y 1))

/-- The whole of each block, as the body loads it. -/
abbrev wholeX : Rect S1024x512 := Rect.unit (s := S1024x512) ![0, 0] ![1024, 512] inb_S1024x512_S1024x512_0_0
abbrev wholeG : Rect S1x512 := Rect.unit (s := S1x512) ![0, 0] ![1, 512] inb_S1x512_S1x512_0_0
abbrev wholeW : Rect S512x2048 := Rect.unit (s := S512x2048) ![0, 0] ![512, 2048] inb_S512x2048_S512x2048_0_0

theorem pay_whole (x : Vec Ideal S1024x512 .bf16) (g : Vec Ideal S1x512 .f32) : k0_pay1 (View.ld x wholeX) (View.ld g wholeG) = rows x g := by
  rw [show View.ld x wholeX = x from View.ld_unit_zero (by funext d; fin_cases d <;> rfl) _ x,
    show View.ld g wholeG = g from View.ld_unit_zero (by funext d; fin_cases d <;> rfl) _ g, pay_rows]

theorem piece (s : Vec Ideal S1024x512 .bf16) (w : Vec Ideal S512x2048 .bf16) (o : ℕ) (h) (h') (p : S256x2048.Idx) :
    k0_pay2 (View.ld s (Rect.unit (s := S1024x512) ![o, 0] ![256, 512] h)) (View.ld w wholeW) p
      = blk s w ((Rect.unit (s := S1024x2048) ![o, 0] ![256, 2048] h').emb p) := by
  obtain ⟨r, q, rfl⟩ : ∃ r q, p = ix2 r q := ⟨_, _, eq_ix2 p⟩
  rw [show View.ld w wholeW = w from View.ld_unit_zero (by funext d; fin_cases d <;> rfl) _ w]
  unfold k0_pay2
  simp only [shapeCast_self]
  refine (Ideal.matmul_plain_apply (M := 256) (K := 512) (N := 2048) (φ₁ := .bf16) (φ₂ := .bf16) none _ w (constant S256x2048 .f32 0x00000000#32) r q).trans ?_
  have z : constant (F := Ideal) S256x2048 .f32 0x00000000#32 (ix2 r q) = 0 := by
    show Ideal.ofBits .f32 0x00000000#32 = 0
    simp
  rw [z, zero_add]
  refine Finset.sum_congr rfl fun k _ => congrArg₂ (fun (a b : EReal) => a * b) (congrArg s ?_) (congrArg w ?_)
  · funext d; fin_cases d
    · rfl
    · exact Fin.ext (by show 0 + 1 * k.val = k.val; omega)
  · funext d; fin_cases d
    · rfl
    · exact Fin.ext (by show q.val = 0 + 1 * q.val; omega)

/-- A chunk over the rows just kept. -/
theorem piece_kept (v : View sig .tc .vmem S1024x512 .bf16) (x : Vec Ideal S1024x512 .bf16) (g : Vec Ideal S1x512 .f32) (w : Vec Ideal S512x2048 .bf16)
    (o : ℕ) (h) (h') (p : S256x2048.Idx) :
    k0_pay2 (v.readCov [⟨wholeX, k0_pay1 (View.ld x wholeX) (View.ld g wholeG)⟩] (Rect.unit (s := S1024x512) ![o, 0] ![256, 512] h).toLoadRect) (View.ld w wholeW) p
      = blk (rows x g) w ((Rect.unit (s := S1024x2048) ![o, 0] ![256, 2048] h').emb p) := by
  rw [pay_whole]
  refine (congrFun (congrArg (fun a : Vec Ideal S256x512 .bf16 => k0_pay2 a (View.ld w wholeW))
    (View.readCov_fill (Val := Elt Ideal) v inb_S1024x512_S1024x512_0_0 (rows x g) [] _ fun d => by fin_cases d <;> rfl)) p).trans ?_
  exact piece (rows x g) w o h h' p

/-! ## The two cases -/

section
variable (c : Dev nD) (i : grid0.Coords) (a2 : Memref sig .tc .vmem S1024x512 .bf16) (h2 : a2.IsWhole) (a3 : Memref sig .tc .vmem S1x512 .f32) (h3 : a3.IsWhole)
    (a4 : Memref sig .tc .vmem S512x2048 .bf16) (h4 : a4.IsWhole) (a5 : Memref sig .tc .vmem S1024x2048 .bf16) (h5 : a5.IsWhole)
    (a6 : Memref sig .tc .vmem S1024x512 .bf16) (h6 : a6.IsWhole)
    (x : Vec Ideal S1024x512 .bf16) (g : Vec Ideal S1x512 .f32) (w : Vec Ideal S512x2048 .bf16) (s : Vec Ideal S1024x512 .bf16)

/-- The first point of a row block keeps the normed rows. -/
theorem kept (hc : cond0_0 i) : sout0_A_0 c i a2 h2 a3 h3 a4 h4 a5 h5 a6 h6 hc x g w = rows x g := by
  funext y
  unfold sout0_A_0
  rw [View.read_writes_eq_canon _ _ _ (scover0_A_0 c i a2 h2 a3 h3 a4 h4 a5 h5 a6 h6 hc x g w)]
  refine View.canon_apply_of_pieces (rows x g) _ ?_ y (scover0_A_0 c i a2 h2 a3 h3 a4 h4 a5 h5 a6 h6 hc x g w y)
  unfold kernelRun0_A
  dsimp only
  sl_unfold_words
  simp only [View.readAt_eq_ld, h2.read_unread, h3.read_unread]
  simp only [List.forall_mem_cons]
  exact ⟨fun p => (congrFun (pay_whole x g) p).trans (congrArg (rows x g) (Rect.emb_unit_full _ p).symm), List.forall_mem_nil _⟩

/-- It leaves the product of the normed rows; -/
theorem out_A (hc : cond0_0 i) : out0_A_3 c i a2 h2 a3 h3 a4 h4 a5 h5 a6 h6 hc x g w = blk (rows x g) w := by
  funext y
  unfold out0_A_3
  rw [View.read_writes_eq_canon _ _ _ (cover0_A_3 c i a2 h2 a3 h3 a4 h4 a5 h5 a6 h6 hc x g w)]
  refine View.canon_apply_of_pieces (blk (rows x g) w) _ ?_ y (cover0_A_3 c i a2 h2 a3 h3 a4 h4 a5 h5 a6 h6 hc x g w y)
  unfold kernelRun0_A
  dsimp only
  sl_unfold_words
  simp only [View.readAt_eq_ld, h2.read_unread, h3.read_unread, h4.read_unread]
  simp only [List.forall_mem_cons]
  exact ⟨piece_kept a6.view x g w 768 _ _, piece_kept a6.view x g w 512 _ _, piece_kept a6.view x g w 256 _ _, piece_kept a6.view x g w 0 _ _, List.forall_mem_nil _⟩

/-- the other, of the rows it finds. -/
theorem out_B (hc : ¬cond0_0 i) : out0_B_3 c i a2 h2 a3 h3 a4 h4 a5 h5 a6 h6 hc x g w s = blk s w := by
  funext y
  unfold out0_B_3
  rw [View.read_writes_eq_canon _ _ _ (cover0_B_3 c i a2 h2 a3 h3 a4 h4 a5 h5 a6 h6 hc x g w s)]
  refine View.canon_apply_of_pieces (blk s w) _ ?_ y (cover0_B_3 c i a2 h2 a3 h3 a4 h4 a5 h5 a6 h6 hc x g w s y)
  unfold kernelRun0_B
  dsimp only
  sl_unfold_words
  simp only [View.readAt_eq_ld, h4.read_unread, h6.read_unread]
  simp only [List.forall_mem_cons]
  exact ⟨piece s w 768 _ _, piece s w 512 _ _, piece s w 256 _ _, piece s w 0 _ _, List.forall_mem_nil _⟩

end

end Cert.Proof.LatentKv

end
-- ==== Proof.LatentKvArray.lean ====
/- The array the keys' and values' projection leaves, and its reference: a normed latent row times the up-projections. -/
module

public import proofs.«01_k».proof.Proof.LatentKvBody
public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.Proof.LatentKv

open Idealize.ShloMosaic hiding ix1 ix2 ix3
open Idealize.ShloMosaic.TcCoe Idealize.ShloMosaic.ValueIdx

/-! ## The formula -/

abbrev Projected : Type := (⟨2, ![16384, 29184]⟩ : Shape).Idx → EReal
abbrev Gains : Type := (⟨1, ![512]⟩ : Shape).Idx → EReal
abbrev Up : Type := (⟨3, ![512, 16, 128]⟩ : Shape).Idx → EReal

/-- A row's latent, columns 1536 to 2047 of the projections, normed. -/
def latent (p : Projected) (g : Gains) (r : Fin 16384) (k : Fin 512) : EReal :=
  Norm.normed 0x44000000#32 (fun k : Fin 512 => p (ix2 r ⟨1536 + k.val, by omega⟩)) (fun k => g (ix1 k)) k

/-- Column `q` of an up-projection whose heads' columns are laid one after another. -/
def flat (w : Up) (k : Fin 512) (q : Fin 2048) : EReal := w (ix3 k ⟨q.val / 128, by omega⟩ ⟨q.val % 128, by omega⟩)

/-- The weights' columns: the keys', then the values'. -/
def weight (wk wv : Up) (k : Fin 512) (q : Fin 4096) : EReal :=
  if h : q.val < 2048 then flat wk k ⟨q.val, h⟩ else flat wv k ⟨q.val - 2048, by omega⟩

/-- The result: a row's normed latent times a column of the weights. -/
def result (p : Projected) (g : Gains) (wk wv : Up) (r : Fin 16384) (q : Fin 4096) : EReal :=
  ∑ k : Fin 512, latent p g r k * weight wk wv k q

/-! ## The launch -/

section Kernel

open Cert.Kernel5Ideal Cert.Kernel5Ideal.Gen

theorem index_latent : ∀ t : Fin grid0.N, cc0_transform_0 (grid0.coords t) = ![t.val / 2, 3] := by decide +kernel
theorem index_gains : ∀ t : Fin grid0.N, cc0_transform_1 (grid0.coords t) = ![0, 0] := by decide +kernel
theorem index_weights : ∀ t : Fin grid0.N, cc0_transform_2 (grid0.coords t) = ![0, t.val % 2] := by decide +kernel
theorem index_out : ∀ t : Fin grid0.N, cc0_transform_3 (grid0.coords t) = ![t.val / 2, t.val % 2] := by decide +kernel

variable (m : (ℓ : Loc nD τ sig) → Buf (Elt Ideal) ℓ) (c : Dev nD) (t : Fin cfg0.N)

theorem V_gains (k : Fin 512) : (V m c main_v4 : S1x512.Idx → EReal) (ix2 0 k) = m ((c : Thread nD τ).loc main_arg1) (ix1 k) := by
  have e : (V m c main_v4 : S1x512.Idx → EReal) = shapeCast S1x512 (m ((c : Thread nD τ).loc main_arg1)) shapeCasts_S512_S1x512 := by
    unfold V; after_results_simp; rfl
  rw [e]
  refine (shapeCast_addUnit_apply ![512] _ shapeCasts_S512_S1x512 (ix2 0 k)).trans (congrArg (m ((c : Thread nD τ).loc main_arg1)) ?_)
  funext d; fin_cases d; rfl

/-- An up-projection with its heads laid out in columns. -/
theorem flat_apply (w : Up) (k : Fin 512) (q : Fin 2048) : shapeCast S512x2048 w shapeCasts_S512x16x128_S512x2048 (ix2 k q) = flat w k q :=
  shapeCast_apply w _ (ix2 k q) _ (by
    rw [Shape.rowMajor_val_two, Shape.rowMajor_val_three]
    show (k.val * 16 + q.val / 128) * 128 + q.val % 128 = k.val * 2048 + q.val
    omega)

theorem V_weights (k : Fin 512) (q : Fin 4096) : (V m c main_v3 : S512x4096.Idx → EReal) (ix2 k q)
    = weight (m ((c : Thread nD τ).loc main_arg2)) (m ((c : Thread nD τ).loc main_arg3)) k q := by
  have e : (V m c main_v3 : S512x4096.Idx → EReal) = truncf (F := Ideal) .bf16 (concatenate S512x4096 1
      [⟨S512x2048, shapeCast S512x2048 (m ((c : Thread nD τ).loc main_arg2)) shapeCasts_S512x16x128_S512x2048⟩,
       ⟨S512x2048, shapeCast S512x2048 (m ((c : Thread nD τ).loc main_arg3)) shapeCasts_S512x16x128_S512x2048⟩]
      concatenates_S512x2048_S512x2048_S512x4096_d1 : FVec Ideal S512x4096 .f32) bitsLt_bf16_f32 := by
    unfold V; after_results_simp; rfl
  rw [e]
  unfold weight
  split
  · rename_i h
    refine Eq.trans ?_ (flat_apply _ k ⟨q.val, h⟩)
    exact concatenate_pair_apply_left 1 _ _ concatenates_S512x2048_S512x2048_S512x4096_d1 (ix2 k q) rfl (ix2 k ⟨q.val, h⟩)
      (fun b => by fin_cases b <;> rfl)
  · rename_i h
    refine Eq.trans ?_ (flat_apply _ k ⟨q.val - 2048, by omega⟩)
    exact concatenate_pair_apply_right 1 _ _ concatenates_S512x2048_S512x2048_S512x4096_d1 (ix2 k q) rfl rfl (ix2 k ⟨q.val - 2048, by omega⟩)
      (fun b hb => by fin_cases b; exact rfl; exact absurd rfl hb) (by show q.val - 2048 + 2048 = q.val; omega)

theorem read_latent (a : Fin 1024) (k : Fin 512) (r : Fin 16384) (hr : r.val = t.val / 2 * 1024 + a.val) :
    iblk m c 0 t (ix2 a k) = m ((c : Thread nD τ).loc main_arg0) (ix2 r ⟨1536 + k.val, by omega⟩) := by
  rw [← V_main_arg0 m c]
  refine congrArg (V m c main_arg0) (funext fun d => Fin.ext ?_)
  refine (Pipeline.Window.rect_emb_val_off (cfg0.win 0) t (ix2 a k) d).trans ?_
  have e : (cfg0.win 0).index t = ![t.val / 2, 3] := index_latent t
  rw [e]; fin_cases d
  · exact hr.symm
  · show 3 * 512 + k.val = 1536 + k.val; omega

theorem read_gains (k : Fin 512) : iblk m c 1 t (ix2 0 k) = m ((c : Thread nD τ).loc main_arg1) (ix1 k) := by
  rw [← V_gains m c k]
  refine congrArg (V m c main_v4) (funext fun d => Fin.ext ?_)
  refine (Pipeline.Window.rect_emb_val_off (cfg0.win 1) t (ix2 0 k) d).trans ?_
  have e : (cfg0.win 1).index t = ![0, 0] := index_gains t
  rw [e]; fin_cases d
  · rfl
  · show 0 * 512 + k.val = k.val; omega

theorem read_weights (k : Fin 512) (b : Fin 2048) (q : Fin 4096) (hq : q.val = t.val % 2 * 2048 + b.val) :
    iblk m c 2 t (ix2 k b) = weight (m ((c : Thread nD τ).loc main_arg2)) (m ((c : Thread nD τ).loc main_arg3)) k q := by
  rw [← V_weights m c k q]
  refine congrArg (V m c main_v3) (funext fun d => Fin.ext ?_)
  refine (Pipeline.Window.rect_emb_val_off (cfg0.win 2) t (ix2 k b) d).trans ?_
  have e : (cfg0.win 2).index t = ![0, t.val % 2] := index_weights t
  rw [e]; fin_cases d
  · show 0 * 512 + k.val = k.val; omega
  · exact hq.symm

/-- The rows a point's block norms are the formula's. -/
theorem rows_latent (a : Fin 1024) (k : Fin 512) (r : Fin 16384) (hr : r.val = t.val / 2 * 1024 + a.val) :
    rows (iblk m c 0 t) (iblk m c 1 t) (ix2 a k) = latent (m ((c : Thread nD τ).loc main_arg0)) (m ((c : Thread nD τ).loc main_arg1)) r k :=
  congrArg₂ (fun (x y : Fin 512 → EReal) => Norm.normed 0x44000000#32 x y k)
    (funext fun k => read_latent m c t a k r hr) (funext fun k => read_gains m c t k)

/-- What a point keeps: its row block's normed rows, whether it computes them or finds them. -/
theorem kept_rows (a : Fin 1024) (k : Fin 512) (r : Fin 16384) (hr : r.val = t.val / 2 * 1024 + a.val) :
    (outsAt0 m c t.val t.isLt).2 (ix2 a k) = latent (m ((c : Thread nD τ).loc main_arg0)) (m ((c : Thread nD τ).loc main_arg1)) r k := by
  have first : ∀ t : Fin cfg0.N, t.val % 2 = 0 → r.val = t.val / 2 * 1024 + a.val → (outsAt0 m c t.val t.isLt).2 (ix2 a k)
      = latent (m ((c : Thread nD τ).loc main_arg0)) (m ((c : Thread nD τ).loc main_arg1)) r k := fun t h hr => by
    refine (congrFun (congrArg Prod.snd (outsAt0_A m c t h)) (ix2 a k)).trans ?_
    dsimp only
    exact (congrFun (kept _ _ _ _ _ _ _ _ _ _ _ _ _ _ _ _) (ix2 a k)).trans (rows_latent m c t a k r hr)
  by_cases h : t.val % 2 = 0
  · exact first t h hr
  · refine (congrFun (congrArg Prod.snd (outsAt0_B m c t h)) (ix2 a k)).trans ?_
    dsimp only [sout0_B_0]
    exact first ⟨t.val - 1, Nat.lt_of_le_of_lt (Nat.sub_le _ _) t.isLt⟩ (by show (t.val - 1) % 2 = 0; omega) (by rw [hr]; show _ = (t.val - 1) / 2 * 1024 + a.val; omega)

/-- What a point leaves in its block. -/
theorem point (y : S1024x2048.Idx) (r : Fin 16384) (q : Fin 4096) (hr : r.val = t.val / 2 * 1024 + (y 0).val) (hq : q.val = t.val % 2 * 2048 + (y 1).val) :
    (outsAt0 m c t.val t.isLt).1 y = result (m ((c : Thread nD τ).loc main_arg0)) (m ((c : Thread nD τ).loc main_arg1))
      (m ((c : Thread nD τ).loc main_arg2)) (m ((c : Thread nD τ).loc main_arg3)) r q := by
  by_cases h : t.val % 2 = 0
  · refine (congrFun (congrArg Prod.fst (outsAt0_A m c t h)) y).trans ?_
    dsimp only
    refine (congrFun (out_A _ _ _ _ _ _ _ _ _ _ _ _ _ _ _ _) y).trans ?_
    exact Finset.sum_congr rfl fun k _ => congrArg₂ (fun (a b : EReal) => a * b) (rows_latent m c t (y 0) k r hr) (read_weights m c t k (y 1) q hq)
  · refine (congrFun (congrArg Prod.fst (outsAt0_B m c t h)) y).trans ?_
    dsimp only
    refine (congrFun (out_B _ _ _ _ _ _ _ _ _ _ _ _ _ _ _ _ _) y).trans ?_
    exact Finset.sum_congr rfl fun k _ => congrArg₂ (fun (a b : EReal) => a * b)
      (kept_rows m c ⟨t.val - 1, Nat.lt_of_le_of_lt (Nat.sub_le _ _) t.isLt⟩ (y 0) k r (by rw [hr]; show _ = (t.val - 1) / 2 * 1024 + (y 0).val; omega))
      (read_weights m c t k (y 1) q hq)

/-- The array after the launch. -/
theorem array : (dats m 0 c).arrAt 3 cfg0.N
    = fun i : S16384x4096.Idx => result (m ((c : Thread nD τ).loc main_arg0)) (m ((c : Thread nD τ).loc main_arg1))
        (m ((c : Thread nD τ).loc main_arg2)) (m ((c : Thread nD τ).loc main_arg3)) (i 0) (i 1) := by
  refine (dats m 0 c).arrAt_eq_of_covers 3 _ (by decide +kernel) fun t _ y => ?_
  have e : (cfg0.win 3).index t = ![t.val / 2, t.val % 2] := index_out t
  have hb := Pipeline.Window.rect_emb_val_off (cfg0.win 3) t y
  rw [e] at hb
  exact (congrFun (after0_3 m c t) y).trans (point m c t y _ _ (hb (0 : Fin 2)) (hb (1 : Fin 2)))

end Kernel

/-! ## The reference -/

section Reference

open Cert.Reference5Ideal Cert.Reference5Ideal.Gen Cert.Reference5Ideal.Read

variable (x0 : (⟨S16384x29184, .bf16⟩ : BufTy).Contents (Elt Ideal)) (x1 : (⟨S512, .f32⟩ : BufTy).Contents (Elt Ideal))
  (x2 x3 : (⟨S512x16x128, .f32⟩ : BufTy).Contents (Elt Ideal))

/-- The reference's sum of squares. -/
theorem squares (r : Fin 16384) : val_main_v3 (F := Ideal) x0 (ix1 r) = ∑ k : Fin 512, x0 (ix2 r ⟨1536 + k.val, by omega⟩) * x0 (ix2 r ⟨1536 + k.val, by omega⟩) := by
  rw [val_main_v3_apply, val_main_cst_apply]
  refine (congrArg (fun a : EReal => a + _) Ideal.ofBits_zero_f32).trans ((zero_add _).trans (Finset.sum_congr rfl fun k _ => ?_))
  rw [val_main_v2_apply, val_main_v1_apply, val_main_v0_apply]
  have e : idx_main_v0 (idx_main_v3 (ix1 r) k) = ix2 r ⟨1536 + k.val, by omega⟩ := by funext d; fin_cases d <;> rfl
  rw [e]; rfl

/-- The reference's normed latent. -/
theorem ref_latent (r : Fin 16384) (k : Fin 512) : val_main_v14 (F := Ideal) x0 x1 (ix2 r k) = latent x0 x1 r k := by
  have e4 : idx_main_v4 (idx_main_v10 (ix2 r k)) = ix1 r := by funext d; fin_cases d; rfl
  have e0 : idx_main_v0 (ix2 r k) = ix2 r ⟨1536 + k.val, by omega⟩ := by funext d; fin_cases d <;> rfl
  have e12 : idx_main_v12 (idx_main_v13 (ix2 r k)) = ix1 k := by funext d; fin_cases d; rfl
  rw [val_main_v14_apply, val_main_v11_apply, val_main_v10_apply, val_main_v9_apply, val_main_v8_apply, val_main_v6_apply, val_main_v4_apply, e4, squares,
    val_main_v5_apply, val_main_cst_0_apply, val_main_v7_apply, val_main_cst_1_apply, val_main_v1_apply, val_main_v0_apply, e0,
    val_main_v13_apply, val_main_v12_apply, e12]
  rfl

theorem ref_keys (r : Fin 16384) (q : Fin 2048) : val_main_v17 (F := Ideal) x0 x1 x2 (ix2 r q) = ∑ k : Fin 512, latent x0 x1 r k * flat x2 k q := by
  rw [val_main_v17_apply, val_main_v15_apply]
  refine Finset.sum_congr rfl fun k _ => congrArg₂ (fun (a b : EReal) => a * b) ?_ (congrArg x2 ?_)
  · refine Eq.trans (congrArg (val_main_v14 (F := Ideal) x0 x1) ?_) (ref_latent x0 x1 r k)
    funext d; fin_cases d
    · exact Fin.ext (by show (r.val * 2048 + q.val) / 2048 = r.val; omega)
    · rfl
  · funext d; fin_cases d
    · rfl
    · exact Fin.ext (by show (r.val * 2048 + q.val) / 128 % 16 = q.val / 128; omega)
    · exact Fin.ext (by show (r.val * 2048 + q.val) % 128 = q.val % 128; omega)

theorem ref_values (r : Fin 16384) (q : Fin 2048) : val_main_v18 (F := Ideal) x0 x1 x3 (ix2 r q) = ∑ k : Fin 512, latent x0 x1 r k * flat x3 k q :=
  ref_keys x0 x1 x3 r q

/-- The reference's result at an index. -/
theorem ref_at (i : S16384x4096.Idx) : val_main_v20 (F := Ideal) x0 x1 x2 x3 i = result x0 x1 x2 x3 (i 0) (i 1) := by
  obtain ⟨r, q, rfl⟩ : ∃ (r : Fin 16384) (q : Fin 4096), i = ix2 r q := ⟨_, _, ValueIdx.eq_ix2 (n0 := 16384) (n1 := 4096) i⟩
  rw [val_main_v20_apply]
  show val_main_v19 (F := Ideal) x0 x1 x2 x3 (ix2 r q) = result x0 x1 x2 x3 r q
  unfold result weight
  by_cases h : q.val < 2048
  · simp only [dif_pos h]
    refine Eq.trans ?_ (ref_keys x0 x1 x2 r ⟨q.val, h⟩)
    exact concatenate_pair_apply_left 1 _ _ concatenates_S16384x2048_S16384x2048_S16384x4096_d1 (ix2 r q) rfl (ix2 r ⟨q.val, h⟩)
      (fun b => by fin_cases b <;> rfl)
  · simp only [dif_neg h]
    refine Eq.trans ?_ (ref_values x0 x1 x3 r ⟨q.val - 2048, by omega⟩)
    exact concatenate_pair_apply_right 1 _ _ concatenates_S16384x2048_S16384x2048_S16384x4096_d1 (ix2 r q) rfl rfl (ix2 r ⟨q.val - 2048, by omega⟩)
      (fun b hb => by fin_cases b; exact rfl; exact absurd rfl hb) (by show q.val - 2048 + 2048 = q.val; omega)

end Reference

end Cert.Proof.LatentKv

end
-- ==== Proof.LatentKvClaims.lean ====
/- The claims of the keys' and values' projection: the frames of the kernel and its idealization (one run, generic in the float values,
   read twice), the frame of its reference, and the equality of the two results over the reals. -/
module

public import proofs.«01_k».proof.Defs
public import proofs.«01_k».proof.Proof.Gen.Kernel5
public import proofs.«01_k».proof.Proof.LatentKvArray
public import proofs.«01_k».proof.Proof.Gen.Reference5Ideal.Run

@[expose] public section

noncomputable section

namespace Cert.Proof.LatentKv

open Idealize.ShloMosaic Idealize.ShloMosaic.TcCoe Idealize.SL.Sem

theorem frame_ideal : Cert.quiescent_Kernel5Ideal := fun m ρ _ => Cert.Kernel5Ideal.Gen.frame m ρ

/-- The body called at a point is the same in the kernel and in its idealization … -/
theorem bodies_eq : Cert.Kernel5.defs₀ (F := Bits) = Cert.Kernel5Ideal.defs₀ (F := Bits) := by
  refine congrArg Defs.onTc (funext fun l => funext fun a => ?_)
  match l, a with
  | 0, (t, s) => rfl
  | ⟨n + 1, h⟩, _ => exact absurd h (by omega)

/-- … and so is the pipeline around it. -/
theorem defs_eq : Cert.Kernel5.defs (F := Bits) = Cert.Kernel5Ideal.defs (F := Bits) :=
  congrArg (Pipeline.defs Cert.Kernel5Ideal.pcfgs) bodies_eq

/-- The kernel's frame is its idealization's run, read at the bits. -/
theorem frame_bits : Cert.quiescent_Kernel5 := fun m ρ _ => by
  rw [defs_eq]; exact Cert.Kernel5Ideal.Gen.frame (F := Bits) m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The two results are the same formula of the same arguments. -/
theorem algebraic : Cert.algebraic_Kernel5Ideal_Reference5Ideal := fun m ρ m' ρ' _ hm => by
  refine ⟨_, (θ_run _ _ _).mono (fun r h c => ⟨(h c).1.trans (array m c), (h c).2⟩) (Cert.Kernel5Ideal.Value.run_blocks (F := Ideal) m ρ),
    (θ_run _ _ _).mono (fun r h c => ⟨(h c).1.trans ?_, (h c).2⟩) (Cert.Reference5Ideal.Value.run (F := Ideal) m' ρ')⟩
  refine (Cert.Reference5Ideal.Read.val_main_v20_eq _ _ _ _).trans (funext fun i => ?_)
  obtain ⟨h0, h1, h2, h3⟩ := hm c
  rw [h0, h1, h2, h3]
  exact ref_at _ _ _ _ i

end Cert.Proof.LatentKv

end
-- ==== Proof.LatentQBody.lean ====
/- One grid point of the queries' projection: the normed rows it keeps between points, and the block it leaves, its heads'
   last columns rotated. -/
module

public import proofs.«01_k».proof.Proof.Norm
public import proofs.«01_k».proof.Proof.Gen.Kernel6Ideal.Frame
public import Idealize.ShloMosaic.Lib.ValueIdxCore
public import Idealize.ShloMosaic.Lib.MatmulPlain
public import Idealize.ShloMosaic.PureOps.Ideal
public import Idealize.ShloMosaic.Lib.Pipeline.Value
public import Idealize.ShloMosaic.Lib.Pipeline.ReadBack
public import Idealize.ShloMosaic.Lib.VecWindow
public import Idealize.ShloMosaic.Lib.KernelVsHost
public import Idealize.ShloMosaic.Lib.WordCmp

@[expose] public section

set_option maxRecDepth 16384

noncomputable section

namespace Cert.Proof.LatentQ

open Idealize.ShloMosaic Idealize.ShloMosaic.TcCoe Idealize.ShloMosaic.ValueIdx Idealize.ShloMosaic.Tactic
open Cert.Kernel6Ideal Cert.Kernel6Ideal.Gen

/-! ## The normed rows -/

/-- The rows of a block normed. -/
def rows (x : Vec Ideal S1024x1536 .bf16) (g : Vec Ideal S1x1536 .f32) : Vec Ideal S1024x1536 .bf16 :=
  fun y => Norm.normed 0x44C00000#32 (fun k : Fin 1536 => x (ix2 (y 0) k)) (fun k => g (ix2 0 k)) (y 1)

theorem pay_rows (x : Vec Ideal S1024x1536 .bf16) (g : Vec Ideal S1x1536 .f32) : k0_pay3 x g = rows x g := by
  funext y
  obtain ⟨r, q, rfl⟩ : ∃ r q, y = ix2 r q := ⟨_, _, eq_ix2 y⟩
  unfold k0_pay3
  simp only [shapeCast_self]
  have hs : multiReduction (F := Ideal) .add [1] S1024 (mulf (extf .f32 x bitsLt_bf16_f32) (extf .f32 x bitsLt_bf16_f32)) 0x00000000#32 reduces_S1024x1536_S1024 (.inl rfl) rfl (ix1 r)
      = ∑ k : Fin 1536, x (ix2 r k) * x (ix2 r k) := by
    refine (Ideal.multiReduction_add_single _ _ reduces_S1024x1536_S1024 (.inl rfl) rfl (ix1 r)).trans (Finset.sum_congr rfl fun k _ => ?_)
    have e : reduces_S1024x1536_S1024.lift (ix1 r) k = ix2 r k := by funext d; fin_cases d <;> rfl
    rw [e]; rfl
  have hc : shapeCast S1024x1 (multiReduction (F := Ideal) .add [1] S1024 (mulf (extf .f32 x bitsLt_bf16_f32) (extf .f32 x bitsLt_bf16_f32)) 0x00000000#32 reduces_S1024x1536_S1024 (.inl rfl) rfl) shapeCasts_S1024_S1024x1 (ix2 r 0)
      = ∑ k : Fin 1536, x (ix2 r k) * x (ix2 r k) :=
    (shapeCast_apply _ _ (ix2 r 0) (ix1 r) (by rw [Shape.rowMajor_val_one, Shape.rowMajor_val_two]; show r.val = r.val * 1 + 0; omega)).trans hs
  unfold rows Norm.normed Norm.factor
  rw [← hc]
  have b0 : ∀ v : FVec Ideal S1024x1 .f32, broadcastTo S1024x1536 v broadcasts_S1024x1_S1024x1536 (ix2 r q) = v (ix2 r 0) := fun v =>
    congrArg v (by funext d; fin_cases d <;> rfl)
  have b1 : broadcastTo S1024x1536 g broadcasts_S1x1536_S1024x1536 (ix2 r q) = g (ix2 0 q) :=
    congrArg g (by funext d; fin_cases d <;> rfl)
  refine congrArg₂ (fun (a b : EReal) => a * b) (congrArg (fun a : EReal => x (ix2 r q) * a) (b0 _)) b1

/-! ## One cell of a block -/

/-- The column a rotated column is paired with: 32 on, or 32 back. -/
def partner (j : Fin 128) : Fin 128 := ⟨if j.val < 32 then j.val + 32 else j.val - 32, by split <;> omega⟩

/-- A rotated column: itself times the first table, its partner times the second. -/
def turn (u c s : Fin 128 → EReal) (j : Fin 128) : EReal := u j * c j + u (partner j) * s j

/-- A row's result at column `q`: of each head's 256 columns the first half as it is, the second rotated; all scaled. -/
def cell (u : Fin 2048 → EReal) (c s : Fin 128 → EReal) (q : Fin 2048) : EReal :=
  (if q.val % 256 < 128 then u q
    else turn (fun j => u ⟨q.val / 256 * 256 + 128 + j.val, by omega⟩) c s ⟨q.val % 128, by omega⟩) * Ideal.ofBits .f32 0x3DD53B95#32

/-! ## One row chunk -/

/-- A head's second half rotated, as the body writes it. -/
abbrev turned (v c s : FVec Ideal S256x128 .f32) : FVec Ideal S256x128 .f32 :=
  addf (mulf v c) (mulf (select (cmpi .slt (iota .tc S256x128 32 [1] iota_S256x128_d1_w32) (broadcast S256x128 32#32))
    (dynamicRotate 1 96#32 none v rotates_S256x128_d1) (dynamicRotate 1 32#32 none v rotates_S256x128_d1)) s)

theorem turned_apply (v c s : FVec Ideal S256x128 .f32) (r : Fin 256) (j : Fin 128) :
    turned v c s (ix2 r j) = turn (fun j => v (ix2 r j)) (fun j => c (ix2 r j)) (fun j => s (ix2 r j)) j := by
  refine congrArg (fun a : EReal => v (ix2 r j) * c (ix2 r j) + a * s (ix2 r j)) ?_
  have hi : iota .tc S256x128 32 [1] iota_S256x128_d1_w32 (ix2 r j) = BitVec.ofNat 32 j.val := iota_single_apply .tc S256x128 32 1 _ _
  show (if IntOp.cmpi .slt (iota .tc S256x128 32 [1] iota_S256x128_d1_w32 (ix2 r j)) (BitVec.ofNat 32 32) = 1#1 then _ else _) = _
  rw [hi]
  have hj := j.isLt
  by_cases h : j.val < 32
  · rw [if_pos ((WordCmp.cmpi_slt_ofNat_eq_one_iff (by omega) (by omega)).mpr h)]
    refine dynamicRotate_apply 1 96#32 v rotates_S256x128_d1 (ix2 r j) (ix2 r (partner j)) fun b => ?_
    fin_cases b
    · rfl
    · show (if j.val < 32 then j.val + 32 else j.val - 32) = (j.val + 128 - 96) % 128
      rw [if_pos h]; omega
  · rw [if_neg (fun e => h ((WordCmp.cmpi_slt_ofNat_eq_one_iff (by omega) (by omega)).mp e))]
    refine dynamicRotate_apply 1 32#32 v rotates_S256x128_d1 (ix2 r j) (ix2 r (partner j)) fun b => ?_
    fin_cases b
    · rfl
    · show (if j.val < 32 then j.val + 32 else j.val - 32) = (j.val + 128 - 32) % 128
      rw [if_neg h]; omega

theorem slices (n : Fin 16) : S256x2048.Slices ![0, 128 * n.val] S256x128 :=
  ⟨rfl, fun a => by fin_cases a; · exact Nat.le_refl _
                    · show 128 * n.val + 128 ≤ 2048; omega⟩

/-- The sixteen half heads of a chunk. -/
def half (u : FVec Ideal S256x2048 .f32) (c s : FVec Ideal S256x128 .f32) (n : Fin 16) : FVec Ideal S256x128 .f32 :=
  if n.val % 2 = 0 then extractStridedSlice S256x128 ![0, 128 * n.val] u (slices n)
  else turned (extractStridedSlice S256x128 ![0, 128 * n.val] u (slices n)) c s

/-- A chunk: the half heads side by side, scaled. -/
def chunk (x : Vec Ideal S256x1536 .bf16) (w : Vec Ideal S1536x2048 .bf16) (c s : Vec Ideal S256x128 .f32) : FVec Ideal S256x2048 .bf16 :=
  let u := k0_pay4 x w
  let a := k0_pay5 c
  let b := k0_pay6 s
  truncf .bf16 (mulf (concatenate S256x2048 1
    [⟨S256x128, half u a b 0⟩, ⟨S256x128, half u a b 1⟩, ⟨S256x128, half u a b 2⟩, ⟨S256x128, half u a b 3⟩,
     ⟨S256x128, half u a b 4⟩, ⟨S256x128, half u a b 5⟩, ⟨S256x128, half u a b 6⟩, ⟨S256x128, half u a b 7⟩,
     ⟨S256x128, half u a b 8⟩, ⟨S256x128, half u a b 9⟩, ⟨S256x128, half u a b 10⟩, ⟨S256x128, half u a b 11⟩,
     ⟨S256x128, half u a b 12⟩, ⟨S256x128, half u a b 13⟩, ⟨S256x128, half u a b 14⟩, ⟨S256x128, half u a b 15⟩]
    concatenates_S256x128_S256x128_S256x128_S256x128_S256x128_S256x128_S256x128_S256x128_S256x128_S256x128_S256x128_S256x128_S256x128_S256x128_S256x128_S256x128_S256x2048_d1)
    (broadcast S256x2048 (Scalar.ofBits .f32 0x3DD53B95#32))) bitsLt_bf16_f32

section Stored
variable (x : Vec Ideal S256x1536 .bf16) (w : Vec Ideal S1536x2048 .bf16) (c s : Vec Ideal S256x128 .f32)

/-! The four stores' values, each a chunk. -/

theorem stored0 : k0_pay24 (k0_pay4 x w) (k0_pay5 c) (k0_pay6 s) (k0_pay7 x w) (k0_pay8 x w c s) (k0_pay9 x w) (k0_pay10 x w c s) (k0_pay11 x w)
    (k0_pay14 (k0_pay5 c) (k0_pay6 s) (k0_pay12 x w) k0_pay13 96#32) (k0_pay15 (k0_pay4 x w)) (k0_pay16 (k0_pay4 x w) (k0_pay5 c) (k0_pay6 s))
    (k0_pay17 (k0_pay4 x w)) (k0_pay18 (k0_pay4 x w) (k0_pay5 c) (k0_pay6 s)) (k0_pay19 (k0_pay4 x w)) (k0_pay20 (k0_pay4 x w) (k0_pay5 c) (k0_pay6 s))
    (k0_pay21 (k0_pay4 x w)) (k0_pay22 (k0_pay4 x w)) (k0_pay23 (k0_pay4 x w)) = chunk x w c s := rfl

theorem stored1 : k0_pay42 (k0_pay25 x w) (k0_pay26 c) (k0_pay27 s) (k0_pay28 x w) (k0_pay29 x w c s) (k0_pay30 x w)
    (k0_pay32 (k0_pay26 c) (k0_pay27 s) (k0_pay31 x w) (iota .tc S256x128 32 [1] iota_S256x128_d1_w32)) (k0_pay33 (k0_pay25 x w))
    (k0_pay34 (k0_pay25 x w) (k0_pay26 c) (k0_pay27 s)) (k0_pay35 (k0_pay25 x w)) (k0_pay36 (k0_pay25 x w) (k0_pay26 c) (k0_pay27 s))
    (k0_pay37 (k0_pay25 x w)) (k0_pay38 (k0_pay25 x w) (k0_pay26 c) (k0_pay27 s)) (k0_pay39 (k0_pay25 x w)) (k0_pay40 (k0_pay25 x w))
    k0_pay41 96#32 = chunk x w c s := rfl

theorem stored2 : k0_pay56 (k0_pay43 x w) (k0_pay44 c) (k0_pay45 s) (k0_pay46 (k0_pay43 x w)) (k0_pay47 (k0_pay43 x w) (k0_pay44 c) s)
    (k0_pay48 (k0_pay43 x w)) (k0_pay49 (k0_pay43 x w) (k0_pay44 c) s) (k0_pay50 (k0_pay43 x w)) (k0_pay51 (k0_pay43 x w) (k0_pay44 c) s)
    (k0_pay52 (k0_pay43 x w)) (k0_pay53 (k0_pay43 x w) (k0_pay44 c) s) (k0_pay54 (k0_pay43 x w)) (k0_pay55 (k0_pay43 x w))
    (iota .tc S256x128 32 [1] iota_S256x128_d1_w32) = chunk x w c s := rfl

theorem stored3 : k0_pay2 (k0_pay60 x w) (k0_pay61 x w c s) (k0_pay62 x w) (k0_pay63 x w c s) (k0_pay64 x w)
    (k0_pay68 (k0_pay66 x w c) (k0_pay67 x w s)) (k0_pay69 (k0_pay57 x w)) (k0_pay70 (k0_pay57 x w) (k0_pay58 c) (k0_pay59 s))
    (k0_pay71 (k0_pay57 x w)) (k0_pay72 (k0_pay57 x w) (k0_pay58 c) (k0_pay59 s)) (k0_pay73 (k0_pay57 x w)) (k0_pay74 (k0_pay57 x w) (k0_pay58 c) (k0_pay59 s))
    (k0_pay75 (k0_pay57 x w)) (k0_pay76 (k0_pay57 x w) (k0_pay58 c) (k0_pay59 s)) (k0_pay77 (k0_pay57 x w))
    (k0_pay1 (k0_pay58 c) (k0_pay59 s) (k0_pay78 (k0_pay57 x w)) (iota .tc S256x128 32 [1] iota_S256x128_d1_w32)) = chunk x w c s := rfl

/-- A chunk at an index. -/
theorem chunk_apply (r : Fin 256) (q : Fin 2048) : chunk x w c s (ix2 r q)
    = cell (fun q => ∑ k : Fin 1536, x (ix2 r k) * w (ix2 k q)) (fun j => c (ix2 r j)) (fun j => s (ix2 r j)) q := by
  have hu : ∀ q : Fin 2048, k0_pay4 x w (ix2 r q) = ∑ k : Fin 1536, x (ix2 r k) * w (ix2 k q) := fun q => by
    unfold k0_pay4
    simp only [shapeCast_self]
    refine (Ideal.matmul_plain_apply (M := 256) (K := 1536) (N := 2048) (φ₁ := .bf16) (φ₂ := .bf16) none x w (constant S256x2048 .f32 0x00000000#32) r q).trans ?_
    have z : constant (F := Ideal) S256x2048 .f32 0x00000000#32 (ix2 r q) = 0 := by
      show Ideal.ofBits .f32 0x00000000#32 = 0
      simp
    rw [z, zero_add]
  have ec : k0_pay5 c = c := by unfold k0_pay5; exact shapeCast_self _ _
  have es : k0_pay6 s = s := by unfold k0_pay6; exact shapeCast_self _ _
  unfold chunk
  rw [ec, es]
  generalize k0_pay4 x w = u at hu
  have hcat : ∀ (xs : List ((s : Shape) × (s.Idx → EReal))) (h : Shape.Concatenates (xs.map (·.1)) S256x2048 1),
      xs = (List.ofFn fun n : Fin 16 => (⟨S256x128, half u c s n⟩ : (s : Shape) × (s.Idx → EReal))) →
      concatenate S256x2048 1 xs h (ix2 r q) = half u c s ⟨q.val / 128, by omega⟩ (ix2 r ⟨q.val % 128, by omega⟩) := by
    rintro _ h rfl
    exact concatenate_ofFn_apply 1 (half u c s) h rfl 128 rfl (ix2 r q) ⟨q.val / 128, by omega⟩ rfl (ix2 r ⟨q.val % 128, by omega⟩) rfl
      (fun b hb => by fin_cases b; · rfl
                      · exact absurd rfl hb)
  refine congrArg (fun a : EReal => a * Ideal.ofBits .f32 0x3DD53B95#32) ((hcat _ _ rfl).trans ?_)
  have hs : ∀ (n : Fin 16) (j : Fin 128), extractStridedSlice S256x128 ![0, 128 * n.val] u (slices n) (ix2 r j)
      = ∑ k : Fin 1536, x (ix2 r k) * w (ix2 k ⟨128 * n.val + j.val, by omega⟩) := fun n j =>
    (extractStridedSlice_apply _ u (slices n) (ix2 r j) (ix2 r ⟨128 * n.val + j.val, by omega⟩)
      (fun a => by fin_cases a; · show r.val = 0 + r.val; omega
                   · rfl)).trans (hu _)
  unfold half
  by_cases h : q.val % 256 < 128
  · rw [if_pos h, if_pos (by show q.val / 128 % 2 = 0; omega), hs]
    refine Finset.sum_congr rfl fun k _ => ?_
    have e : (⟨128 * (q.val / 128) + q.val % 128, by omega⟩ : Fin 2048) = q := Fin.ext (by show 128 * (q.val / 128) + q.val % 128 = q.val; omega)
    exact congrArg (fun a => x (ix2 r k) * w (ix2 k a)) e
  · rw [if_neg h, if_neg (by show ¬q.val / 128 % 2 = 0; omega), turned_apply]
    refine congrArg (fun f : Fin 128 → EReal => turn f (fun j => c (ix2 r j)) (fun j => s (ix2 r j)) ⟨q.val % 128, by omega⟩) (funext fun j => ?_)
    rw [hs]
    refine Finset.sum_congr rfl fun k _ => ?_
    have e : (⟨128 * (q.val / 128) + j.val, by omega⟩ : Fin 2048) = ⟨q.val / 256 * 256 + 128 + j.val, by omega⟩ :=
      Fin.ext (by show 128 * (q.val / 128) + j.val = q.val / 256 * 256 + 128 + j.val; omega)
    exact congrArg (fun a => x (ix2 r k) * w (ix2 k a)) e

end Stored

/-! ## A block -/

/-- The block: row `y 0` of the normed rows times the weights, its second half heads rotated by that row of the tables. -/
def blk (x : Vec Ideal S1024x1536 .bf16) (w : Vec Ideal S1536x2048 .bf16) (c s : Vec Ideal S1024x128 .f32) (y : S1024x2048.Idx) : EReal :=
  cell (fun q => ∑ k : Fin 1536, x (ix2 (y 0) k) * w (ix2 k q)) (fun j => c (ix2 (y 0) j)) (fun j => s (ix2 (y 0) j)) (y 1)

abbrev wholeX : Rect S1024x1536 := Rect.unit (s := S1024x1536) ![0, 0] ![1024, 1536] inb_S1024x1536_S1024x1536_0_0
abbrev wholeG : Rect S1x1536 := Rect.unit (s := S1x1536) ![0, 0] ![1, 1536] inb_S1x1536_S1x1536_0_0
abbrev wholeW : Rect S1536x2048 := Rect.unit (s := S1536x2048) ![0, 0] ![1536, 2048] inb_S1536x2048_S1536x2048_0_0

theorem pay_whole (x : Vec Ideal S1024x1536 .bf16) (g : Vec Ideal S1x1536 .f32) : k0_pay3 (View.ld x wholeX) (View.ld g wholeG) = rows x g := by
  rw [show View.ld x wholeX = x from View.ld_unit_zero (by funext d; fin_cases d <;> rfl) _ x,
    show View.ld g wholeG = g from View.ld_unit_zero (by funext d; fin_cases d <;> rfl) _ g, pay_rows]

theorem piece (x : Vec Ideal S1024x1536 .bf16) (w : Vec Ideal S1536x2048 .bf16) (c s : Vec Ideal S1024x128 .f32) (o : ℕ) (h) (hc) (h') (p : S256x2048.Idx) :
    chunk (View.ld x (Rect.unit (s := S1024x1536) ![o, 0] ![256, 1536] h)) (View.ld w wholeW)
        (View.ld c (Rect.unit (s := S1024x128) ![o, 0] ![256, 128] hc)) (View.ld s (Rect.unit (s := S1024x128) ![o, 0] ![256, 128] hc)) p
      = blk x w c s ((Rect.unit (s := S1024x2048) ![o, 0] ![256, 2048] h').emb p) := by
  obtain ⟨r, q, rfl⟩ : ∃ r q, p = ix2 r q := ⟨_, _, eq_ix2 p⟩
  rw [show View.ld w wholeW = w from View.ld_unit_zero (by funext d; fin_cases d <;> rfl) _ w, chunk_apply]
  have eq : ((Rect.unit (s := S1024x2048) ![o, 0] ![256, 2048] h').emb (ix2 r q)) 1 = q := Fin.ext (by show 0 + 1 * q.val = q.val; omega)
  have et : ∀ (v : Vec Ideal S1024x128 .f32) (j : Fin 128), View.ld v (Rect.unit (s := S1024x128) ![o, 0] ![256, 128] hc) (ix2 r j)
      = v (ix2 (((Rect.unit (s := S1024x2048) ![o, 0] ![256, 2048] h').emb (ix2 r q)) 0) j) := fun v j => congrArg v (by
    funext d; fin_cases d
    · rfl
    · exact Fin.ext (by show 0 + 1 * j.val = j.val; omega))
  have ex : ∀ k : Fin 1536, View.ld x (Rect.unit (s := S1024x1536) ![o, 0] ![256, 1536] h) (ix2 r k)
      = x (ix2 (((Rect.unit (s := S1024x2048) ![o, 0] ![256, 2048] h').emb (ix2 r q)) 0) k) := fun k => congrArg x (by
    funext d; fin_cases d
    · rfl
    · exact Fin.ext (by show 0 + 1 * k.val = k.val; omega))
  unfold blk
  rw [eq]
  simp only [ex]
  rw [show (fun j => View.ld c (Rect.unit (s := S1024x128) ![o, 0] ![256, 128] hc) (ix2 r j)) = _ from funext (et c),
    show (fun j => View.ld s (Rect.unit (s := S1024x128) ![o, 0] ![256, 128] hc) (ix2 r j)) = _ from funext (et s)]

/-- A chunk over the rows just kept. -/
theorem piece_kept (v : View sig .tc .vmem S1024x1536 .bf16) (x : Vec Ideal S1024x1536 .bf16) (g : Vec Ideal S1x1536 .f32) (w : Vec Ideal S1536x2048 .bf16)
    (c s : Vec Ideal S1024x128 .f32) (o : ℕ) (h) (hc) (h') (p : S256x2048.Idx) :
    chunk (v.readCov [⟨wholeX, k0_pay3 (View.ld x wholeX) (View.ld g wholeG)⟩] (Rect.unit (s := S1024x1536) ![o, 0] ![256, 1536] h).toLoadRect) (View.ld w wholeW)
        (View.ld c (Rect.unit (s := S1024x128) ![o, 0] ![256, 128] hc)) (View.ld s (Rect.unit (s := S1024x128) ![o, 0] ![256, 128] hc)) p
      = blk (rows x g) w c s ((Rect.unit (s := S1024x2048) ![o, 0] ![256, 2048] h').emb p) := by
  rw [pay_whole]
  refine (congrFun (congrArg (fun a : Vec Ideal S256x1536 .bf16 => chunk a (View.ld w wholeW)
      (View.ld c (Rect.unit (s := S1024x128) ![o, 0] ![256, 128] hc)) (View.ld s (Rect.unit (s := S1024x128) ![o, 0] ![256, 128] hc)))
    (View.readCov_fill (Val := Elt Ideal) v inb_S1024x1536_S1024x1536_0_0 (rows x g) [] _ fun d => by fin_cases d <;> rfl)) p).trans ?_
  exact piece (rows x g) w c s o h hc h' p

/-! ## The two cases -/

section
variable (d : Dev nD) (i : grid0.Coords) (a2 : Memref sig .tc .vmem S1024x1536 .bf16) (h2 : a2.IsWhole) (a3 : Memref sig .tc .vmem S1x1536 .f32) (h3 : a3.IsWhole)
    (a4 : Memref sig .tc .vmem S1536x2048 .bf16) (h4 : a4.IsWhole) (a5 : Memref sig .tc .vmem S1024x128 .f32) (h5 : a5.IsWhole)
    (a6 : Memref sig .tc .vmem S1024x128 .f32) (h6 : a6.IsWhole) (a7 : Memref sig .tc .vmem S1024x2048 .bf16) (h7 : a7.IsWhole)
    (a8 : Memref sig .tc .vmem S1024x1536 .bf16) (h8 : a8.IsWhole)
    (x : Vec Ideal S1024x1536 .bf16) (g : Vec Ideal S1x1536 .f32) (w : Vec Ideal S1536x2048 .bf16) (c s : Vec Ideal S1024x128 .f32) (z : Vec Ideal S1024x1536 .bf16)

/-- The first point of a row block keeps the normed rows. -/
theorem kept (hc : cond0_0 i) : sout0_A_0 d i a2 h2 a3 h3 a4 h4 a5 h5 a6 h6 a7 h7 a8 h8 hc x g w c s = rows x g := by
  funext y
  unfold sout0_A_0
  rw [View.read_writes_eq_canon _ _ _ (scover0_A_0 d i a2 h2 a3 h3 a4 h4 a5 h5 a6 h6 a7 h7 a8 h8 hc x g w c s)]
  refine View.canon_apply_of_pieces (rows x g) _ ?_ y (scover0_A_0 d i a2 h2 a3 h3 a4 h4 a5 h5 a6 h6 a7 h7 a8 h8 hc x g w c s y)
  unfold kernelRun0_A
  dsimp only
  sl_unfold_words
  simp only [View.readAt_eq_ld, h2.read_unread, h3.read_unread]
  simp only [List.forall_mem_cons]
  exact ⟨fun p => (congrFun (pay_whole x g) p).trans (congrArg (rows x g) (Rect.emb_unit_full _ p).symm), List.forall_mem_nil _⟩

/-- It leaves the block of the normed rows; -/
theorem out_A (hc : cond0_0 i) : out0_A_5 d i a2 h2 a3 h3 a4 h4 a5 h5 a6 h6 a7 h7 a8 h8 hc x g w c s = blk (rows x g) w c s := by
  funext y
  unfold out0_A_5
  rw [View.read_writes_eq_canon _ _ _ (cover0_A_5 d i a2 h2 a3 h3 a4 h4 a5 h5 a6 h6 a7 h7 a8 h8 hc x g w c s)]
  refine View.canon_apply_of_pieces (blk (rows x g) w c s) _ ?_ y (cover0_A_5 d i a2 h2 a3 h3 a4 h4 a5 h5 a6 h6 a7 h7 a8 h8 hc x g w c s y)
  unfold kernelRun0_A
  dsimp only
  sl_unfold_words
  simp only [View.readAt_eq_ld, h2.read_unread, h3.read_unread, h4.read_unread, h5.read_unread, h6.read_unread]
  simp only [List.forall_mem_cons, stored0, stored1, stored2, stored3]
  exact ⟨piece_kept a8.view x g w c s 768 _ _ _, piece_kept a8.view x g w c s 512 _ _ _, piece_kept a8.view x g w c s 256 _ _ _,
    piece_kept a8.view x g w c s 0 _ _ _, List.forall_mem_nil _⟩

/-- the other, of the rows it finds. -/
theorem out_B (hc : ¬cond0_0 i) : out0_B_5 d i a2 h2 a3 h3 a4 h4 a5 h5 a6 h6 a7 h7 a8 h8 hc x g w c s z = blk z w c s := by
  funext y
  unfold out0_B_5
  rw [View.read_writes_eq_canon _ _ _ (cover0_B_5 d i a2 h2 a3 h3 a4 h4 a5 h5 a6 h6 a7 h7 a8 h8 hc x g w c s z)]
  refine View.canon_apply_of_pieces (blk z w c s) _ ?_ y (cover0_B_5 d i a2 h2 a3 h3 a4 h4 a5 h5 a6 h6 a7 h7 a8 h8 hc x g w c s z y)
  unfold kernelRun0_B
  dsimp only
  sl_unfold_words
  simp only [View.readAt_eq_ld, h4.read_unread, h5.read_unread, h6.read_unread, h8.read_unread]
  simp only [List.forall_mem_cons, stored0, stored1, stored2, stored3]
  exact ⟨piece z w c s 768 _ _ _, piece z w c s 512 _ _ _, piece z w c s 256 _ _ _, piece z w c s 0 _ _ _, List.forall_mem_nil _⟩

end

end Cert.Proof.LatentQ

end
-- ==== Proof.LatentQArray.lean ====
/- The array the queries' projection leaves, and its reference: a normed latent row times the up-projection, the last
   64 columns of each head rotated. -/
module

public import proofs.«01_k».proof.Proof.LatentQBody
public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.Proof.LatentQ

open Idealize.ShloMosaic hiding ix1 ix2 ix3
open Idealize.ShloMosaic.TcCoe Idealize.ShloMosaic.ValueIdx

/-! ## The formula -/

abbrev Projected : Type := (⟨2, ![16384, 29184]⟩ : Shape).Idx → EReal
abbrev Gains : Type := (⟨1, ![1536]⟩ : Shape).Idx → EReal
abbrev Up : Type := (⟨3, ![1536, 16, 192]⟩ : Shape).Idx → EReal
abbrev Angles : Type := (⟨2, ![16384, 32]⟩ : Shape).Idx → EReal

/-- A row's latent, the first 1536 columns of the projections, normed. -/
def latent (p : Projected) (g : Gains) (r : Fin 16384) (k : Fin 1536) : EReal :=
  Norm.normed 0x44C00000#32 (fun k : Fin 1536 => p (ix2 r ⟨k.val, by omega⟩)) (fun k => g (ix1 k)) k

/-- Column `j` of head `h`'s queries, before the rotation. -/
def dot (p : Projected) (g : Gains) (w : Up) (r : Fin 16384) (h : Fin 16) (j : Fin 192) : EReal :=
  ∑ k : Fin 1536, latent p g r k * w (ix3 k h j)

/-- The rotation's first coordinates -/
def low (p : Projected) (g : Gains) (w : Up) (c s : Angles) (r : Fin 16384) (h : Fin 16) (l : Fin 32) : EReal :=
  dot p g w r h ⟨128 + l.val, by omega⟩ * c (ix2 r l) - dot p g w r h ⟨160 + l.val, by omega⟩ * s (ix2 r l)

/-- and its second. -/
def high (p : Projected) (g : Gains) (w : Up) (c s : Angles) (r : Fin 16384) (h : Fin 16) (l : Fin 32) : EReal :=
  dot p g w r h ⟨160 + l.val, by omega⟩ * c (ix2 r l) + dot p g w r h ⟨128 + l.val, by omega⟩ * s (ix2 r l)

/-- A head's 256 columns: 128 as they are, 64 rotated, 64 of zeros. -/
def column (p : Projected) (g : Gains) (w : Up) (c s : Angles) (r : Fin 16384) (h : Fin 16) (j : Fin 256) : EReal :=
  if h₁ : j.val < 128 then dot p g w r h ⟨j.val, by omega⟩
  else if h₂ : j.val < 160 then low p g w c s r h ⟨j.val - 128, by omega⟩
  else if h₃ : j.val < 192 then high p g w c s r h ⟨j.val - 160, by omega⟩
  else 0

/-- The result: the heads' columns one after another, scaled. -/
def result (p : Projected) (g : Gains) (w : Up) (c s : Angles) (r : Fin 16384) (q : Fin 4096) : EReal :=
  column p g w c s r ⟨q.val / 256, by omega⟩ ⟨q.val % 256, by omega⟩ * Ideal.ofBits .f32 0x3DD53B95#32

/-! ## A row's cells -/

/-- A row of a table of 128 columns built from two halves of 32, the rest zeros. -/
def table (a b : Fin 32 → EReal) (j : Fin 128) : EReal :=
  if h : j.val < 32 then a ⟨j.val, h⟩ else if h' : j.val < 64 then b ⟨j.val - 32, by omega⟩ else 0

/-- A row of angles, negated. -/
def minus (s : Angles) (r : Fin 16384) (l : Fin 32) : EReal := -s (ix2 r l)

/-- The block's cells are the formula's, whatever the products with the padding columns are. -/
theorem cell_column (p : Projected) (g : Gains) (w : Up) (c s : Angles) (r : Fin 16384) (h : Fin 16) (u : Fin 2048 → EReal) (q : Fin 2048)
    (hu : ∀ (j : Fin 192) (q' : Fin 2048), q'.val = q.val / 256 * 256 + j.val → u q' = dot p g w r h j) :
    cell u (table (fun l => c (ix2 r l)) fun l => c (ix2 r l)) (table (minus s r) fun l => s (ix2 r l)) q
      = column p g w c s r h ⟨q.val % 256, by omega⟩ * Ideal.ofBits .f32 0x3DD53B95#32 := by
  unfold cell
  refine congrArg (fun a : EReal => a * Ideal.ofBits .f32 0x3DD53B95#32) ?_
  unfold column
  dsimp only
  by_cases h₁ : q.val % 256 < 128
  · rw [if_pos h₁, dif_pos h₁]
    exact hu ⟨q.val % 256, by omega⟩ q (by show q.val = q.val / 256 * 256 + q.val % 256; omega)
  · rw [if_neg h₁, dif_neg h₁]
    unfold turn
    dsimp only
    by_cases h₂ : q.val % 256 < 160
    · rw [dif_pos h₂]
      have a : ∀ x y : Fin 32 → EReal, table x y ⟨q.val % 128, by omega⟩ = x ⟨q.val % 256 - 128, by omega⟩ := fun x y =>
        (dif_pos (show q.val % 128 < 32 by omega)).trans (congrArg x (Fin.ext (show q.val % 128 = q.val % 256 - 128 by omega)))
      have hp : (partner ⟨q.val % 128, by omega⟩).val = q.val % 128 + 32 := if_pos (show q.val % 128 < 32 by omega)
      have e₁ : u ⟨q.val / 256 * 256 + 128 + q.val % 128, by omega⟩ = dot p g w r h ⟨128 + (q.val % 256 - 128), by omega⟩ :=
        hu _ _ (by show q.val / 256 * 256 + 128 + q.val % 128 = q.val / 256 * 256 + (128 + (q.val % 256 - 128)); omega)
      have e₂ : u ⟨q.val / 256 * 256 + 128 + (partner ⟨q.val % 128, by omega⟩).val, by omega⟩ = dot p g w r h ⟨160 + (q.val % 256 - 128), by omega⟩ :=
        hu _ _ (by show q.val / 256 * 256 + 128 + (partner _).val = q.val / 256 * 256 + (160 + (q.val % 256 - 128)); rw [hp]; omega)
      rw [a, a, e₁, e₂]
      unfold low minus
      rw [mul_neg, ← sub_eq_add_neg]
    · rw [dif_neg h₂]
      by_cases h₃ : q.val % 256 < 192
      · rw [dif_pos h₃]
        have a : ∀ x y : Fin 32 → EReal, table x y ⟨q.val % 128, by omega⟩ = y ⟨q.val % 256 - 160, by omega⟩ := fun x y =>
          (dif_neg (show ¬q.val % 128 < 32 by omega)).trans ((dif_pos (show q.val % 128 < 64 by omega)).trans
            (congrArg y (Fin.ext (show q.val % 128 - 32 = q.val % 256 - 160 by omega))))
        have hp : (partner ⟨q.val % 128, by omega⟩).val = q.val % 128 - 32 := if_neg (show ¬q.val % 128 < 32 by omega)
        have e₁ : u ⟨q.val / 256 * 256 + 128 + q.val % 128, by omega⟩ = dot p g w r h ⟨160 + (q.val % 256 - 160), by omega⟩ :=
          hu _ _ (by show q.val / 256 * 256 + 128 + q.val % 128 = q.val / 256 * 256 + (160 + (q.val % 256 - 160)); omega)
        have e₂ : u ⟨q.val / 256 * 256 + 128 + (partner ⟨q.val % 128, by omega⟩).val, by omega⟩ = dot p g w r h ⟨128 + (q.val % 256 - 160), by omega⟩ :=
          hu _ _ (by show q.val / 256 * 256 + 128 + (partner _).val = q.val / 256 * 256 + (128 + (q.val % 256 - 160)); rw [hp]; omega)
        rw [a, a, e₁, e₂]
        rfl
      · rw [dif_neg h₃]
        have a : ∀ x y : Fin 32 → EReal, table x y ⟨q.val % 128, by omega⟩ = 0 := fun x y =>
          (dif_neg (show ¬q.val % 128 < 32 by omega)).trans (dif_neg (show ¬q.val % 128 < 64 by omega))
        rw [a, a, mul_zero, mul_zero, add_zero]

/-! ## The launch -/

section Kernel

open Cert.Kernel6Ideal Cert.Kernel6Ideal.Gen

theorem index_latent : ∀ t : Fin grid0.N, cc0_transform_0 (grid0.coords t) = ![t.val / 2, 0] := by decide +kernel
theorem index_gains : ∀ t : Fin grid0.N, cc0_transform_1 (grid0.coords t) = ![0, 0] := by decide +kernel
theorem index_weights : ∀ t : Fin grid0.N, cc0_transform_2 (grid0.coords t) = ![0, t.val % 2] := by decide +kernel
theorem index_cos : ∀ t : Fin grid0.N, cc0_transform_3 (grid0.coords t) = ![t.val / 2, 0] := by decide +kernel
theorem index_sin : ∀ t : Fin grid0.N, cc0_transform_4 (grid0.coords t) = ![t.val / 2, 0] := by decide +kernel
theorem index_out : ∀ t : Fin grid0.N, cc0_transform_5 (grid0.coords t) = ![t.val / 2, t.val % 2] := by decide +kernel

variable (m : (ℓ : Loc nD τ sig) → Buf (Elt Ideal) ℓ) (c : Dev nD) (t : Fin cfg0.N)

theorem V_gains (k : Fin 1536) : (V m c main_v7 : S1x1536.Idx → EReal) (ix2 0 k) = m ((c : Thread nD τ).loc main_arg1) (ix1 k) := by
  have e : (V m c main_v7 : S1x1536.Idx → EReal) = shapeCast S1x1536 (m ((c : Thread nD τ).loc main_arg1)) shapeCasts_S1536_S1x1536 := by
    unfold V
    simp only [hostOps0, hostOps0_1, hostOps0_2, List.flatten_cons, List.flatten_nil, List.append_nil, List.cons_append, List.nil_append]
    after_results_simp; rfl
  rw [e]
  refine (shapeCast_addUnit_apply ![1536] _ shapeCasts_S1536_S1x1536 (ix2 0 k)).trans (congrArg (m ((c : Thread nD τ).loc main_arg1)) ?_)
  funext d; fin_cases d; rfl

/-- A column of the weights that is not padding. -/
theorem V_weights (k : Fin 1536) (h : Fin 16) (j : Fin 192) (q : Fin 4096) (hq : q.val = h.val * 256 + j.val) :
    (V m c main_v2 : S1536x4096.Idx → EReal) (ix2 k q) = m ((c : Thread nD τ).loc main_arg2) (ix3 k h j) := by
  have e : (V m c main_v2 : S1536x4096.Idx → EReal) = shapeCast S1536x4096 (pad S1536x16x256 ![0, 0, 0] ![0, 0, 64] ![0, 0, 0]
      (m ((c : Thread nD τ).loc main_arg2) : S1536x16x192.Idx → EReal) (sitofp (F := Ideal) .f32 (constantI S_ 32 0#32) : FVec Ideal S_ .f32)
      pads_S1536x16x192_S1536x16x256_000_000_0640 h_S_) shapeCasts_S1536x16x256_S1536x4096 := by
    unfold V
    simp only [hostOps0, hostOps0_1, hostOps0_2, List.flatten_cons, List.flatten_nil, List.append_nil, List.cons_append, List.nil_append]
    after_results_simp; rfl
  rw [e, shapeCast_apply _ _ (ix2 k q) (ix3 k h ⟨j.val, by omega⟩) (by
    rw [Shape.rowMajor_val_two, Shape.rowMajor_val_three]
    show (k.val * 16 + h.val) * 256 + j.val = k.val * 4096 + q.val
    omega)]
  exact pad_apply_of_inside _ _ _ _ _ _ _ (ix3 k h ⟨j.val, by omega⟩) (ix3 k h j) fun a => by
    fin_cases a
    · show k.val = 0 + k.val * 1; omega
    · show h.val = 0 + h.val * 1; omega
    · show j.val = 0 + j.val * 1; omega

/-- Two halves and a zero tail side by side. -/
theorem table_apply (a b : S16384x32.Idx → EReal) (r : Fin 16384) (j : Fin 128) :
    concatenate S16384x128 1 [⟨S16384x32, a⟩, ⟨S16384x32, b⟩, ⟨S16384x64, broadcastInDim S16384x64 ![] bcast_S_S16384x64 (constant (F := Ideal) S_ .f32 0x00000000#32)⟩]
      concatenates_S16384x32_S16384x32_S16384x64_S16384x128_d1 (ix2 r j) = table (fun l => a (ix2 r l)) (fun l => b (ix2 r l)) j := by
  unfold table
  split
  · rename_i h
    exact concatenate_apply_piece 1 _ _ (ix2 r j) 0 (by show 0 < 3; omega) S16384x32 a rfl rfl 0 rfl (ix2 r ⟨j.val, h⟩)
      (fun b hb => by fin_cases b; exact rfl; exact absurd rfl hb) (by show 0 + j.val = j.val; omega)
  · split
    · rename_i h h'
      exact concatenate_apply_piece 1 _ _ (ix2 r j) 1 (by show 1 < 3; omega) S16384x32 b rfl rfl 32 rfl (ix2 r ⟨j.val - 32, by omega⟩)
        (fun b hb => by fin_cases b; exact rfl; exact absurd rfl hb) (by show 32 + (j.val - 32) = j.val; omega)
    · rename_i h h'
      refine (concatenate_apply_piece 1 _ _ (ix2 r j) 2 (by show 2 < 3; omega) S16384x64 _ rfl rfl 64 rfl (ix2 r ⟨j.val - 64, by omega⟩)
        (fun b hb => by fin_cases b; exact rfl; exact absurd rfl hb) (by show 64 + (j.val - 64) = j.val; omega)).trans ?_
      exact Ideal.ofBits_zero_f32

theorem V_cos (r : Fin 16384) (j : Fin 128) : (V m c main_v4 : S16384x128.Idx → EReal) (ix2 r j)
    = table (fun l => m ((c : Thread nD τ).loc main_arg3) (ix2 r l)) (fun l => m ((c : Thread nD τ).loc main_arg3) (ix2 r l)) j := by
  refine Eq.trans (congrFun ?_ (ix2 r j)) (table_apply (m ((c : Thread nD τ).loc main_arg3)) (m ((c : Thread nD τ).loc main_arg3)) r j)
  unfold V
  simp only [hostOps0, hostOps0_1, hostOps0_2, List.flatten_cons, List.flatten_nil, List.append_nil, List.cons_append, List.nil_append]
  after_results_simp; rfl

theorem V_sin (r : Fin 16384) (j : Fin 128) : (V m c main_v6 : S16384x128.Idx → EReal) (ix2 r j)
    = table (minus (m ((c : Thread nD τ).loc main_arg4)) r) (fun l => m ((c : Thread nD τ).loc main_arg4) (ix2 r l)) j := by
  refine Eq.trans (congrFun ?_ (ix2 r j)) (table_apply (Host.negf (F := Ideal) (s := S16384x32) (φ := .f32) (m ((c : Thread nD τ).loc main_arg4))) (m ((c : Thread nD τ).loc main_arg4)) r j)
  unfold V
  simp only [hostOps0, hostOps0_1, hostOps0_2, List.flatten_cons, List.flatten_nil, List.append_nil, List.cons_append, List.nil_append]
  after_results_simp; rfl

theorem read_latent (a : Fin 1024) (k : Fin 1536) (r : Fin 16384) (hr : r.val = t.val / 2 * 1024 + a.val) :
    iblk m c 0 t (ix2 a k) = m ((c : Thread nD τ).loc main_arg0) (ix2 r ⟨k.val, by omega⟩) := by
  rw [← V_main_arg0 m c]
  refine congrArg (V m c main_arg0) (funext fun d => Fin.ext ?_)
  refine (Pipeline.Window.rect_emb_val_off (cfg0.win 0) t (ix2 a k) d).trans ?_
  have e : (cfg0.win 0).index t = ![t.val / 2, 0] := index_latent t
  rw [e]; fin_cases d
  · exact hr.symm
  · show 0 * 1536 + k.val = k.val; omega

theorem read_gains (k : Fin 1536) : iblk m c 1 t (ix2 0 k) = m ((c : Thread nD τ).loc main_arg1) (ix1 k) := by
  rw [← V_gains m c k]
  refine congrArg (V m c main_v7) (funext fun d => Fin.ext ?_)
  refine (Pipeline.Window.rect_emb_val_off (cfg0.win 1) t (ix2 0 k) d).trans ?_
  have e : (cfg0.win 1).index t = ![0, 0] := index_gains t
  rw [e]; fin_cases d
  · rfl
  · show 0 * 1536 + k.val = k.val; omega

theorem read_weights (k : Fin 1536) (b : Fin 2048) (h : Fin 16) (j : Fin 192) (q : Fin 4096) (hq : q.val = t.val % 2 * 2048 + b.val) (hh : q.val = h.val * 256 + j.val) :
    iblk m c 2 t (ix2 k b) = m ((c : Thread nD τ).loc main_arg2) (ix3 k h j) := by
  rw [← V_weights m c k h j q hh]
  refine congrArg (V m c main_v2) (funext fun d => Fin.ext ?_)
  refine (Pipeline.Window.rect_emb_val_off (cfg0.win 2) t (ix2 k b) d).trans ?_
  have e : (cfg0.win 2).index t = ![0, t.val % 2] := index_weights t
  rw [e]; fin_cases d
  · show 0 * 1536 + k.val = k.val; omega
  · exact hq.symm

theorem read_cos (a : Fin 1024) (j : Fin 128) (r : Fin 16384) (hr : r.val = t.val / 2 * 1024 + a.val) : iblk m c 3 t (ix2 a j)
    = table (fun l => m ((c : Thread nD τ).loc main_arg3) (ix2 r l)) (fun l => m ((c : Thread nD τ).loc main_arg3) (ix2 r l)) j := by
  rw [← V_cos m c r j]
  refine congrArg (V m c main_v4) (funext fun d => Fin.ext ?_)
  refine (Pipeline.Window.rect_emb_val_off (cfg0.win 3) t (ix2 a j) d).trans ?_
  have e : (cfg0.win 3).index t = ![t.val / 2, 0] := index_cos t
  rw [e]; fin_cases d
  · exact hr.symm
  · show 0 * 128 + j.val = j.val; omega

theorem read_sin (a : Fin 1024) (j : Fin 128) (r : Fin 16384) (hr : r.val = t.val / 2 * 1024 + a.val) : iblk m c 4 t (ix2 a j)
    = table (minus (m ((c : Thread nD τ).loc main_arg4)) r) (fun l => m ((c : Thread nD τ).loc main_arg4) (ix2 r l)) j := by
  rw [← V_sin m c r j]
  refine congrArg (V m c main_v6) (funext fun d => Fin.ext ?_)
  refine (Pipeline.Window.rect_emb_val_off (cfg0.win 4) t (ix2 a j) d).trans ?_
  have e : (cfg0.win 4).index t = ![t.val / 2, 0] := index_sin t
  rw [e]; fin_cases d
  · exact hr.symm
  · show 0 * 128 + j.val = j.val; omega

/-- The rows a point's block norms are the formula's. -/
theorem rows_latent (a : Fin 1024) (k : Fin 1536) (r : Fin 16384) (hr : r.val = t.val / 2 * 1024 + a.val) :
    rows (iblk m c 0 t) (iblk m c 1 t) (ix2 a k) = latent (m ((c : Thread nD τ).loc main_arg0)) (m ((c : Thread nD τ).loc main_arg1)) r k :=
  congrArg₂ (fun (x y : Fin 1536 → EReal) => Norm.normed 0x44C00000#32 x y k)
    (funext fun k => read_latent m c t a k r hr) (funext fun k => read_gains m c t k)

/-- What a point keeps: its row block's normed rows, whether it computes them or finds them. -/
theorem kept_rows (a : Fin 1024) (k : Fin 1536) (r : Fin 16384) (hr : r.val = t.val / 2 * 1024 + a.val) :
    (outsAt0 m c t.val t.isLt).2 (ix2 a k) = latent (m ((c : Thread nD τ).loc main_arg0)) (m ((c : Thread nD τ).loc main_arg1)) r k := by
  have first : ∀ t : Fin cfg0.N, t.val % 2 = 0 → r.val = t.val / 2 * 1024 + a.val → (outsAt0 m c t.val t.isLt).2 (ix2 a k)
      = latent (m ((c : Thread nD τ).loc main_arg0)) (m ((c : Thread nD τ).loc main_arg1)) r k := fun t h hr => by
    refine (congrFun (congrArg Prod.snd (outsAt0_A m c t h)) (ix2 a k)).trans ?_
    dsimp only
    exact (congrFun (kept _ _ _ _ _ _ _ _ _ _ _ _ _ _ _ _ _ _ _ _ _ _) (ix2 a k)).trans (rows_latent m c t a k r hr)
  by_cases h : t.val % 2 = 0
  · exact first t h hr
  · refine (congrFun (congrArg Prod.snd (outsAt0_B m c t h)) (ix2 a k)).trans ?_
    dsimp only [sout0_B_0]
    exact first ⟨t.val - 1, Nat.lt_of_le_of_lt (Nat.sub_le _ _) t.isLt⟩ (by show (t.val - 1) % 2 = 0; omega) (by rw [hr]; show _ = (t.val - 1) / 2 * 1024 + a.val; omega)

/-- A block of the formula's rows at an index. -/
theorem blk_result (x : Vec Ideal S1024x1536 .bf16) (y : S1024x2048.Idx) (r : Fin 16384) (q : Fin 4096)
    (hr : r.val = t.val / 2 * 1024 + (y 0).val) (hq : q.val = t.val % 2 * 2048 + (y 1).val)
    (hx : ∀ k, x (ix2 (y 0) k) = latent (m ((c : Thread nD τ).loc main_arg0)) (m ((c : Thread nD τ).loc main_arg1)) r k) :
    blk x (iblk m c 2 t) (iblk m c 3 t) (iblk m c 4 t) y = result (m ((c : Thread nD τ).loc main_arg0)) (m ((c : Thread nD τ).loc main_arg1))
      (m ((c : Thread nD τ).loc main_arg2)) (m ((c : Thread nD τ).loc main_arg3)) (m ((c : Thread nD τ).loc main_arg4)) r q := by
  have hy : (y 1).val < 2048 := (y 1).isLt
  unfold blk
  rw [show (fun j => iblk m c 3 t (ix2 (y 0) j)) = _ from funext fun j => read_cos m c t (y 0) j r hr,
    show (fun j => iblk m c 4 t (ix2 (y 0) j)) = _ from funext fun j => read_sin m c t (y 0) j r hr]
  refine (cell_column (m ((c : Thread nD τ).loc main_arg0)) (m ((c : Thread nD τ).loc main_arg1)) (m ((c : Thread nD τ).loc main_arg2))
    (m ((c : Thread nD τ).loc main_arg3)) (m ((c : Thread nD τ).loc main_arg4)) r ⟨q.val / 256, by omega⟩ _ (y 1) fun j q' hq' =>
      Finset.sum_congr rfl fun k _ => congrArg₂ (fun (a b : EReal) => a * b) (hx k)
        (read_weights m c t k q' ⟨q.val / 256, by omega⟩ j ⟨t.val % 2 * 2048 + q'.val, by omega⟩ rfl
          (by show t.val % 2 * 2048 + q'.val = q.val / 256 * 256 + j.val; omega))).trans ?_
  unfold result
  exact congrArg (fun j => column _ _ _ _ _ r ⟨q.val / 256, by omega⟩ j * Ideal.ofBits .f32 0x3DD53B95#32)
    (Fin.ext (show (y 1).val % 256 = q.val % 256 by omega))

/-- What a point leaves in its block. -/
theorem point (y : S1024x2048.Idx) (r : Fin 16384) (q : Fin 4096) (hr : r.val = t.val / 2 * 1024 + (y 0).val) (hq : q.val = t.val % 2 * 2048 + (y 1).val) :
    (outsAt0 m c t.val t.isLt).1 y = result (m ((c : Thread nD τ).loc main_arg0)) (m ((c : Thread nD τ).loc main_arg1))
      (m ((c : Thread nD τ).loc main_arg2)) (m ((c : Thread nD τ).loc main_arg3)) (m ((c : Thread nD τ).loc main_arg4)) r q := by
  by_cases h : t.val % 2 = 0
  · refine (congrFun (congrArg Prod.fst (outsAt0_A m c t h)) y).trans ?_
    dsimp only
    exact (congrFun (out_A _ _ _ _ _ _ _ _ _ _ _ _ _ _ _ _ _ _ _ _ _ _) y).trans
      (blk_result m c t _ y r q hr hq fun k => rows_latent m c t (y 0) k r hr)
  · refine (congrFun (congrArg Prod.fst (outsAt0_B m c t h)) y).trans ?_
    dsimp only
    exact (congrFun (out_B _ _ _ _ _ _ _ _ _ _ _ _ _ _ _ _ _ _ _ _ _ _ _) y).trans
      (blk_result m c t _ y r q hr hq fun k => kept_rows m c ⟨t.val - 1, Nat.lt_of_le_of_lt (Nat.sub_le _ _) t.isLt⟩ (y 0) k r
        (by rw [hr]; show _ = (t.val - 1) / 2 * 1024 + (y 0).val; omega))

/-- The array after the launch. -/
theorem array : (dats m 0 c).arrAt 5 cfg0.N
    = fun i : S16384x4096.Idx => result (m ((c : Thread nD τ).loc main_arg0)) (m ((c : Thread nD τ).loc main_arg1))
        (m ((c : Thread nD τ).loc main_arg2)) (m ((c : Thread nD τ).loc main_arg3)) (m ((c : Thread nD τ).loc main_arg4)) (i 0) (i 1) := by
  refine (dats m 0 c).arrAt_eq_of_covers 5 _ (by decide +kernel) fun t _ y => ?_
  have e : (cfg0.win 5).index t = ![t.val / 2, t.val % 2] := index_out t
  have hb := Pipeline.Window.rect_emb_val_off (cfg0.win 5) t y
  rw [e] at hb
  exact (congrFun (after0_5 m c t) y).trans (point m c t y _ _ (hb (0 : Fin 2)) (hb (1 : Fin 2)))

end Kernel

/-! ## The reference -/

section Reference

open Cert.Reference6Ideal Cert.Reference6Ideal.Gen Cert.Reference6Ideal.Read

variable (x0 : (⟨S16384x29184, .bf16⟩ : BufTy).Contents (Elt Ideal)) (x1 : (⟨S1536, .f32⟩ : BufTy).Contents (Elt Ideal))
  (x2 : (⟨S1536x16x192, .f32⟩ : BufTy).Contents (Elt Ideal)) (x3 x4 : (⟨S16384x32, .f32⟩ : BufTy).Contents (Elt Ideal))

/-- The reference's sum of squares. -/
theorem squares (r : Fin 16384) : val_main_v3 (F := Ideal) x0 (ix1 r) = ∑ k : Fin 1536, x0 (ix2 r ⟨k.val, by omega⟩) * x0 (ix2 r ⟨k.val, by omega⟩) := by
  rw [val_main_v3_apply, val_main_cst_apply]
  refine (congrArg (fun a : EReal => a + _) Ideal.ofBits_zero_f32).trans ((zero_add _).trans (Finset.sum_congr rfl fun k _ => ?_))
  rw [val_main_v2_apply, val_main_v1_apply, val_main_v0_apply]
  have e : idx_main_v0 (idx_main_v3 (ix1 r) k) = ix2 r ⟨k.val, by omega⟩ := by funext d; fin_cases d <;> rfl
  rw [e]; rfl

/-- The reference's normed latent. -/
theorem ref_latent (r : Fin 16384) (k : Fin 1536) : val_main_v14 (F := Ideal) x0 x1 (ix2 r k) = latent x0 x1 r k := by
  have e4 : idx_main_v4 (idx_main_v10 (ix2 r k)) = ix1 r := by funext d; fin_cases d; rfl
  have e0 : idx_main_v0 (ix2 r k) = ix2 r ⟨k.val, by omega⟩ := by funext d; fin_cases d <;> rfl
  have e12 : idx_main_v12 (idx_main_v13 (ix2 r k)) = ix1 k := by funext d; fin_cases d; rfl
  rw [val_main_v14_apply, val_main_v11_apply, val_main_v10_apply, val_main_v9_apply, val_main_v8_apply, val_main_v6_apply, val_main_v4_apply, e4, squares,
    val_main_v5_apply, val_main_cst_0_apply, val_main_v7_apply, val_main_cst_1_apply, val_main_v1_apply, val_main_v0_apply, e0,
    val_main_v13_apply, val_main_v12_apply, e12]
  rfl

theorem ref_dot (r : Fin 16384) (h : Fin 16) (j : Fin 192) (i : S16384x16x192.Idx) (hi : i = ix3 r h j) :
    val_main_v15 (F := Ideal) x0 x1 x2 i = dot x0 x1 x2 r h j := by
  subst hi
  rw [val_main_v15_apply]
  refine Finset.sum_congr rfl fun k _ => congrArg₂ (fun (a b : EReal) => a * b) (Eq.trans (congrArg (val_main_v14 (F := Ideal) x0 x1) ?_) (ref_latent x0 x1 r k)) (congrArg x2 ?_)
  · funext d; fin_cases d <;> rfl
  · funext d; fin_cases d <;> rfl

theorem ref_low (r : Fin 16384) (h : Fin 16) (l : Fin 32) : val_main_v25 (F := Ideal) x0 x1 x2 x3 x4 (ix3 r h l) = low x0 x1 x2 x3 x4 r h l := by
  have e3 : idx_main_v19 (idx_main_v21 (ix3 r h l)) = ix2 r l := by funext d; fin_cases d <;> rfl
  have e4 : idx_main_v20 (idx_main_v23 (ix3 r h l)) = ix2 r l := by funext d; fin_cases d <;> rfl
  rw [val_main_v25_apply, val_main_v22_apply, val_main_v24_apply, val_main_v17_apply, val_main_v18_apply, val_main_v21_apply, val_main_v19_apply,
    val_main_v23_apply, val_main_v20_apply, e3, e4,
    ref_dot x0 x1 x2 r h ⟨128 + l.val, by omega⟩ _ (by funext d; fin_cases d <;> rfl),
    ref_dot x0 x1 x2 r h ⟨160 + l.val, by omega⟩ _ (by funext d; fin_cases d <;> rfl)]
  rfl

theorem ref_high (r : Fin 16384) (h : Fin 16) (l : Fin 32) : val_main_v30 (F := Ideal) x0 x1 x2 x3 x4 (ix3 r h l) = high x0 x1 x2 x3 x4 r h l := by
  have e3 : idx_main_v19 (idx_main_v26 (ix3 r h l)) = ix2 r l := by funext d; fin_cases d <;> rfl
  have e4 : idx_main_v20 (idx_main_v28 (ix3 r h l)) = ix2 r l := by funext d; fin_cases d <;> rfl
  rw [val_main_v30_apply, val_main_v27_apply, val_main_v29_apply, val_main_v17_apply, val_main_v18_apply, val_main_v26_apply, val_main_v19_apply,
    val_main_v28_apply, val_main_v20_apply, e3, e4,
    ref_dot x0 x1 x2 r h ⟨160 + l.val, by omega⟩ _ (by funext d; fin_cases d <;> rfl),
    ref_dot x0 x1 x2 r h ⟨128 + l.val, by omega⟩ _ (by funext d; fin_cases d <;> rfl)]
  rfl

/-- The reference's heads, each of four pieces. -/
theorem ref_column (r : Fin 16384) (h : Fin 16) (j : Fin 256) : val_main_v32 (F := Ideal) x0 x1 x2 x3 x4 (ix3 r h j) = column x0 x1 x2 x3 x4 r h j := by
  unfold column
  split
  · rename_i h₁
    refine Eq.trans (concatenate_apply_piece 2 _ _ (ix3 r h j) 0 (by show 0 < 4; omega) S16384x16x128 (val_main_v16 (F := Ideal) x0 x1 x2) rfl rfl 0 rfl (ix3 r h ⟨j.val, h₁⟩)
      (fun b hb => by fin_cases b; exact rfl; exact rfl; exact absurd rfl hb) (by show 0 + j.val = j.val; omega)) ?_
    rw [val_main_v16_apply]
    exact ref_dot x0 x1 x2 r h ⟨j.val, by omega⟩ _ (by funext d; fin_cases d <;> rfl)
  · split
    · rename_i h₁ h₂
      exact Eq.trans (concatenate_apply_piece 2 _ _ (ix3 r h j) 1 (by show 1 < 4; omega) S16384x16x32 (val_main_v25 (F := Ideal) x0 x1 x2 x3 x4) rfl rfl 128 rfl
        (ix3 r h ⟨j.val - 128, by omega⟩) (fun b hb => by fin_cases b; exact rfl; exact rfl; exact absurd rfl hb)
        (by show 128 + (j.val - 128) = j.val; omega)) (ref_low x0 x1 x2 x3 x4 r h _)
    · split
      · rename_i h₁ h₂ h₃
        exact Eq.trans (concatenate_apply_piece 2 _ _ (ix3 r h j) 2 (by show 2 < 4; omega) S16384x16x32 (val_main_v30 (F := Ideal) x0 x1 x2 x3 x4) rfl rfl 160 rfl
          (ix3 r h ⟨j.val - 160, by omega⟩) (fun b hb => by fin_cases b; exact rfl; exact rfl; exact absurd rfl hb)
          (by show 160 + (j.val - 160) = j.val; omega)) (ref_high x0 x1 x2 x3 x4 r h _)
      · rename_i h₁ h₂ h₃
        refine Eq.trans (concatenate_apply_piece 2 _ _ (ix3 r h j) 3 (by show 3 < 4; omega) S16384x16x64 (val_main_v31 (F := Ideal)) rfl rfl 192 rfl
          (ix3 r h ⟨j.val - 192, by omega⟩) (fun b hb => by fin_cases b; exact rfl; exact rfl; exact absurd rfl hb)
          (by show 192 + (j.val - 192) = j.val; omega)) ?_
        rw [val_main_v31_apply, val_main_cst_2_apply]
        exact Ideal.ofBits_zero_f32

/-- The reference's result at an index. -/
theorem ref_at (i : S16384x4096.Idx) : val_main_v36 (F := Ideal) x0 x1 x2 x3 x4 i = result x0 x1 x2 x3 x4 (i 0) (i 1) := by
  obtain ⟨r, q, rfl⟩ : ∃ (r : Fin 16384) (q : Fin 4096), i = ix2 r q := ⟨_, _, ValueIdx.eq_ix2 (n0 := 16384) (n1 := 4096) i⟩
  have e : idx_main_v33 (ix2 r q) = ix3 r ⟨q.val / 256, by omega⟩ ⟨q.val % 256, by omega⟩ := by
    funext d; fin_cases d
    · exact Fin.ext (by show (r.val * 4096 + q.val) / 4096 = r.val; omega)
    · exact Fin.ext (by show (r.val * 4096 + q.val) / 256 % 16 = q.val / 256; omega)
    · exact Fin.ext (by show (r.val * 4096 + q.val) % 256 = q.val % 256; omega)
  rw [val_main_v36_apply, val_main_v35_apply, val_main_v33_apply, e, ref_column, val_main_v34_apply, val_main_cst_3_apply]
  rfl

end Reference

end Cert.Proof.LatentQ

end
-- ==== Proof.LatentQClaims.lean ====
/- The claims of the queries' projection: the frames of the kernel and its idealization (one run, generic in the float values,
   read twice), the frame of its reference, and the equality of the two results over the reals. -/
module

public import proofs.«01_k».proof.Defs
public import proofs.«01_k».proof.Proof.Gen.Kernel6
public import proofs.«01_k».proof.Proof.LatentQArray
public import proofs.«01_k».proof.Proof.Gen.Reference6Ideal.Run

@[expose] public section

noncomputable section

namespace Cert.Proof.LatentQ

open Idealize.ShloMosaic Idealize.ShloMosaic.TcCoe Idealize.SL.Sem

theorem frame_ideal : Cert.quiescent_Kernel6Ideal := fun m ρ _ => Cert.Kernel6Ideal.Gen.frame m ρ

/-- The body called at a point is the same in the kernel and in its idealization … -/
theorem bodies_eq : Cert.Kernel6.defs₀ (F := Bits) = Cert.Kernel6Ideal.defs₀ (F := Bits) := by
  refine congrArg Defs.onTc (funext fun l => funext fun a => ?_)
  match l, a with
  | 0, (t, s) => rfl
  | ⟨n + 1, h⟩, _ => exact absurd h (by omega)

/-- … and so is the pipeline around it. -/
theorem defs_eq : Cert.Kernel6.defs (F := Bits) = Cert.Kernel6Ideal.defs (F := Bits) :=
  congrArg (Pipeline.defs Cert.Kernel6Ideal.pcfgs) bodies_eq

/-- The kernel's frame is its idealization's run, read at the bits. -/
theorem frame_bits : Cert.quiescent_Kernel6 := fun m ρ _ => by
  rw [defs_eq]; exact Cert.Kernel6Ideal.Gen.frame (F := Bits) m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two results are the same formula of the same arguments. -/
theorem algebraic : Cert.algebraic_Kernel6Ideal_Reference6Ideal := fun m ρ m' ρ' _ hm => by
  refine ⟨_, (θ_run _ _ _).mono (fun r h c => ⟨(h c).1.trans (array m c), (h c).2⟩) (Cert.Kernel6Ideal.Value.run_blocks (F := Ideal) m ρ),
    (θ_run _ _ _).mono (fun r h c => ⟨(h c).1.trans ?_, (h c).2⟩) (Cert.Reference6Ideal.Value.run (F := Ideal) m' ρ')⟩
  refine (Cert.Reference6Ideal.Read.val_main_v36_eq _ _).trans (funext fun i => ?_)
  obtain ⟨h0, h1, h2, h3, h4⟩ := hm c
  rw [h0, h1, h2, h3, h4]
  exact ref_at _ _ _ _ _ i

end Cert.Proof.LatentQ

end
-- ==== Proof.Softmax.lean ====
/- The base-2 softmax mean of a row of scores: it may stop where the scores are −∞, its sums and its maximum may be
   taken in two parts, and its division may come before or after the sum. -/
module

public import Idealize.ShloMosaic.PureOps.Ideal

@[expose] public section

noncomputable section

namespace Cert.Proof.Softmax

open Idealize.ShloMosaic

/-- The greatest of the first `n` scores. -/
def top (s : ℕ → EReal) (n : ℕ) : EReal := (Finset.range n).sup s

/-- A score's weight, against a greatest `m`. -/
def weight (s : ℕ → EReal) (m : EReal) (j : ℕ) : EReal := Ideal.exp2 (s j - m)

/-- The weights' sum. -/
def total (s : ℕ → EReal) (n : ℕ) : EReal := ∑ j ∈ Finset.range n, weight s (top s n) j

/-- The mean of the values under the weights. -/
def mean (s v : ℕ → EReal) (n : ℕ) : EReal := (∑ j ∈ Finset.range n, weight s (top s n) j * v j) * Ideal.div 1 (total s n)

theorem exp2_nonneg (x : EReal) : 0 ≤ Ideal.exp2 x := by
  induction x with
  | bot => exact le_refl _
  | top => exact le_top
  | coe r => exact EReal.coe_nonneg.mpr (Real.rpow_nonneg (by norm_num) r)

/-- A score of −∞ weighs nothing. -/
theorem weight_bot (s : ℕ → EReal) (m : EReal) (j : ℕ) (h : s j = ⊥) : weight s m j = 0 := by
  unfold weight
  rw [h, sub_eq_add_neg, EReal.bot_add]
  rfl

/-! ## Over the first indices -/

theorem top_fin (n : ℕ) (f : Fin n → EReal) (s : ℕ → EReal) (h : ∀ k : Fin n, f k = s k.val) :
    (Finset.univ : Finset (Fin n)).fold max ⊥ f = top s n := by
  refine le_antisymm (show Finset.univ.sup f ≤ top s n from Finset.sup_le fun k _ => ?_)
    (Finset.sup_le fun j hj => ?_)
  · rw [h k]
    exact Finset.le_sup (f := s) (Finset.mem_range.mpr k.isLt)
  · rw [← h ⟨j, Finset.mem_range.mp hj⟩]
    exact Finset.le_sup (f := f) (Finset.mem_univ _)

theorem top_add (s : ℕ → EReal) (n m : ℕ) : top s (n + m) = max (top (fun k => s (n + k)) m) (top s n) := by
  refine le_antisymm (Finset.sup_le fun j hj => ?_) (max_le (Finset.sup_le fun j hj => ?_) (Finset.sup_le fun j hj => ?_))
  · have hj := Finset.mem_range.mp hj
    by_cases h : j < n
    · exact le_max_of_le_right (Finset.le_sup (f := s) (Finset.mem_range.mpr h))
    · obtain ⟨k, rfl⟩ := Nat.exists_eq_add_of_le (Nat.le_of_not_lt h)
      exact le_max_of_le_left (Finset.le_sup (f := fun k => s (n + k)) (Finset.mem_range.mpr (by omega)))
  · exact Finset.le_sup (f := s) (Finset.mem_range.mpr (by have := Finset.mem_range.mp hj; omega))
  · exact Finset.le_sup (f := s) (Finset.mem_range.mpr (by have := Finset.mem_range.mp hj; omega))

theorem top_stop (s : ℕ → EReal) (n m : ℕ) (h : ∀ j, n ≤ j → s j = ⊥) : top s (n + m) = top s n := by
  rw [top_add]
  refine max_eq_right ((Finset.sup_le fun j _ => ?_).trans bot_le)
  exact (h (n + j) (Nat.le_add_right n j)).le

/-- A mean may stop where the scores are −∞. -/
theorem mean_stop (s v : ℕ → EReal) (n m : ℕ) (h : ∀ j, n ≤ j → s j = ⊥) : mean s v (n + m) = mean s v n := by
  unfold mean total
  rw [top_stop s n m h, Finset.sum_range_add, Finset.sum_range_add]
  have z : ∀ j, weight s (top s n) (n + j) = 0 := fun j => weight_bot _ _ _ (h _ (Nat.le_add_right n j))
  simp only [z, zero_mul, Finset.sum_const_zero, add_zero]

/-! ## The division first -/

theorem sum_mul (n : ℕ) (f : ℕ → EReal) (x : EReal) (h₀ : 0 ≤ x) (h₁ : x ≠ ⊤) :
    (∑ j ∈ Finset.range n, f j) * x = ∑ j ∈ Finset.range n, f j * x := by
  induction n with
  | zero => simp
  | succ n ih => rw [Finset.sum_range_succ, Finset.sum_range_succ, EReal.right_distrib_of_nonneg_of_ne_top h₀ h₁, ih]

theorem inv_nonneg_ne_top (x : EReal) (h : 0 ≤ x) : 0 ≤ x⁻¹ ∧ x⁻¹ ≠ ⊤ := by
  induction x with
  | bot => exact absurd h (by simp)
  | top => simp
  | coe r => exact ⟨EReal.inv_nonneg_of_nonneg h, by rw [← EReal.coe_inv]; exact EReal.coe_ne_top _⟩

/-- Each weight divided by their sum, then the mean. -/
theorem mean_eq (s v : ℕ → EReal) (n : ℕ) :
    ∑ j ∈ Finset.range n, v j * (weight s (top s n) j * Ideal.div 1 (total s n)) = mean s v n := by
  have hw : ∀ j, 0 ≤ weight s (top s n) j := fun j => exp2_nonneg _
  unfold mean
  by_cases h : total s n = 0
  · have z := (Finset.sum_eq_zero_iff_of_nonneg fun j _ => hw j).mp h
    rw [Finset.sum_eq_zero fun j hj => by rw [z j hj, zero_mul, mul_zero],
      Finset.sum_eq_zero fun j hj => by rw [z j hj, zero_mul], zero_mul]
  · have e : Ideal.div 1 (total s n) = (total s n)⁻¹ := (if_neg h).trans (one_mul _)
    obtain ⟨h₀, h₁⟩ := inv_nonneg_ne_top (total s n) (Finset.sum_nonneg fun j _ => hw j)
    rw [e, sum_mul n _ _ h₀ h₁]
    exact Finset.sum_congr rfl fun j _ => by rw [mul_comm (v j), mul_right_comm]

/-! ## In two parts -/

/-- A mean over `n + m` scores from the sums over each part. -/
theorem mean_add (s v : ℕ → EReal) (n m : ℕ) (t : EReal) (ht : t = max (top (fun k => s (n + k)) m) (top s n)) :
    (∑ k ∈ Finset.range m, weight s t (n + k) * v (n + k) + ∑ k ∈ Finset.range n, weight s t k * v k)
      * Ideal.div 1 (∑ k ∈ Finset.range m, weight s t (n + k) + ∑ k ∈ Finset.range n, weight s t k) = mean s v (n + m) := by
  unfold mean total
  rw [top_add, ← ht, Finset.sum_range_add, Finset.sum_range_add, add_comm (∑ k ∈ Finset.range m, weight s t (n + k) * v (n + k)),
    add_comm (∑ k ∈ Finset.range m, weight s t (n + k))]

end Cert.Proof.Softmax

end
-- ==== Proof.AttnTile.lean ====
/- One tile of the attention: 256 queries against the keys up to the last of them, the tile's own 256 keys masked and
   the earlier ones whole. -/
module

public import proofs.«01_k».proof.Proof.Softmax
public import proofs.«01_k».proof.Proof.Gen.Kernel7Ideal.Frame
public import Idealize.ShloMosaic.Lib.ValueIdxCore
public import Idealize.ShloMosaic.Lib.MatmulPlain
public import Idealize.ShloMosaic.Lib.IdealHost
public import Idealize.ShloMosaic.PureOps.Ideal
public import Idealize.ShloMosaic.Lib.VecWindow
public import Idealize.ShloMosaic.Lib.KernelVsHost
public import Idealize.ShloMosaic.Lib.WordCmp

@[expose] public section

set_option maxRecDepth 16384

noncomputable section

namespace Cert.Proof.Attn

open Idealize.ShloMosaic Idealize.ShloMosaic.TcCoe Idealize.ShloMosaic.ValueIdx
open Cert.Kernel7Ideal Cert.Kernel7Ideal.Gen

/-! ## The formula of a row -/

/-- A query's score against key `j`, −∞ past the query's position. -/
def score (q : Fin 256 → EReal) (key : ℕ → Fin 256 → EReal) (pos j : ℕ) : EReal :=
  if j ≤ pos then ∑ k : Fin 256, q k * key j k else ⊥

theorem ofBits_bot : Ideal.ofBits .f32 0xFF800000#32 = ⊥ := by
  simp [Ideal.ofBits, Ideal.ieee]

/-! ## Its steps -/

/-- The tile's own scores. -/
theorem own_apply (q kd : Vec Ideal S256x256 .bf16) (n : ℕ) (key : ℕ → Fin 256 → EReal) (hk : ∀ a b, kd (ix2 a b) = key (n + a.val) b) (r k : Fin 256) :
    k0_pay20 q kd (ix2 r k) = score (fun b => q (ix2 r b)) key (n + r.val) (n + k.val) := by
  have hm : k0_pay19 (ix2 r k) = IntOp.cmpi .sge (BitVec.ofNat 32 r.val) (BitVec.ofNat 32 k.val) :=
    congrArg₂ (IntOp.cmpi .sge) (iota_single_apply .tc S256x256 32 0 iota_S256x256_d0_w32 (ix2 r k)) (iota_single_apply .tc S256x256 32 1 iota_S256x256_d1_w32 (ix2 r k))
  have hd : matmul (F := Ideal) (φ₁ := .bf16) (φ₂ := .bf16) dot_S256x256_S256x256_S256x256_1_1_0_0_n_n none q kd (constant S256x256 .f32 0x00000000#32) (ix2 r k)
      = ∑ b : Fin 256, q (ix2 r b) * key (n + k.val) b := by
    refine (Ideal.matmul_transposedRhs_apply (M := 256) (K := 256) (N := 256) (φ₁ := .bf16) (φ₂ := .bf16) none q kd _ r k).trans ?_
    refine (congrArg (fun a : EReal => a + _) Ideal.ofBits_zero_f32).trans ((zero_add _).trans (Finset.sum_congr rfl fun b _ => by rw [hk]))
  have hr := r.isLt
  have hkk := k.isLt
  show (if k0_pay19 (ix2 r k) = 1#1 then _ else (⊥ : EReal)) = _
  unfold score
  rw [hm]
  by_cases h : k.val ≤ r.val
  · rw [if_pos ((WordCmp.cmpi_sge_ofNat_eq_one_iff (by omega) (by omega)).mpr h), if_pos (by omega)]
    exact hd
  · rw [if_neg (fun e => h ((WordCmp.cmpi_sge_ofNat_eq_one_iff (by omega) (by omega)).mp e)), if_neg (by omega)]

/-- The scores against the earlier keys. -/
abbrev earlier (n : ℕ) (q : Vec Ideal S256x256 .bf16) (ko : Vec Ideal ⟨2, ![n, 256]⟩ .bf16) : FVec Ideal ⟨2, ![256, n]⟩ .f32 :=
  matmul (φ₁ := .bf16) (φ₂ := .bf16) (DotDims.transposedRhs 256 256 n) none q ko (constant ⟨2, ![256, n]⟩ .f32 0x00000000#32)

theorem earlier_apply (n : ℕ) (q : Vec Ideal S256x256 .bf16) (ko : Vec Ideal ⟨2, ![n, 256]⟩ .bf16) (key : ℕ → Fin 256 → EReal) (hk : ∀ a b, ko (ix2 a b) = key a.val b)
    (r : Fin 256) (k : Fin n) :
    earlier n q ko (ix2 r k)
      = score (fun b => q (ix2 r b)) key (n + r.val) k.val := by
  refine (Ideal.matmul_transposedRhs_apply (M := 256) (K := 256) (N := n) (φ₁ := .bf16) (φ₂ := .bf16) none q ko _ r k).trans ?_
  unfold score
  rw [if_pos (by omega)]
  exact (congrArg (fun a : EReal => a + _) Ideal.ofBits_zero_f32).trans ((zero_add _).trans (Finset.sum_congr rfl fun b _ => by rw [hk]))

/-- A row's greatest score. -/
theorem top_apply (n : ℕ) (x : FVec Ideal ⟨2, ![256, n]⟩ .f32) (h : (⟨2, ![256, n]⟩ : Shape).Reduces [1] S256) (s : ℕ → EReal) (r : Fin 256)
    (hs : ∀ k : Fin n, x (ix2 r k) = s k.val) :
    shapeCast S256x1 (multiReduction (F := Ideal) .maximumf [1] S256 x 0xFF800000#32 h (.inl rfl) rfl) shapeCasts_S256_S256x1 (ix2 r 0) = Softmax.top s n := by
  refine (shapeCast_apply _ _ (ix2 r 0) (ix1 r) (by rw [Shape.rowMajor_val_one, Shape.rowMajor_val_two]; show r.val = r.val * 1 + 0; omega)).trans ?_
  refine (Ideal.multiReduction_maximumf_single x _ h (.inl rfl) rfl (ix1 r)).trans ?_
  refine (congrArg (fun a : EReal => Finset.fold max a _ _) ofBits_bot).trans ?_
  refine Softmax.top_fin n _ s fun k => ?_
  have e : h.lift (ix1 r) k = ix2 r k := by funext d; fin_cases d <;> rfl
  exact (congrArg x e).trans (hs k)

/-- A row's weighted sum of values. -/
theorem sum_apply (n : ℕ) (x : FVec Ideal ⟨2, ![256, n]⟩ .f32) (t : FVec Ideal S256x1 .f32) (hb : S256x1.Broadcasts ⟨2, ![256, n]⟩)
    (w : Vec Ideal ⟨3, ![1, n, 256]⟩ .bf16) (hc : (⟨3, ![1, n, 256]⟩ : Shape).ShapeCasts ⟨2, ![n, 256]⟩)
    (s : ℕ → EReal) (u : ℕ → Fin 256 → EReal) (r : Fin 256) (hs : ∀ k : Fin n, x (ix2 r k) = s k.val) (hu : ∀ (a : Fin n) b, w (ix3 0 a b) = u a.val b) (b : Fin 256) :
    matmul (F := Ideal) (DotDims.plain 256 n 256) none (truncf .bf16 (exp2 (subf x (broadcastTo ⟨2, ![256, n]⟩ t hb))) bitsLt_bf16_f32)
      (shapeCast ⟨2, ![n, 256]⟩ w hc : FVec Ideal ⟨2, ![n, 256]⟩ .bf16) (constant S256x256 .f32 0x00000000#32) (ix2 r b)
      = ∑ k ∈ Finset.range n, Softmax.weight s (t (ix2 r 0)) k * u k b := by
  refine (Ideal.matmul_plain_apply (M := 256) (K := n) (N := 256) (φ₁ := .bf16) (φ₂ := .bf16) none _ _ _ r b).trans ?_
  refine (congrArg (fun a : EReal => a + _) Ideal.ofBits_zero_f32).trans ((zero_add _).trans ?_)
  rw [Finset.sum_range]
  refine Finset.sum_congr rfl fun k _ => congrArg₂ (fun (a b : EReal) => a * b) ?_ ?_
  · have eb : broadcastTo ⟨2, ![256, n]⟩ t hb (ix2 r k) = t (ix2 r 0) := congrArg t (by funext d; fin_cases d <;> rfl)
    exact congrArg Ideal.exp2 (congrArg₂ (fun (a b : EReal) => a - b) (hs k) eb)
  · refine (shapeCast_apply w hc (ix2 k b) (ix3 0 k b) (by rw [Shape.rowMajor_val_two, Shape.rowMajor_val_three]; show (0 * n + k.val) * 256 + b.val = k.val * 256 + b.val; omega)).trans (hu k b)

/-- The last step: the sums over their weights' sum, times a gate. -/
abbrev gated (a : FVec Ideal S256x256 .f32) (z : Vec Ideal S256x128 .bf16) : FVec Ideal S256x128 .bf16 :=
  truncf .bf16 (mulf (mulf (extractStridedSlice S256x128 ![0, 0] a slices_S256x256_o0_0_S256x128)
    (broadcastTo S256x128 (divf (broadcast S256x1 (Scalar.ofBits .f32 0x3F800000#32)) (extractStridedSlice S256x1 ![0, 128] a slices_S256x256_o0_128_S256x1))
      broadcasts_S256x1_S256x128)) (extf .f32 z bitsLt_bf16_f32)) bitsLt_bf16_f32

theorem gated_apply (a : FVec Ideal S256x256 .f32) (z : Vec Ideal S256x128 .bf16) (r : Fin 256) (e : Fin 128) :
    gated a z (ix2 r e) = a (ix2 r ⟨e.val, by omega⟩) * Ideal.div 1 (a (ix2 r ⟨128, by omega⟩)) * z (ix2 r e) := by
  refine congrArg (fun x : EReal => x * z (ix2 r e)) (congrArg₂ (fun (x y : EReal) => x * y) ?_ ?_)
  · exact extractStridedSlice_apply _ a _ (ix2 r e) (ix2 r ⟨e.val, by omega⟩) fun d => by
      fin_cases d
      · show r.val = 0 + r.val; omega
      · show e.val = 0 + e.val; omega
  · have eb : ∀ v : FVec Ideal S256x1 .f32, broadcastTo S256x128 v broadcasts_S256x1_S256x128 (ix2 r e) = v (ix2 r 0) := fun v =>
      congrArg v (by funext d; fin_cases d <;> rfl)
    refine (eb _).trans ?_
    refine congrArg₂ Ideal.div Ideal.ofBits_one_f32 ?_
    exact extractStridedSlice_apply _ a _ (ix2 r 0) (ix2 r ⟨128, by omega⟩) fun d => by
      fin_cases d
      · show r.val = 0 + r.val; omega
      · rfl

/-! ## The two tiles -/

/-- The first tile, with no earlier keys. -/
abbrev first (q kd : Vec Ideal S256x256 .bf16) (vd : Vec Ideal S1x256x256 .bf16) (z : Vec Ideal S256x128 .bf16) : FVec Ideal S256x128 .bf16 :=
  k0_pay1 (k0_pay20 q kd) vd z

theorem first_apply (q kd : Vec Ideal S256x256 .bf16) (vd : Vec Ideal S1x256x256 .bf16) (z : Vec Ideal S256x128 .bf16)
    (key u : ℕ → Fin 256 → EReal) (hk : ∀ a b, kd (ix2 a b) = key a.val b) (hu : ∀ a b, vd (ix3 0 a b) = u a.val b) (h₁ : ∀ j, u j ⟨128, by omega⟩ = 1)
    (r : Fin 256) (e : Fin 128) :
    first q kd vd z (ix2 r e) = Softmax.mean (score (fun b => q (ix2 r b)) key r.val) (fun j => u j ⟨e.val, by omega⟩) 256 * z (ix2 r e) := by
  have hs : ∀ k : Fin 256, k0_pay20 q kd (ix2 r k) = score (fun b => q (ix2 r b)) key r.val k.val := fun k => by
    refine (own_apply q kd 0 key (fun a b => (hk a b).trans (congrArg (fun j => key j b) (Nat.zero_add _).symm)) r k).trans ?_
    rw [Nat.zero_add, Nat.zero_add]
  have ht := top_apply 256 (k0_pay20 q kd) reduces_S256x256_S256 _ r hs
  have hx := fun b => sum_apply 256 (k0_pay20 q kd)
    (shapeCast S256x1 (multiReduction (F := Ideal) .maximumf [1] S256 (k0_pay20 q kd) 0xFF800000#32 reduces_S256x256_S256 (.inl rfl) rfl) shapeCasts_S256_S256x1)
    broadcasts_S256x1_S256x256 vd shapeCasts_S1x256x256_S256x256 _ u r hs hu b
  refine (gated_apply _ z r e).trans (congrArg (fun x : EReal => x * z (ix2 r e)) ?_)
  refine (congrArg₂ (fun x y : EReal => x * Ideal.div 1 y) (hx _) (hx _)).trans ?_
  rw [ht]
  simp only [h₁, mul_one]
  rfl

/-- A tile with `n` earlier keys. -/
abbrev later (n : ℕ) (hr : (⟨2, ![256, n]⟩ : Shape).Reduces [1] S256) (hb : S256x1.Broadcasts ⟨2, ![256, n]⟩) (hc : (⟨3, ![1, n, 256]⟩ : Shape).ShapeCasts ⟨2, ![n, 256]⟩)
    (q kd : Vec Ideal S256x256 .bf16) (ko : Vec Ideal ⟨2, ![n, 256]⟩ .bf16) (vd : Vec Ideal S1x256x256 .bf16) (vo : Vec Ideal ⟨3, ![1, n, 256]⟩ .bf16)
    (z : Vec Ideal S256x128 .bf16) : FVec Ideal S256x128 .bf16 :=
  let d : FVec Ideal S256x256 .f32 := k0_pay20 q kd
  let o : FVec Ideal ⟨2, ![256, n]⟩ .f32 := earlier n q ko
  let t : FVec Ideal S256x1 .f32 := maximumf (shapeCast S256x1 (multiReduction .maximumf [1] S256 d 0xFF800000#32 reduces_S256x256_S256 (.inl rfl) rfl) shapeCasts_S256_S256x1)
    (shapeCast S256x1 (multiReduction .maximumf [1] S256 o 0xFF800000#32 hr (.inl rfl) rfl) shapeCasts_S256_S256x1)
  gated (addf
    (matmul (DotDims.plain 256 256 256) none (truncf .bf16 (exp2 (subf d (broadcastTo S256x256 t broadcasts_S256x1_S256x256))) bitsLt_bf16_f32)
      (shapeCast S256x256 vd shapeCasts_S1x256x256_S256x256 : FVec Ideal S256x256 .bf16) (constant S256x256 .f32 0x00000000#32))
    (matmul (DotDims.plain 256 n 256) none (truncf .bf16 (exp2 (subf o (broadcastTo ⟨2, ![256, n]⟩ t hb))) bitsLt_bf16_f32)
      (shapeCast ⟨2, ![n, 256]⟩ vo hc : FVec Ideal ⟨2, ![n, 256]⟩ .bf16) (constant S256x256 .f32 0x00000000#32))) z

theorem later_apply (n : ℕ) (hr : (⟨2, ![256, n]⟩ : Shape).Reduces [1] S256) (hb : S256x1.Broadcasts ⟨2, ![256, n]⟩) (hc : (⟨3, ![1, n, 256]⟩ : Shape).ShapeCasts ⟨2, ![n, 256]⟩)
    (q kd : Vec Ideal S256x256 .bf16) (ko : Vec Ideal ⟨2, ![n, 256]⟩ .bf16) (vd : Vec Ideal S1x256x256 .bf16) (vo : Vec Ideal ⟨3, ![1, n, 256]⟩ .bf16)
    (z : Vec Ideal S256x128 .bf16) (key u : ℕ → Fin 256 → EReal) (hkd : ∀ a b, kd (ix2 a b) = key (n + a.val) b) (hko : ∀ a b, ko (ix2 a b) = key a.val b)
    (hvd : ∀ a b, vd (ix3 0 a b) = u (n + a.val) b) (hvo : ∀ (a : Fin n) b, vo (ix3 0 a b) = u a.val b) (h₁ : ∀ j, u j ⟨128, by omega⟩ = 1)
    (r : Fin 256) (e : Fin 128) :
    later n hr hb hc q kd ko vd vo z (ix2 r e)
      = Softmax.mean (score (fun b => q (ix2 r b)) key (n + r.val)) (fun j => u j ⟨e.val, by omega⟩) (n + 256) * z (ix2 r e) := by
  have hd := own_apply q kd n key hkd r
  have ho := earlier_apply n q ko key hko r
  refine (gated_apply _ z r e).trans (congrArg (fun x : EReal => x * z (ix2 r e)) ?_)
  have htd := top_apply 256 _ reduces_S256x256_S256 (fun k => score (fun b => q (ix2 r b)) key (n + r.val) (n + k)) r hd
  have hto := top_apply n _ hr (score (fun b => q (ix2 r b)) key (n + r.val)) r ho
  have hx : ∀ (t : FVec Ideal S256x1 .f32) (b : Fin 256), addf
      (matmul (DotDims.plain 256 256 256) none (truncf .bf16 (exp2 (subf (k0_pay20 q kd) (broadcastTo S256x256 t broadcasts_S256x1_S256x256))) bitsLt_bf16_f32)
        (shapeCast S256x256 vd shapeCasts_S1x256x256_S256x256 : FVec Ideal S256x256 .bf16) (constant S256x256 .f32 0x00000000#32))
      (matmul (DotDims.plain 256 n 256) none (truncf .bf16 (exp2 (subf (earlier n q ko) (broadcastTo ⟨2, ![256, n]⟩ t hb))) bitsLt_bf16_f32)
        (shapeCast ⟨2, ![n, 256]⟩ vo hc : FVec Ideal ⟨2, ![n, 256]⟩ .bf16) (constant S256x256 .f32 0x00000000#32)) (ix2 r b)
      = (∑ k ∈ Finset.range 256, Softmax.weight (score (fun b => q (ix2 r b)) key (n + r.val)) (t (ix2 r 0)) (n + k) * u (n + k) b)
        + ∑ k ∈ Finset.range n, Softmax.weight (score (fun b => q (ix2 r b)) key (n + r.val)) (t (ix2 r 0)) k * u k b := fun t b =>
    congrArg₂ (fun x y : EReal => x + y)
      (sum_apply 256 (k0_pay20 q kd) t broadcasts_S256x1_S256x256 vd shapeCasts_S1x256x256_S256x256
        (fun k => score (fun b => q (ix2 r b)) key (n + r.val) (n + k)) (fun k => u (n + k)) r hd hvd b)
      (sum_apply n _ t hb vo hc _ u r ho hvo b)
  refine (congrArg₂ (fun x y : EReal => x * Ideal.div 1 y) (hx _ _) (hx _ _)).trans ?_
  simp only [h₁, mul_one]
  exact Softmax.mean_add _ (fun j => u j ⟨e.val, by omega⟩) n 256 _ (congrArg₂ max htd hto)

end Cert.Proof.Attn

end
-- ==== Proof.AttnRead.lean ====
/- What the attention keeps for a block's four heads, read back: a head's keys are 128 columns of the keys' block beside the
   128 shared ones, its values 128 columns of the values' block beside a column of ones. -/
module

public import proofs.«01_k».proof.Proof.AttnTile
public import Idealize.ShloMosaic.Lib.Pipeline.Value
public import Idealize.ShloMosaic.Lib.Pipeline.ReadBack

@[expose] public section

set_option maxRecDepth 16384

noncomputable section

namespace Cert.Proof.Attn

open Idealize.ShloMosaic Idealize.ShloMosaic.TcCoe Idealize.ShloMosaic.ValueIdx
open Cert.Kernel7Ideal Cert.Kernel7Ideal.Gen

/-! ## The keys and the values of a head -/

/-- Head `h`'s key `j`. -/
def keyAt (x1 : Vec Ideal S2048x512 .bf16) (x2 : Vec Ideal S2048x128 .bf16) (h : Fin 4) (j : ℕ) (b : Fin 256) : EReal :=
  if _ : b.val < 128 then x1 (ix2 ⟨j % 2048, Nat.mod_lt _ (by norm_num)⟩ ⟨128 * h.val + b.val, by omega⟩)
  else x2 (ix2 ⟨j % 2048, Nat.mod_lt _ (by norm_num)⟩ ⟨b.val - 128, by omega⟩)

/-- Head `h`'s value `j`, its column 128 a one. -/
def valAt (x3 : Vec Ideal S2048x512 .bf16) (h : Fin 4) (j : ℕ) (b : Fin 256) : EReal :=
  if _ : b.val < 128 then x3 (ix2 ⟨j % 2048, Nat.mod_lt _ (by norm_num)⟩ ⟨128 * h.val + b.val, by omega⟩)
  else if b.val = 128 then 1 else 0

theorem keyAt_low (x1 : Vec Ideal S2048x512 .bf16) (x2 : Vec Ideal S2048x128 .bf16) (h : Fin 4) (j : ℕ) (b : Fin 256) (hb : b.val < 128) :
    keyAt x1 x2 h j b = x1 (ix2 ⟨j % 2048, Nat.mod_lt _ (by norm_num)⟩ ⟨128 * h.val + b.val, by omega⟩) := dif_pos hb

theorem valAt_low (x3 : Vec Ideal S2048x512 .bf16) (h : Fin 4) (j : ℕ) (b : Fin 256) (hb : b.val < 128) :
    valAt x3 h j b = x3 (ix2 ⟨j % 2048, Nat.mod_lt _ (by norm_num)⟩ ⟨128 * h.val + b.val, by omega⟩) := dif_pos hb

theorem valAt_one (x3 : Vec Ideal S2048x512 .bf16) (h : Fin 4) (j : ℕ) : valAt x3 h j ⟨128, by omega⟩ = 1 := by
  unfold valAt
  rw [dif_neg (by norm_num), if_pos rfl]

/-- The column of ones: 1 in its first column, 0 in the rest. -/
abbrev ones : FVec Ideal S2048x128 .bf16 :=
  truncf .bf16 (select (cmpi .eq (iota .tc S2048x128 32 [1] iota_S2048x128_d1_w32) (broadcast S2048x128 0#32))
    (broadcast S2048x128 (FloatOps.ofBits .f32 0x3F800000#32)) (broadcast S2048x128 (FloatOps.ofBits .f32 0x00000000#32))) bitsLt_bf16_f32

theorem ones_apply (a : Fin 2048) (b : Fin 128) : ones (ix2 a b) = if b.val = 0 then 1 else 0 := by
  have hb := b.isLt
  show (if IntOp.cmpi .eq (iota .tc S2048x128 32 [1] iota_S2048x128_d1_w32 (ix2 a b)) (BitVec.ofNat 32 0) = 1#1 then Ideal.ofBits .f32 0x3F800000#32 else Ideal.ofBits .f32 0x00000000#32) = _
  rw [iota_single_apply .tc S2048x128 32 1 iota_S2048x128_d1_w32 (ix2 a b), Ideal.ofBits_one_f32, Ideal.ofBits_zero_f32]
  by_cases h : b.val = 0
  · rw [if_pos ((WordCmp.cmpi_eq_ofNat_eq_one_iff (by norm_num; omega) (by norm_num)).mpr h), if_pos h]
  · rw [if_neg (fun e => h ((WordCmp.cmpi_eq_ofNat_eq_one_iff (a := b.val) (b := 0) (by norm_num; omega) (by norm_num)).mp e)), if_neg h]

/-! ## The stores -/

/-- A head's row `a`, column `c + b` among those kept. -/
theorem place (o c : ℕ) (ho : o < 4) (hc : c + 128 ≤ 256) (inb : ∀ a, (![o, 0, c] : Fin 3 → ℕ) a + (![1, 2048, 128] : Fin 3 → ℕ) a ≤ S4x2048x256.size a)
    (a : Fin 2048) (b : Fin 128) :
    (Rect.unit (s := S4x2048x256) ![o, 0, c] ![1, 2048, 128] inb).emb (ix3 (n0 := 1) (n1 := 2048) (n2 := 128) 0 a b) = ix3 ⟨o, ho⟩ a ⟨c + b.val, by omega⟩ := by
  funext d
  apply Fin.ext
  match d with
  | ⟨0, _⟩ => rfl
  | ⟨1, _⟩ => show 0 + 1 * a.val = a.val; omega
  | ⟨2, _⟩ => show c + 1 * b.val = c + b.val; omega

/-- Columns stored under a leading unit axis. -/
theorem lifted (w : S2048x128.Idx → EReal) (a : Fin 2048) (b : Fin 128) :
    shapeCast S1x2048x128 w shapeCasts_S2048x128_S1x2048x128 (ix3 0 a b) = w (ix2 a b) :=
  shapeCast_apply w _ (ix3 0 a b) (ix2 a b) (by
    rw [Shape.rowMajor_val_two, Shape.rowMajor_val_three]
    show a.val * 128 + b.val = (0 * 2048 + a.val) * 128 + b.val
    omega)

section
variable (x1 x3 : Vec Ideal S2048x512 .bf16) (x2 : Vec Ideal S2048x128 .bf16)

/-- The kept keys. -/
def keyBuf : S4x2048x256.Idx → EReal := fun y => keyAt x1 x2 (y 0) (y 1).val (y 2)

/-- The kept values. -/
def valBuf : S4x2048x256.Idx → EReal := fun y => valAt x3 (y 0) (y 1).val (y 2)

/-- A head's columns of a block. -/
theorem cols (x : Vec Ideal S2048x512 .bf16) (o : ℕ) (ho : o < 4) (inb : ∀ a, (![0, 128 * o] : Fin 2 → ℕ) a + (![2048, 128] : Fin 2 → ℕ) a ≤ S2048x512.size a)
    (a : Fin 2048) (b : Fin 128) (j : Fin 2048) (hj : j.val = a.val) (c : Fin 512) (hc : c.val = 128 * o + b.val) :
    View.ld (Val := Elt Ideal) (e' := .bf16) x (Rect.unit (s := S2048x512) ![0, 128 * o] ![2048, 128] inb) (ix2 (n0 := 2048) (n1 := 128) a b) = x (ix2 j c) :=
  congrArg x (funext fun d => Fin.ext (match d with
    | ⟨0, _⟩ => by show 0 + 1 * a.val = j.val; omega
    | ⟨1, _⟩ => by show 128 * o + 1 * b.val = c.val; omega))

theorem key_low (o : ℕ) (ho : o < 4) (inb) (inb') (p : S1x2048x128.Idx) :
    shapeCast S1x2048x128 (View.ld (Val := Elt Ideal) (e' := .bf16) x1 (Rect.unit (s := S2048x512) ![0, 128 * o] ![2048, 128] inb)) shapeCasts_S2048x128_S1x2048x128 p
      = keyBuf x1 x2 ((Rect.unit (s := S4x2048x256) ![o, 0, 0] ![1, 2048, 128] inb').emb p) := by
  obtain ⟨z, a, b, rfl⟩ : ∃ z a b, p = ix3 z a b := ⟨_, _, _, eq_ix3 p⟩
  obtain rfl := Subsingleton.elim z 0
  rw [place o 0 ho (by norm_num) inb' a b]
  have ha := a.isLt
  have hb := b.isLt
  refine (lifted _ a b).trans ((cols x1 o ho inb a b ⟨a.val % 2048, Nat.mod_lt _ (by norm_num)⟩ (Nat.mod_eq_of_lt ha) ⟨128 * o + (0 + b.val), by omega⟩ (by simp)).trans ?_)
  exact (keyAt_low x1 x2 ⟨o, ho⟩ a.val ⟨0 + b.val, by omega⟩ (show (⟨0 + b.val, by omega⟩ : Fin 256).val < 128 from (Nat.zero_add b.val).symm ▸ hb)).symm

theorem key_high (o : ℕ) (ho : o < 4) (inb) (inb') (p : S1x2048x128.Idx) :
    shapeCast S1x2048x128 (View.ld (Val := Elt Ideal) (e' := .bf16) x2 (Rect.unit (s := S2048x128) ![0, 0] ![2048, 128] inb)) shapeCasts_S2048x128_S1x2048x128 p
      = keyBuf x1 x2 ((Rect.unit (s := S4x2048x256) ![o, 0, 128] ![1, 2048, 128] inb').emb p) := by
  obtain ⟨z, a, b, rfl⟩ : ∃ z a b, p = ix3 z a b := ⟨_, _, _, eq_ix3 p⟩
  obtain rfl := Subsingleton.elim z 0
  rw [place o 128 ho (by norm_num) inb' a b]
  have ha := a.isLt
  have hb := b.isLt
  refine (lifted _ a b).trans ?_
  refine Eq.trans ?_ (dif_neg (show ¬ 128 + b.val < 128 by omega)).symm
  exact congrArg x2 (funext fun d => Fin.ext (match d with
    | ⟨0, _⟩ => by show 0 + 1 * a.val = a.val % 2048; omega
    | ⟨1, _⟩ => by show 0 + 1 * b.val = 128 + b.val - 128; omega))

theorem val_low (o : ℕ) (ho : o < 4) (inb) (inb') (p : S1x2048x128.Idx) :
    shapeCast S1x2048x128 (View.ld (Val := Elt Ideal) (e' := .bf16) x3 (Rect.unit (s := S2048x512) ![0, 128 * o] ![2048, 128] inb)) shapeCasts_S2048x128_S1x2048x128 p
      = valBuf x3 ((Rect.unit (s := S4x2048x256) ![o, 0, 0] ![1, 2048, 128] inb').emb p) := by
  obtain ⟨z, a, b, rfl⟩ : ∃ z a b, p = ix3 z a b := ⟨_, _, _, eq_ix3 p⟩
  obtain rfl := Subsingleton.elim z 0
  rw [place o 0 ho (by norm_num) inb' a b]
  have ha := a.isLt
  have hb := b.isLt
  refine (lifted _ a b).trans ((cols x3 o ho inb a b ⟨a.val % 2048, Nat.mod_lt _ (by norm_num)⟩ (Nat.mod_eq_of_lt ha) ⟨128 * o + (0 + b.val), by omega⟩ (by simp)).trans ?_)
  exact (valAt_low x3 ⟨o, ho⟩ a.val ⟨0 + b.val, by omega⟩ (show (⟨0 + b.val, by omega⟩ : Fin 256).val < 128 from (Nat.zero_add b.val).symm ▸ hb)).symm

theorem val_high (o : ℕ) (ho : o < 4) (inb') (p : S1x2048x128.Idx) :
    shapeCast S1x2048x128 ones shapeCasts_S2048x128_S1x2048x128 p
      = valBuf x3 ((Rect.unit (s := S4x2048x256) ![o, 0, 128] ![1, 2048, 128] inb').emb p) := by
  obtain ⟨z, a, b, rfl⟩ : ∃ z a b, p = ix3 z a b := ⟨_, _, _, eq_ix3 p⟩
  obtain rfl := Subsingleton.elim z 0
  rw [place o 128 ho (by norm_num) inb' a b]
  refine (lifted _ a b).trans ((ones_apply a b).trans ?_)
  refine Eq.trans ?_ (dif_neg (show ¬ 128 + b.val < 128 by omega)).symm
  by_cases h : b.val = 0
  · rw [if_pos h, if_pos (show 128 + b.val = 128 by omega)]
  · rw [if_neg h, if_neg (show ¬ 128 + b.val = 128 by omega)]

/-- The stores of the keys, the last first. -/
abbrev keyPieces : List (View.Piece (Elt Ideal) S4x2048x256 .bf16) :=
  [⟨Rect.unit ![3, 0, 128] ![1, 2048, 128] (by decide), shapeCast S1x2048x128 (View.ld (Val := Elt Ideal) (e' := .bf16) x2 (Rect.unit (s := S2048x128) ![0, 0] ![2048, 128] (by decide))) shapeCasts_S2048x128_S1x2048x128⟩,
   ⟨Rect.unit ![3, 0, 0] ![1, 2048, 128] (by decide), shapeCast S1x2048x128 (View.ld (Val := Elt Ideal) (e' := .bf16) x1 (Rect.unit (s := S2048x512) ![0, 384] ![2048, 128] (by decide))) shapeCasts_S2048x128_S1x2048x128⟩,
   ⟨Rect.unit ![2, 0, 128] ![1, 2048, 128] (by decide), shapeCast S1x2048x128 (View.ld (Val := Elt Ideal) (e' := .bf16) x2 (Rect.unit (s := S2048x128) ![0, 0] ![2048, 128] (by decide))) shapeCasts_S2048x128_S1x2048x128⟩,
   ⟨Rect.unit ![2, 0, 0] ![1, 2048, 128] (by decide), shapeCast S1x2048x128 (View.ld (Val := Elt Ideal) (e' := .bf16) x1 (Rect.unit (s := S2048x512) ![0, 256] ![2048, 128] (by decide))) shapeCasts_S2048x128_S1x2048x128⟩,
   ⟨Rect.unit ![1, 0, 128] ![1, 2048, 128] (by decide), shapeCast S1x2048x128 (View.ld (Val := Elt Ideal) (e' := .bf16) x2 (Rect.unit (s := S2048x128) ![0, 0] ![2048, 128] (by decide))) shapeCasts_S2048x128_S1x2048x128⟩,
   ⟨Rect.unit ![1, 0, 0] ![1, 2048, 128] (by decide), shapeCast S1x2048x128 (View.ld (Val := Elt Ideal) (e' := .bf16) x1 (Rect.unit (s := S2048x512) ![0, 128] ![2048, 128] (by decide))) shapeCasts_S2048x128_S1x2048x128⟩,
   ⟨Rect.unit ![0, 0, 128] ![1, 2048, 128] (by decide), shapeCast S1x2048x128 (View.ld (Val := Elt Ideal) (e' := .bf16) x2 (Rect.unit (s := S2048x128) ![0, 0] ![2048, 128] (by decide))) shapeCasts_S2048x128_S1x2048x128⟩,
   ⟨Rect.unit ![0, 0, 0] ![1, 2048, 128] (by decide), shapeCast S1x2048x128 (View.ld (Val := Elt Ideal) (e' := .bf16) x1 (Rect.unit (s := S2048x512) ![0, 0] ![2048, 128] (by decide))) shapeCasts_S2048x128_S1x2048x128⟩]

/-- The stores of the values, the last first. -/
abbrev valPieces : List (View.Piece (Elt Ideal) S4x2048x256 .bf16) :=
  [⟨Rect.unit ![3, 0, 128] ![1, 2048, 128] (by decide), shapeCast S1x2048x128 ones shapeCasts_S2048x128_S1x2048x128⟩,
   ⟨Rect.unit ![3, 0, 0] ![1, 2048, 128] (by decide), shapeCast S1x2048x128 (View.ld (Val := Elt Ideal) (e' := .bf16) x3 (Rect.unit (s := S2048x512) ![0, 384] ![2048, 128] (by decide))) shapeCasts_S2048x128_S1x2048x128⟩,
   ⟨Rect.unit ![2, 0, 128] ![1, 2048, 128] (by decide), shapeCast S1x2048x128 ones shapeCasts_S2048x128_S1x2048x128⟩,
   ⟨Rect.unit ![2, 0, 0] ![1, 2048, 128] (by decide), shapeCast S1x2048x128 (View.ld (Val := Elt Ideal) (e' := .bf16) x3 (Rect.unit (s := S2048x512) ![0, 256] ![2048, 128] (by decide))) shapeCasts_S2048x128_S1x2048x128⟩,
   ⟨Rect.unit ![1, 0, 128] ![1, 2048, 128] (by decide), shapeCast S1x2048x128 ones shapeCasts_S2048x128_S1x2048x128⟩,
   ⟨Rect.unit ![1, 0, 0] ![1, 2048, 128] (by decide), shapeCast S1x2048x128 (View.ld (Val := Elt Ideal) (e' := .bf16) x3 (Rect.unit (s := S2048x512) ![0, 128] ![2048, 128] (by decide))) shapeCasts_S2048x128_S1x2048x128⟩,
   ⟨Rect.unit ![0, 0, 128] ![1, 2048, 128] (by decide), shapeCast S1x2048x128 ones shapeCasts_S2048x128_S1x2048x128⟩,
   ⟨Rect.unit ![0, 0, 0] ![1, 2048, 128] (by decide), shapeCast S1x2048x128 (View.ld (Val := Elt Ideal) (e' := .bf16) x3 (Rect.unit (s := S2048x512) ![0, 0] ![2048, 128] (by decide))) shapeCasts_S2048x128_S1x2048x128⟩]

/-- Every kept cell lies in a head's first or second half. -/
theorem half (y : S4x2048x256.Idx) (o c : ℕ) (inb) (h₀ : (y 0).val = o) (h₁ : c ≤ (y 2).val) (h₂ : (y 2).val < c + 128) :
    y ∈ (Rect.unit (s := S4x2048x256) ![o, 0, c] ![1, 2048, 128] inb).set :=
  Rect.mem_set_unit.mpr fun a => match a with
    | ⟨0, _⟩ => ⟨by show o ≤ (y 0).val; omega, by show (y 0).val < o + 1; omega⟩
    | ⟨1, _⟩ => ⟨by show 0 ≤ (y 1).val; omega, by show (y 1).val < 0 + 2048; have : (y 1).val < 2048 := (y 1).isLt; omega⟩
    | ⟨2, _⟩ => ⟨h₁, h₂⟩

theorem halves (L : List (View.Piece (Elt Ideal) S4x2048x256 .bf16))
    (h : ∀ o : Fin 4, (∃ p ∈ L, ∃ inb, p.1 = Rect.unit (s := S4x2048x256) ![o.val, 0, 128] ![1, 2048, 128] inb)
      ∧ ∃ p ∈ L, ∃ inb, p.1 = Rect.unit (s := S4x2048x256) ![o.val, 0, 0] ![1, 2048, 128] inb) (y : S4x2048x256.Idx) :
    ∃ p ∈ L, y ∈ p.1.set := by
  obtain ⟨⟨p, hp, i, ep⟩, ⟨q, hq, j, eq⟩⟩ := h (y 0)
  by_cases hb : (y 2).val < 128
  · exact ⟨q, hq, by rw [eq]; exact half y _ 0 j rfl (Nat.zero_le _) (by omega)⟩
  · exact ⟨p, hp, by rw [ep]; exact half y _ 128 i rfl (by omega) (y 2).isLt⟩

theorem keys_read (v : View sig .tc .vmem S4x2048x256 .bf16) (B : LoadRect S4x2048x256) (j : B.shape.Idx) :
    v.readCov (Val := Elt Ideal) (keyPieces x1 x2) B j = keyBuf x1 x2 (B.idx j) := by
  rw [View.readCov_eq_canon']
  refine View.canon_apply_of_pieces (keyBuf x1 x2) (keyPieces x1 x2) ?_ _ (halves _ ?_ _)
  · simp only [keyPieces, List.forall_mem_cons]
    exact ⟨key_high x1 x2 3 (by norm_num) _ _, key_low x1 x2 3 (by norm_num) _ _, key_high x1 x2 2 (by norm_num) _ _, key_low x1 x2 2 (by norm_num) _ _,
      key_high x1 x2 1 (by norm_num) _ _, key_low x1 x2 1 (by norm_num) _ _, key_high x1 x2 0 (by norm_num) _ _, key_low x1 x2 0 (by norm_num) _ _,
      List.forall_mem_nil _⟩
  · intro o
    simp only [keyPieces, List.exists_mem_cons_iff]
    match o with
    | 0 => exact ⟨.inr (.inr (.inr (.inr (.inr (.inr (.inl ⟨by decide, rfl⟩)))))), .inr (.inr (.inr (.inr (.inr (.inr (.inr (.inl ⟨by decide, rfl⟩)))))))⟩
    | 1 => exact ⟨.inr (.inr (.inr (.inr (.inl ⟨by decide, rfl⟩)))), .inr (.inr (.inr (.inr (.inr (.inl ⟨by decide, rfl⟩)))))⟩
    | 2 => exact ⟨.inr (.inr (.inl ⟨by decide, rfl⟩)), .inr (.inr (.inr (.inl ⟨by decide, rfl⟩)))⟩
    | 3 => exact ⟨.inl ⟨by decide, rfl⟩, .inr (.inl ⟨by decide, rfl⟩)⟩

theorem vals_read {g : RefSig} (v : View g .tc .vmem S4x2048x256 .bf16) (B : LoadRect S4x2048x256) (j : B.shape.Idx) :
    v.readCov (Val := Elt Ideal) (valPieces x3) B j = valBuf x3 (B.idx j) := by
  rw [View.readCov_eq_canon']
  refine View.canon_apply_of_pieces (valBuf x3) (valPieces x3) ?_ _ (halves _ ?_ _)
  · simp only [valPieces, List.forall_mem_cons]
    exact ⟨val_high x3 3 (by norm_num) _, val_low x3 3 (by norm_num) _ _, val_high x3 2 (by norm_num) _, val_low x3 2 (by norm_num) _ _,
      val_high x3 1 (by norm_num) _, val_low x3 1 (by norm_num) _ _, val_high x3 0 (by norm_num) _, val_low x3 0 (by norm_num) _ _,
      List.forall_mem_nil _⟩
  · intro o
    simp only [valPieces, List.exists_mem_cons_iff]
    match o with
    | 0 => exact ⟨.inr (.inr (.inr (.inr (.inr (.inr (.inl ⟨by decide, rfl⟩)))))), .inr (.inr (.inr (.inr (.inr (.inr (.inr (.inl ⟨by decide, rfl⟩)))))))⟩
    | 1 => exact ⟨.inr (.inr (.inr (.inr (.inl ⟨by decide, rfl⟩)))), .inr (.inr (.inr (.inr (.inr (.inl ⟨by decide, rfl⟩)))))⟩
    | 2 => exact ⟨.inr (.inr (.inl ⟨by decide, rfl⟩)), .inr (.inr (.inr (.inl ⟨by decide, rfl⟩)))⟩
    | 3 => exact ⟨.inl ⟨by decide, rfl⟩, .inr (.inl ⟨by decide, rfl⟩)⟩

end

end Cert.Proof.Attn

end
-- ==== Proof.AttnBody.lean ====
/- One grid point of the attention: the block it leaves, every cell of it the gated mean of its head's values weighted by
   the scores of its query. -/
module

public import proofs.«01_k».proof.Proof.AttnRead

@[expose] public section

set_option maxRecDepth 16384

noncomputable section

namespace Cert.Proof.Attn

open Idealize.ShloMosaic Idealize.ShloMosaic.TcCoe Idealize.ShloMosaic.ValueIdx Idealize.ShloMosaic.Tactic
open Cert.Kernel7Ideal Cert.Kernel7Ideal.Gen

/-- The block: row `r`, column `128 h + e` is head `h`'s column `e` for query `r`, gated. -/
def blk (x0 : Vec Ideal S2048x1024 .bf16) (x1 : Vec Ideal S2048x512 .bf16) (x2 : Vec Ideal S2048x128 .bf16) (x3 x4 : Vec Ideal S2048x512 .bf16)
    (r : Fin 2048) (h : Fin 4) (e : Fin 128) : EReal :=
  Softmax.mean (score (fun b => x0 (ix2 r ⟨256 * h.val + b.val, by omega⟩)) (keyAt x1 x2 h) r.val) (fun j => valAt x3 h j ⟨e.val, by omega⟩) 2048
    * x4 (ix2 r ⟨128 * h.val + e.val, by omega⟩)

/-- A block's row and head. -/
def blkAt (x0 : Vec Ideal S2048x1024 .bf16) (x1 : Vec Ideal S2048x512 .bf16) (x2 : Vec Ideal S2048x128 .bf16) (x3 x4 : Vec Ideal S2048x512 .bf16)
    (y : S2048x512.Idx) : EReal :=
  blk x0 x1 x2 x3 x4 (y 0) ⟨(y 1).val / 128, by have : (y 1).val < 512 := (y 1).isLt; omega⟩ ⟨(y 1).val % 128, Nat.mod_lt _ (by norm_num)⟩

/-- The keys past a query's position do not count. -/
theorem upto (q : Fin 256 → EReal) (key : ℕ → Fin 256 → EReal) (v : ℕ → EReal) (pos n : ℕ) (hp : pos < n) (hn : n ≤ 2048) :
    Softmax.mean (score q key pos) v n = Softmax.mean (score q key pos) v 2048 := by
  obtain ⟨m, hm⟩ := Nat.exists_eq_add_of_le hn
  rw [hm]
  exact (Softmax.mean_stop _ v n m fun j hj => if_neg (by omega)).symm

/-- A window of an array of rows. -/
theorem window {R C M N : ℕ} (x : (⟨2, ![R, C]⟩ : Shape).Idx → EReal) (r c : ℕ)
    (inb : ∀ a, (![r, c] : Fin 2 → ℕ) a + (![M, N] : Fin 2 → ℕ) a ≤ (⟨2, ![R, C]⟩ : Shape).size a)
    (a : Fin M) (b : Fin N) (h : r + a.val < R) (h' : c + b.val < C) :
    View.ld (Val := Elt Ideal) (e' := .bf16) x (Rect.unit (s := ⟨2, ![R, C]⟩) ![r, c] ![M, N] inb) (ix2 (n0 := M) (n1 := N) a b) = x (ix2 ⟨r + a.val, h⟩ ⟨c + b.val, h'⟩) :=
  congrArg x (funext fun d => Fin.ext (match d with
    | ⟨0, _⟩ => by show r + 1 * a.val = r + a.val; omega
    | ⟨1, _⟩ => by show c + 1 * b.val = c + b.val; omega))

section
variable (x0 : Vec Ideal S2048x1024 .bf16) (x1 : Vec Ideal S2048x512 .bf16) (x2 : Vec Ideal S2048x128 .bf16) (x3 x4 : Vec Ideal S2048x512 .bf16)

/-- Rows of a head's keys, read back. -/
theorem keys_tile (v : View sig .tc .vmem S4x2048x256 .bf16) (o : ℕ) (ho : o < 4) (n m : ℕ)
    (i : ∀ a, (![o, 0, 0] : Fin 3 → ℕ) a + (![1, 2048, 256] : Fin 3 → ℕ) a ≤ S4x2048x256.size a)
    (j : ∀ a, (![n, 0] : Fin 2 → ℕ) a + (![m, 256] : Fin 2 → ℕ) a ≤ S2048x256.size a)
    (h0 : (![1, 2048, 256] : Fin 3 → ℕ) 0 = 1) (hs : ∀ i : Fin 2, (![1, 2048, 256] : Fin 3 → ℕ) i.succ = (![2048, 256] : Fin 2 → ℕ) i)
    (hw : ∀ a, (Rect.unit (s := S4x2048x256) ![o, 0, 0] ![1, 2048, 256] i).stride a = 1) (hR) (a : Fin m) (b : Fin 256) :
    LoadRect.valAlong (lr := (Rect.unit (s := S2048x256) ![n, 0] ![m, 256] j).toLoadRect) hR
      (v.readCov (Val := Elt Ideal) (keyPieces x1 x2) ((Rect.unit (s := S4x2048x256) ![o, 0, 0] ![1, 2048, 256] i).withinL
        ((Rect.unit (s := S2048x256) ![n, 0] ![m, 256] j).consLift ![1, 2048, 256] h0 hs).toLoadRect hw)) (ix2 (n0 := m) (n1 := 256) a b)
      = keyAt x1 x2 ⟨o, ho⟩ (n + a.val) b := by
  refine (keys_read x1 x2 v _ _).trans ?_
  have e : Shape.reshapeEquiv hR (ix2 (n0 := m) (n1 := 256) a b) = ix3 (n0 := 1) (n1 := m) (n2 := 256) 0 a b :=
    Shape.reshapeEquiv_eq_of_rowMajor hR (by
      refine (Shape.rowMajor_val_three (d := ![1, m, 256]) (ix3 0 a b)).trans (Eq.trans ?_ (Shape.rowMajor_val_two (d := ![m, 256]) (ix2 a b)).symm)
      show (0 * m + a.val) * 256 + b.val = a.val * 256 + b.val
      omega)
  rw [e]
  have hj : n + m ≤ 2048 := j 0
  have ha := a.isLt
  refine congrArg (keyBuf x1 x2) (funext fun d => Fin.ext ?_ : _ = ix3 (n0 := 4) (n1 := 2048) (n2 := 256) ⟨o, ho⟩ ⟨n + a.val, by omega⟩ b)
  match d with
  | ⟨0, _⟩ => rfl
  | ⟨1, _⟩ => show 0 + n + 1 * a.val = n + a.val; omega
  | ⟨2, _⟩ => show 0 + 0 + 1 * b.val = b.val; omega

/-- Rows of a head's values, read back. -/
theorem vals_tile {g : RefSig} (v : View g .tc .vmem S4x2048x256 .bf16) (o : ℕ) (ho : o < 4) (n m : ℕ)
    (i : ∀ a, (![o, n, 0] : Fin 3 → ℕ) a + (![1, m, 256] : Fin 3 → ℕ) a ≤ S4x2048x256.size a) (a : Fin m) (b : Fin 256) :
    v.readCov (Val := Elt Ideal) (valPieces x3) (Rect.unit (s := S4x2048x256) ![o, n, 0] ![1, m, 256] i).toLoadRect (ix3 (n0 := 1) (n1 := m) (n2 := 256) 0 a b)
      = valAt x3 ⟨o, ho⟩ (n + a.val) b := by
  refine (vals_read x3 v _ _).trans ?_
  have ea : n + 1 * a.val = n + a.val := by omega
  refine (congrArg (fun k => valAt x3 ⟨o, ho⟩ k _) ea).trans (congrArg (valAt x3 ⟨o, ho⟩ (n + a.val)) (Fin.ext ?_))
  show 0 + 1 * b.val = b.val
  omega

/-- A tile's cell in the block. -/
theorem landed (o : ℕ) (ho : o < 4) (n : ℕ) (hn : n + 256 ≤ 2048)
    (l : ∀ a, (![n, 128 * o] : Fin 2 → ℕ) a + (![256, 128] : Fin 2 → ℕ) a ≤ S2048x512.size a) (r : Fin 256) (e : Fin 128) :
    blkAt x0 x1 x2 x3 x4 ((Rect.unit (s := S2048x512) ![n, 128 * o] ![256, 128] l).emb (ix2 (n0 := 256) (n1 := 128) r e))
      = blk x0 x1 x2 x3 x4 ⟨n + r.val, by omega⟩ ⟨o, ho⟩ e := by
  have he := e.isLt
  have h₀ : (⟨n + 1 * r.val, by omega⟩ : Fin 2048) = ⟨n + r.val, by omega⟩ := Fin.ext (by show n + 1 * r.val = n + r.val; omega)
  have h₁ : (⟨(128 * o + 1 * e.val) / 128, by omega⟩ : Fin 4) = ⟨o, ho⟩ := Fin.ext (by show (128 * o + 1 * e.val) / 128 = o; omega)
  have h₂ : (⟨(128 * o + 1 * e.val) % 128, Nat.mod_lt _ (by norm_num)⟩ : Fin 128) = e := Fin.ext (by show (128 * o + 1 * e.val) % 128 = e.val; omega)
  show blk x0 x1 x2 x3 x4 (⟨n + 1 * r.val, by omega⟩ : Fin 2048) ⟨(128 * o + 1 * e.val) / 128, by omega⟩ ⟨(128 * o + 1 * e.val) % 128, Nat.mod_lt _ (by norm_num)⟩ = _
  rw [h₀, h₁, h₂]

section
variable (v8 v9 : View sig .tc .vmem S4x2048x256 .bf16)
    (h0 : (![1, 2048, 256] : Fin 3 → ℕ) 0 = 1) (hs : ∀ i : Fin 2, (![1, 2048, 256] : Fin 3 → ℕ) i.succ = (![2048, 256] : Fin 2 → ℕ) i)
    (o : ℕ) (ho : o < 4)
    (i : ∀ a, (![o, 0, 0] : Fin 3 → ℕ) a + (![1, 2048, 256] : Fin 3 → ℕ) a ≤ S4x2048x256.size a)
    (hw : ∀ a, (Rect.unit (s := S4x2048x256) ![o, 0, 0] ![1, 2048, 256] i).stride a = 1)

include ho

theorem tile_first
    (hq : ∀ a, (![0, 256 * o] : Fin 2 → ℕ) a + (![256, 256] : Fin 2 → ℕ) a ≤ S2048x1024.size a)
    (jd : ∀ a, (![0, 0] : Fin 2 → ℕ) a + (![256, 256] : Fin 2 → ℕ) a ≤ S2048x256.size a) (hRd)
    (kd : ∀ a, (![o, 0, 0] : Fin 3 → ℕ) a + (![1, 256, 256] : Fin 3 → ℕ) a ≤ S4x2048x256.size a)
    (l : ∀ a, (![0, 128 * o] : Fin 2 → ℕ) a + (![256, 128] : Fin 2 → ℕ) a ≤ S2048x512.size a) (p : S256x128.Idx) :
    first (View.ld (Val := Elt Ideal) (e' := .bf16) x0 (Rect.unit (s := S2048x1024) ![0, 256 * o] ![256, 256] hq))
      (LoadRect.valAlong (lr := (Rect.unit (s := S2048x256) ![0, 0] ![256, 256] jd).toLoadRect) hRd
        (v8.readCov (Val := Elt Ideal) (keyPieces x1 x2) ((Rect.unit (s := S4x2048x256) ![o, 0, 0] ![1, 2048, 256] i).withinL
          ((Rect.unit (s := S2048x256) ![0, 0] ![256, 256] jd).consLift ![1, 2048, 256] h0 hs).toLoadRect hw)))
      (v9.readCov (Val := Elt Ideal) (valPieces x3) (Rect.unit (s := S4x2048x256) ![o, 0, 0] ![1, 256, 256] kd).toLoadRect)
      (View.ld (Val := Elt Ideal) (e' := .bf16) x4 (Rect.unit (s := S2048x512) ![0, 128 * o] ![256, 128] l)) p
      = blkAt x0 x1 x2 x3 x4 ((Rect.unit (s := S2048x512) ![0, 128 * o] ![256, 128] l).emb p) := by
  obtain ⟨r, e, rfl⟩ : ∃ r e, p = ix2 r e := ⟨_, _, eq_ix2 p⟩
  rw [landed x0 x1 x2 x3 x4 o ho 0 (by norm_num) l r e]
  refine (first_apply _ _ _ _ (keyAt x1 x2 ⟨o, ho⟩) (valAt x3 ⟨o, ho⟩)
    (fun a b => (keys_tile x1 x2 v8 o ho 0 256 i jd h0 hs hw hRd a b).trans (congrArg (fun k => keyAt x1 x2 ⟨o, ho⟩ k b) (Nat.zero_add _)))
    (fun a b => (vals_tile x3 v9 o ho 0 256 kd a b).trans (congrArg (fun k => valAt x3 ⟨o, ho⟩ k b) (Nat.zero_add _)))
    (valAt_one x3 _) r e).trans ?_
  refine (congrArg₂ (fun (m c : EReal) => m * c) (upto _ _ _ _ 256 r.isLt (by norm_num)) (window x4 0 (128 * o) l r e (by omega) (by omega))).trans ?_
  unfold blk
  simp only [Nat.zero_add]
  refine congrArg (fun q => Softmax.mean (score q (keyAt x1 x2 ⟨o, ho⟩) r.val) (fun j => valAt x3 ⟨o, ho⟩ j ⟨e.val, by omega⟩) 2048 * _) (funext fun b => ?_)
  refine (window x0 0 (256 * o) hq r b (by omega) (by omega)).trans ?_
  simp only [Nat.zero_add]

theorem tile_later (n : ℕ) (hn : n + 256 ≤ 2048)
    (hr : (⟨2, ![256, n]⟩ : Shape).Reduces [1] S256) (hb : S256x1.Broadcasts ⟨2, ![256, n]⟩) (hc : (⟨3, ![1, n, 256]⟩ : Shape).ShapeCasts ⟨2, ![n, 256]⟩)
    (hq : ∀ a, (![n, 256 * o] : Fin 2 → ℕ) a + (![256, 256] : Fin 2 → ℕ) a ≤ S2048x1024.size a)
    (jd : ∀ a, (![n, 0] : Fin 2 → ℕ) a + (![256, 256] : Fin 2 → ℕ) a ≤ S2048x256.size a) (hRd)
    (jo : ∀ a, (![0, 0] : Fin 2 → ℕ) a + (![n, 256] : Fin 2 → ℕ) a ≤ S2048x256.size a) (hRo)
    (kd : ∀ a, (![o, n, 0] : Fin 3 → ℕ) a + (![1, 256, 256] : Fin 3 → ℕ) a ≤ S4x2048x256.size a)
    (ko : ∀ a, (![o, 0, 0] : Fin 3 → ℕ) a + (![1, n, 256] : Fin 3 → ℕ) a ≤ S4x2048x256.size a)
    (l : ∀ a, (![n, 128 * o] : Fin 2 → ℕ) a + (![256, 128] : Fin 2 → ℕ) a ≤ S2048x512.size a) (p : S256x128.Idx) :
    later n hr hb hc (View.ld (Val := Elt Ideal) (e' := .bf16) x0 (Rect.unit (s := S2048x1024) ![n, 256 * o] ![256, 256] hq))
      (LoadRect.valAlong (lr := (Rect.unit (s := S2048x256) ![n, 0] ![256, 256] jd).toLoadRect) hRd
        (v8.readCov (Val := Elt Ideal) (keyPieces x1 x2) ((Rect.unit (s := S4x2048x256) ![o, 0, 0] ![1, 2048, 256] i).withinL
          ((Rect.unit (s := S2048x256) ![n, 0] ![256, 256] jd).consLift ![1, 2048, 256] h0 hs).toLoadRect hw)))
      (LoadRect.valAlong (lr := (Rect.unit (s := S2048x256) ![0, 0] ![n, 256] jo).toLoadRect) hRo
        (v8.readCov (Val := Elt Ideal) (keyPieces x1 x2) ((Rect.unit (s := S4x2048x256) ![o, 0, 0] ![1, 2048, 256] i).withinL
          ((Rect.unit (s := S2048x256) ![0, 0] ![n, 256] jo).consLift ![1, 2048, 256] h0 hs).toLoadRect hw)))
      (v9.readCov (Val := Elt Ideal) (valPieces x3) (Rect.unit (s := S4x2048x256) ![o, n, 0] ![1, 256, 256] kd).toLoadRect)
      (v9.readCov (Val := Elt Ideal) (valPieces x3) (Rect.unit (s := S4x2048x256) ![o, 0, 0] ![1, n, 256] ko).toLoadRect)
      (View.ld (Val := Elt Ideal) (e' := .bf16) x4 (Rect.unit (s := S2048x512) ![n, 128 * o] ![256, 128] l)) p
      = blkAt x0 x1 x2 x3 x4 ((Rect.unit (s := S2048x512) ![n, 128 * o] ![256, 128] l).emb p) := by
  obtain ⟨r, e, rfl⟩ : ∃ r e, p = ix2 r e := ⟨_, _, eq_ix2 p⟩
  rw [landed x0 x1 x2 x3 x4 o ho n hn l r e]
  refine (later_apply n hr hb hc _ _ _ _ _ _ (keyAt x1 x2 ⟨o, ho⟩) (valAt x3 ⟨o, ho⟩)
    (fun a b => keys_tile x1 x2 v8 o ho n 256 i jd h0 hs hw hRd a b)
    (fun a b => (keys_tile x1 x2 v8 o ho 0 n i jo h0 hs hw hRo a b).trans (congrArg (fun k => keyAt x1 x2 ⟨o, ho⟩ k b) (Nat.zero_add _)))
    (fun a b => vals_tile x3 v9 o ho n 256 kd a b)
    (fun a b => (vals_tile x3 v9 o ho 0 n ko a b).trans (congrArg (fun k => valAt x3 ⟨o, ho⟩ k b) (Nat.zero_add _)))
    (valAt_one x3 _) r e).trans ?_
  refine (congrArg₂ (fun (m c : EReal) => m * c) (upto _ _ _ _ (n + 256) (by omega) hn) (window x4 n (128 * o) l r e (by omega) (by omega))).trans ?_
  unfold blk
  exact congrArg (fun q => Softmax.mean (score q (keyAt x1 x2 ⟨o, ho⟩) (n + r.val)) (fun j => valAt x3 ⟨o, ho⟩ j ⟨e.val, by omega⟩) 2048 * _)
    (funext fun b => window x0 n (256 * o) hq r b (by omega) (by omega))

end

end

section
variable (d : Dev nD) (i : grid0.Coords) (a2 : Memref sig .tc .vmem S2048x1024 .bf16) (h2 : a2.IsWhole) (a3 : Memref sig .tc .vmem S2048x512 .bf16) (h3 : a3.IsWhole)
    (a4 : Memref sig .tc .vmem S2048x128 .bf16) (h4 : a4.IsWhole) (a5 : Memref sig .tc .vmem S2048x512 .bf16) (h5 : a5.IsWhole)
    (a6 : Memref sig .tc .vmem S2048x512 .bf16) (h6 : a6.IsWhole) (a7 : Memref sig .tc .vmem S2048x512 .bf16) (h7 : a7.IsWhole)
    (a8 : Memref sig .tc .vmem S4x2048x256 .bf16) (h8 : a8.IsWhole) (a9 : Memref sig .tc .vmem S4x2048x256 .bf16) (h9 : a9.IsWhole)
    (x0 : Vec Ideal S2048x1024 .bf16) (x1 : Vec Ideal S2048x512 .bf16) (x2 : Vec Ideal S2048x128 .bf16) (x3 : Vec Ideal S2048x512 .bf16) (x4 : Vec Ideal S2048x512 .bf16)

set_option maxRecDepth 100000 in
set_option maxHeartbeats 4000000 in
/-- The block a point leaves. -/
theorem out : out0_A_5 d i a2 h2 a3 h3 a4 h4 a5 h5 a6 h6 a7 h7 a8 h8 a9 h9 x0 x1 x2 x3 x4 = blkAt x0 x1 x2 x3 x4 := by
  funext y
  unfold out0_A_5
  rw [View.read_writes_eq_canon _ _ _ (cover0_A_5 d i a2 h2 a3 h3 a4 h4 a5 h5 a6 h6 a7 h7 a8 h8 a9 h9 x0 x1 x2 x3 x4)]
  refine View.canon_apply_of_pieces (blkAt x0 x1 x2 x3 x4) _ ?_ y (cover0_A_5 d i a2 h2 a3 h3 a4 h4 a5 h5 a6 h6 a7 h7 a8 h8 a9 h9 x0 x1 x2 x3 x4 y)
  unfold kernelRun0_A
  dsimp only
  sl_unfold_words
  simp only [View.readAt_eq_ld, h2.read_unread, h3.read_unread, h4.read_unread, h5.read_unread, h6.read_unread]
  simp only [List.forall_mem_cons]
  refine ⟨fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    List.forall_mem_nil _⟩
  · exact tile_first x0 x1 x2 x3 x4 a8.view a9.view rfl (by decide) 3 (by norm_num) _ _ _ _ _ _ _ p
  · exact tile_later x0 x1 x2 x3 x4 a8.view a9.view rfl (by decide) 3 (by norm_num) _ _ 256 (by norm_num) reduces_S256x256_S256 broadcasts_S256x1_S256x256 shapeCasts_S1x256x256_S256x256 _ _ _ _ _ _ _ _ p
  · exact tile_later x0 x1 x2 x3 x4 a8.view a9.view rfl (by decide) 3 (by norm_num) _ _ 512 (by norm_num) reduces_S256x512_S256 broadcasts_S256x1_S256x512 shapeCasts_S1x512x256_S512x256 _ _ _ _ _ _ _ _ p
  · exact tile_later x0 x1 x2 x3 x4 a8.view a9.view rfl (by decide) 3 (by norm_num) _ _ 768 (by norm_num) reduces_S256x768_S256 broadcasts_S256x1_S256x768 shapeCasts_S1x768x256_S768x256 _ _ _ _ _ _ _ _ p
  · exact tile_later x0 x1 x2 x3 x4 a8.view a9.view rfl (by decide) 3 (by norm_num) _ _ 1024 (by norm_num) reduces_S256x1024_S256 broadcasts_S256x1_S256x1024 shapeCasts_S1x1024x256_S1024x256 _ _ _ _ _ _ _ _ p
  · exact tile_later x0 x1 x2 x3 x4 a8.view a9.view rfl (by decide) 3 (by norm_num) _ _ 1280 (by norm_num) reduces_S256x1280_S256 broadcasts_S256x1_S256x1280 shapeCasts_S1x1280x256_S1280x256 _ _ _ _ _ _ _ _ p
  · exact tile_later x0 x1 x2 x3 x4 a8.view a9.view rfl (by decide) 3 (by norm_num) _ _ 1536 (by norm_num) reduces_S256x1536_S256 broadcasts_S256x1_S256x1536 shapeCasts_S1x1536x256_S1536x256 _ _ _ _ _ _ _ _ p
  · unfold k0_pay136 k0_pay135 k0_pay134
    exact tile_later x0 x1 x2 x3 x4 a8.view a9.view rfl (by decide) 3 (by norm_num) _ _ 1792 (by norm_num) reduces_S256x1792_S256 broadcasts_S256x1_S256x1792 shapeCasts_S1x1792x256_S1792x256 _ _ _ _ _ _ _ _ p
  · exact tile_first x0 x1 x2 x3 x4 a8.view a9.view rfl (by decide) 2 (by norm_num) _ _ _ _ _ _ _ p
  · exact tile_later x0 x1 x2 x3 x4 a8.view a9.view rfl (by decide) 2 (by norm_num) _ _ 256 (by norm_num) reduces_S256x256_S256 broadcasts_S256x1_S256x256 shapeCasts_S1x256x256_S256x256 _ _ _ _ _ _ _ _ p
  · exact tile_later x0 x1 x2 x3 x4 a8.view a9.view rfl (by decide) 2 (by norm_num) _ _ 512 (by norm_num) reduces_S256x512_S256 broadcasts_S256x1_S256x512 shapeCasts_S1x512x256_S512x256 _ _ _ _ _ _ _ _ p
  · exact tile_later x0 x1 x2 x3 x4 a8.view a9.view rfl (by decide) 2 (by norm_num) _ _ 768 (by norm_num) reduces_S256x768_S256 broadcasts_S256x1_S256x768 shapeCasts_S1x768x256_S768x256 _ _ _ _ _ _ _ _ p
  · exact tile_later x0 x1 x2 x3 x4 a8.view a9.view rfl (by decide) 2 (by norm_num) _ _ 1024 (by norm_num) reduces_S256x1024_S256 broadcasts_S256x1_S256x1024 shapeCasts_S1x1024x256_S1024x256 _ _ _ _ _ _ _ _ p
  · exact tile_later x0 x1 x2 x3 x4 a8.view a9.view rfl (by decide) 2 (by norm_num) _ _ 1280 (by norm_num) reduces_S256x1280_S256 broadcasts_S256x1_S256x1280 shapeCasts_S1x1280x256_S1280x256 _ _ _ _ _ _ _ _ p
  · exact tile_later x0 x1 x2 x3 x4 a8.view a9.view rfl (by decide) 2 (by norm_num) _ _ 1536 (by norm_num) reduces_S256x1536_S256 broadcasts_S256x1_S256x1536 shapeCasts_S1x1536x256_S1536x256 _ _ _ _ _ _ _ _ p
  · exact tile_later x0 x1 x2 x3 x4 a8.view a9.view rfl (by decide) 2 (by norm_num) _ _ 1792 (by norm_num) reduces_S256x1792_S256 broadcasts_S256x1_S256x1792 shapeCasts_S1x1792x256_S1792x256 _ _ _ _ _ _ _ _ p
  · exact tile_first x0 x1 x2 x3 x4 a8.view a9.view rfl (by decide) 1 (by norm_num) _ _ _ _ _ _ _ p
  · exact tile_later x0 x1 x2 x3 x4 a8.view a9.view rfl (by decide) 1 (by norm_num) _ _ 256 (by norm_num) reduces_S256x256_S256 broadcasts_S256x1_S256x256 shapeCasts_S1x256x256_S256x256 _ _ _ _ _ _ _ _ p
  · exact tile_later x0 x1 x2 x3 x4 a8.view a9.view rfl (by decide) 1 (by norm_num) _ _ 512 (by norm_num) reduces_S256x512_S256 broadcasts_S256x1_S256x512 shapeCasts_S1x512x256_S512x256 _ _ _ _ _ _ _ _ p
  · exact tile_later x0 x1 x2 x3 x4 a8.view a9.view rfl (by decide) 1 (by norm_num) _ _ 768 (by norm_num) reduces_S256x768_S256 broadcasts_S256x1_S256x768 shapeCasts_S1x768x256_S768x256 _ _ _ _ _ _ _ _ p
  · exact tile_later x0 x1 x2 x3 x4 a8.view a9.view rfl (by decide) 1 (by norm_num) _ _ 1024 (by norm_num) reduces_S256x1024_S256 broadcasts_S256x1_S256x1024 shapeCasts_S1x1024x256_S1024x256 _ _ _ _ _ _ _ _ p
  · exact tile_later x0 x1 x2 x3 x4 a8.view a9.view rfl (by decide) 1 (by norm_num) _ _ 1280 (by norm_num) reduces_S256x1280_S256 broadcasts_S256x1_S256x1280 shapeCasts_S1x1280x256_S1280x256 _ _ _ _ _ _ _ _ p
  · exact tile_later x0 x1 x2 x3 x4 a8.view a9.view rfl (by decide) 1 (by norm_num) _ _ 1536 (by norm_num) reduces_S256x1536_S256 broadcasts_S256x1_S256x1536 shapeCasts_S1x1536x256_S1536x256 _ _ _ _ _ _ _ _ p
  · exact tile_later x0 x1 x2 x3 x4 a8.view a9.view rfl (by decide) 1 (by norm_num) _ _ 1792 (by norm_num) reduces_S256x1792_S256 broadcasts_S256x1_S256x1792 shapeCasts_S1x1792x256_S1792x256 _ _ _ _ _ _ _ _ p
  · exact tile_first x0 x1 x2 x3 x4 a8.view a9.view rfl (by decide) 0 (by norm_num) _ _ _ _ _ _ _ p
  · exact tile_later x0 x1 x2 x3 x4 a8.view a9.view rfl (by decide) 0 (by norm_num) _ _ 256 (by norm_num) reduces_S256x256_S256 broadcasts_S256x1_S256x256 shapeCasts_S1x256x256_S256x256 _ _ _ _ _ _ _ _ p
  · exact tile_later x0 x1 x2 x3 x4 a8.view a9.view rfl (by decide) 0 (by norm_num) _ _ 512 (by norm_num) reduces_S256x512_S256 broadcasts_S256x1_S256x512 shapeCasts_S1x512x256_S512x256 _ _ _ _ _ _ _ _ p
  · exact tile_later x0 x1 x2 x3 x4 a8.view a9.view rfl (by decide) 0 (by norm_num) _ _ 768 (by norm_num) reduces_S256x768_S256 broadcasts_S256x1_S256x768 shapeCasts_S1x768x256_S768x256 _ _ _ _ _ _ _ _ p
  · exact tile_later x0 x1 x2 x3 x4 a8.view a9.view rfl (by decide) 0 (by norm_num) _ _ 1024 (by norm_num) reduces_S256x1024_S256 broadcasts_S256x1_S256x1024 shapeCasts_S1x1024x256_S1024x256 _ _ _ _ _ _ _ _ p
  · exact tile_later x0 x1 x2 x3 x4 a8.view a9.view rfl (by decide) 0 (by norm_num) _ _ 1280 (by norm_num) reduces_S256x1280_S256 broadcasts_S256x1_S256x1280 shapeCasts_S1x1280x256_S1280x256 _ _ _ _ _ _ _ _ p
  · exact tile_later x0 x1 x2 x3 x4 a8.view a9.view rfl (by decide) 0 (by norm_num) _ _ 1536 (by norm_num) reduces_S256x1536_S256 broadcasts_S256x1_S256x1536 shapeCasts_S1x1536x256_S1536x256 _ _ _ _ _ _ _ _ p
  · exact tile_later x0 x1 x2 x3 x4 a8.view a9.view rfl (by decide) 0 (by norm_num) _ _ 1792 (by norm_num) reduces_S256x1792_S256 broadcasts_S256x1_S256x1792 shapeCasts_S1x1792x256_S1792x256 _ _ _ _ _ _ _ _ p

end

end Cert.Proof.Attn

end
-- ==== Proof.AttnArray.lean ====
/- The array the attention leaves, and its reference: each head's values averaged under the base-2 softmax of its causal
   scores, gated. -/
module

public import proofs.«01_k».proof.Proof.AttnBody
public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Cert.Proof.Attn

open Idealize.ShloMosaic hiding ix1 ix2 ix3 ix4
open Idealize.ShloMosaic.TcCoe Idealize.ShloMosaic.ValueIdx

/-! ## The formula -/

abbrev Wide : Type := (⟨2, ![16384, 4096]⟩ : Shape).Idx → EReal
abbrev Shared : Type := (⟨2, ![16384, 128]⟩ : Shape).Idx → EReal
abbrev Projected : Type := (⟨2, ![16384, 29184]⟩ : Shape).Idx → EReal

/-- Row `j` of a batch. -/
def row (bt : Fin 8) (j : ℕ) : Fin 16384 := ⟨2048 * bt.val + j % 2048, by have := bt.isLt; have := Nat.mod_lt j (show 0 < 2048 by norm_num); omega⟩

/-- A row's query of head `h`. -/
def qry (q : Wide) (r : Fin 16384) (h : Fin 16) (b : Fin 256) : EReal := q (ix2 r ⟨256 * h.val + b.val, by omega⟩)

/-- A batch's key `j` of head `h`: 128 columns of the head's own, 128 shared by the heads. -/
def key (kv : Wide) (kr : Shared) (bt : Fin 8) (h : Fin 16) (j : ℕ) (b : Fin 256) : EReal :=
  if _ : b.val < 128 then kv (ix2 (row bt j) ⟨128 * h.val + b.val, by omega⟩) else kr (ix2 (row bt j) ⟨b.val - 128, by omega⟩)

/-- A batch's value `j` of head `h`. -/
def val (kv : Wide) (bt : Fin 8) (h : Fin 16) (e : Fin 128) (j : ℕ) : EReal := kv (ix2 (row bt j) ⟨2048 + (128 * h.val + e.val), by omega⟩)

/-- The scores of a batch's query `p`. -/
def scores (q kv : Wide) (kr : Shared) (bt : Fin 8) (h : Fin 16) (p : ℕ) : ℕ → EReal :=
  score (qry q (row bt p) h) (key kv kr bt h) p

/-- Head `h`'s column `e` for a batch's query `p`, gated. -/
def cell (q kv : Wide) (kr : Shared) (z : Projected) (bt : Fin 8) (h : Fin 16) (p : ℕ) (e : Fin 128) : EReal :=
  Softmax.mean (scores q kv kr bt h p) (val kv bt h e) 2048 * z (ix2 (row bt p) ⟨12288 + (128 * h.val + e.val), by omega⟩)

/-- The result, the batches' rows one after another, the heads' columns side by side. -/
def result (q kv : Wide) (kr : Shared) (z : Projected) (r : Fin 16384) (c : Fin 2048) : EReal :=
  cell q kv kr z ⟨r.val / 2048, by omega⟩ ⟨c.val / 128, by omega⟩ (r.val % 2048) ⟨c.val % 128, by omega⟩

/-! ## The launch -/

section Kernel

open Cert.Kernel7Ideal Cert.Kernel7Ideal.Gen

theorem index_queries : ∀ t : Fin grid0.N, cc0_transform_0 (grid0.coords t) = ![t.val / 4, t.val % 4] := by decide +kernel
theorem index_keys : ∀ t : Fin grid0.N, cc0_transform_1 (grid0.coords t) = ![t.val / 4, t.val % 4] := by decide +kernel
theorem index_shared : ∀ t : Fin grid0.N, cc0_transform_2 (grid0.coords t) = ![t.val / 4, 0] := by decide +kernel
theorem index_values : ∀ t : Fin grid0.N, cc0_transform_3 (grid0.coords t) = ![t.val / 4, 4 + t.val % 4] := by decide +kernel
theorem index_gate : ∀ t : Fin grid0.N, cc0_transform_4 (grid0.coords t) = ![t.val / 4, 24 + t.val % 4] := by decide +kernel
theorem index_out : ∀ t : Fin grid0.N, cc0_transform_5 (grid0.coords t) = ![t.val / 4, t.val % 4] := by decide +kernel

variable (m : (ℓ : Loc nD τ sig) → Buf (Elt Ideal) ℓ) (c : Dev nD) (t : Fin cfg0.N)

theorem read_queries (a : Fin 2048) (k : Fin 1024) (r : Fin 16384) (l : Fin 4096) (hr : r.val = t.val / 4 * 2048 + a.val) (hl : l.val = t.val % 4 * 1024 + k.val) :
    iblk m c 0 t (ix2 a k) = m ((c : Thread nD τ).loc main_arg0) (ix2 r l) := by
  rw [← V_main_arg0 m c]
  refine congrArg (V m c main_arg0) (funext fun d => Fin.ext ?_)
  refine (Pipeline.Window.rect_emb_val_off (cfg0.win 0) t (ix2 a k) d).trans ?_
  have e : (cfg0.win 0).index t = ![t.val / 4, t.val % 4] := index_queries t
  rw [e]; fin_cases d
  · exact hr.symm
  · exact hl.symm

theorem read_keys (a : Fin 2048) (k : Fin 512) (r : Fin 16384) (l : Fin 4096) (hr : r.val = t.val / 4 * 2048 + a.val) (hl : l.val = t.val % 4 * 512 + k.val) :
    iblk m c 1 t (ix2 a k) = m ((c : Thread nD τ).loc main_arg1) (ix2 r l) := by
  rw [← V_main_arg1 m c]
  refine congrArg (V m c main_arg1) (funext fun d => Fin.ext ?_)
  refine (Pipeline.Window.rect_emb_val_off (cfg0.win 1) t (ix2 a k) d).trans ?_
  have e : (cfg0.win 1).index t = ![t.val / 4, t.val % 4] := index_keys t
  rw [e]; fin_cases d
  · exact hr.symm
  · exact hl.symm

theorem read_shared (a : Fin 2048) (k : Fin 128) (r : Fin 16384) (hr : r.val = t.val / 4 * 2048 + a.val) :
    iblk m c 2 t (ix2 a k) = m ((c : Thread nD τ).loc main_arg2) (ix2 r k) := by
  rw [← V_main_arg2 m c]
  refine congrArg (V m c main_arg2) (funext fun d => Fin.ext ?_)
  refine (Pipeline.Window.rect_emb_val_off (cfg0.win 2) t (ix2 a k) d).trans ?_
  have e : (cfg0.win 2).index t = ![t.val / 4, 0] := index_shared t
  rw [e]; fin_cases d
  · exact hr.symm
  · show 0 * 128 + k.val = k.val; omega

theorem read_values (a : Fin 2048) (k : Fin 512) (r : Fin 16384) (l : Fin 4096) (hr : r.val = t.val / 4 * 2048 + a.val) (hl : l.val = (4 + t.val % 4) * 512 + k.val) :
    iblk m c 3 t (ix2 a k) = m ((c : Thread nD τ).loc main_arg1) (ix2 r l) := by
  rw [← V_main_arg1 m c]
  refine congrArg (V m c main_arg1) (funext fun d => Fin.ext ?_)
  refine (Pipeline.Window.rect_emb_val_off (cfg0.win 3) t (ix2 a k) d).trans ?_
  have e : (cfg0.win 3).index t = ![t.val / 4, 4 + t.val % 4] := index_values t
  rw [e]; fin_cases d
  · exact hr.symm
  · exact hl.symm

theorem read_gate (a : Fin 2048) (k : Fin 512) (r : Fin 16384) (l : Fin 29184) (hr : r.val = t.val / 4 * 2048 + a.val) (hl : l.val = (24 + t.val % 4) * 512 + k.val) :
    iblk m c 4 t (ix2 a k) = m ((c : Thread nD τ).loc main_arg3) (ix2 r l) := by
  rw [← V_main_arg3 m c]
  refine congrArg (V m c main_arg3) (funext fun d => Fin.ext ?_)
  refine (Pipeline.Window.rect_emb_val_off (cfg0.win 4) t (ix2 a k) d).trans ?_
  have e : (cfg0.win 4).index t = ![t.val / 4, 24 + t.val % 4] := index_gate t
  rw [e]; fin_cases d
  · exact hr.symm
  · exact hl.symm

/-- A block's cell is the formula's. -/
theorem blk_cell (p : Fin 2048) (h : Fin 4) (e : Fin 128) (bt : Fin 8) (g : Fin 16) (hb : bt.val = t.val / 4) (hg : g.val = t.val % 4 * 4 + h.val) :
    blk (iblk m c 0 t) (iblk m c 1 t) (iblk m c 2 t) (iblk m c 3 t) (iblk m c 4 t) p h e
      = cell (m ((c : Thread nD τ).loc main_arg0)) (m ((c : Thread nD τ).loc main_arg1)) (m ((c : Thread nD τ).loc main_arg2)) (m ((c : Thread nD τ).loc main_arg3)) bt g p.val e := by
  have hp := p.isLt
  have he := e.isLt
  have hrow : ∀ j : ℕ, (row bt j).val = t.val / 4 * 2048 + j % 2048 := fun j => by
    show 2048 * bt.val + j % 2048 = _; omega
  have hrp : (row bt p.val).val = t.val / 4 * 2048 + p.val := (hrow p.val).trans (by rw [Nat.mod_eq_of_lt hp])
  have hq : (fun b : Fin 256 => iblk m c 0 t (ix2 p ⟨256 * h.val + b.val, by omega⟩)) = qry (m ((c : Thread nD τ).loc main_arg0)) (row bt p.val) g :=
    funext fun b => read_queries m c t p _ _ _ hrp (by show 256 * g.val + b.val = t.val % 4 * 1024 + (256 * h.val + b.val); omega)
  have hk : keyAt (iblk m c 1 t) (iblk m c 2 t) h = key (m ((c : Thread nD τ).loc main_arg1)) (m ((c : Thread nD τ).loc main_arg2)) bt g := by
    funext j b
    unfold keyAt key
    by_cases hb' : b.val < 128
    · rw [dif_pos hb', dif_pos hb']
      exact read_keys m c t _ _ _ _ (hrow j) (by show 128 * g.val + b.val = t.val % 4 * 512 + (128 * h.val + b.val); omega)
    · rw [dif_neg hb', dif_neg hb']
      exact read_shared m c t _ _ _ (hrow j)
  have hv : (fun j => valAt (iblk m c 3 t) h j ⟨e.val, by omega⟩) = val (m ((c : Thread nD τ).loc main_arg1)) bt g e :=
    funext fun j => (valAt_low _ h j ⟨e.val, by omega⟩ he).trans
      (read_values m c t _ _ _ _ (hrow j) (by show 2048 + (128 * g.val + e.val) = (4 + t.val % 4) * 512 + (128 * h.val + e.val); omega))
  unfold blk cell scores
  rw [hq, hk, hv]
  exact congrArg (fun z : EReal => _ * z) (read_gate m c t p _ _ _ hrp (by show 12288 + (128 * g.val + e.val) = (24 + t.val % 4) * 512 + (128 * h.val + e.val); omega))

/-- What a point leaves in its block. -/
theorem point (y : S2048x512.Idx) (r : Fin 16384) (q : Fin 2048) (hr : r.val = t.val / 4 * 2048 + (y 0).val) (hq : q.val = t.val % 4 * 512 + (y 1).val) :
    outsAt0 m c t y = result (m ((c : Thread nD τ).loc main_arg0)) (m ((c : Thread nD τ).loc main_arg1)) (m ((c : Thread nD τ).loc main_arg2))
      (m ((c : Thread nD τ).loc main_arg3)) r q := by
  have h₀ : (y 0).val < 2048 := (y 0).isLt
  have h₁ : (y 1).val < 512 := (y 1).isLt
  unfold outsAt0
  refine (congrFun (out _ _ _ _ _ _ _ _ _ _ _ _ _ _ _ _ _ _ _ _ _ _ _) y).trans ?_
  refine (blk_cell m c t (y 0) ⟨(y 1).val / 128, by omega⟩ ⟨(y 1).val % 128, by omega⟩ ⟨r.val / 2048, by omega⟩ ⟨q.val / 128, by omega⟩
    (by show r.val / 2048 = t.val / 4; omega) (by show q.val / 128 = t.val % 4 * 4 + (y 1).val / 128; omega)).trans ?_
  unfold result
  rw [show (y 0).val = r.val % 2048 by omega, show (⟨(y 1).val % 128, by omega⟩ : Fin 128) = ⟨q.val % 128, by omega⟩ from Fin.ext (show (y 1).val % 128 = q.val % 128 by omega)]

/-- The array after the launch. -/
theorem array : (dats m 0 c).arrAt 5 cfg0.N
    = fun i : S16384x2048.Idx => result (m ((c : Thread nD τ).loc main_arg0)) (m ((c : Thread nD τ).loc main_arg1))
        (m ((c : Thread nD τ).loc main_arg2)) (m ((c : Thread nD τ).loc main_arg3)) (i 0) (i 1) := by
  refine (dats m 0 c).arrAt_eq_of_covers 5 _ (by decide +kernel) fun t _ y => ?_
  have e : (cfg0.win 5).index t = ![t.val / 4, t.val % 4] := index_out t
  have hb := Pipeline.Window.rect_emb_val_off (cfg0.win 5) t y
  rw [e] at hb
  exact (congrFun (after0_5 m c t) y).trans (point m c t y _ _ (hb (0 : Fin 2)) (hb (1 : Fin 2)))

end Kernel

/-! ## The reference -/

section Reference

open Cert.Reference7Ideal Cert.Reference7Ideal.Gen Cert.Reference7Ideal.Read

theorem ofBits_two : Ideal.ofBits .f32 0x40000000#32 = ((2 : ℝ) : EReal) := by
  simp [Ideal.ofBits, Ideal.ieee]
  rw [← EReal.coe_mul]
  exact congrArg _ (by norm_num)

/-- Two to a power. -/
theorem pow_two (x : EReal) : Ideal.pow (Ideal.ofBits .f32 0x40000000#32) x = Ideal.exp2 x := by
  rw [ofBits_two]
  induction x with
  | bot => rw [Ideal.pow_coe_bot, if_neg (by norm_num), if_pos (by norm_num), Ideal.exp2_bot]
  | top => rw [Ideal.pow_coe_top, if_neg (by norm_num), if_pos (by norm_num), Ideal.exp2_top]
  | coe r => rfl

variable (x0 x1 : (⟨S16384x4096, .bf16⟩ : BufTy).Contents (Elt Ideal)) (x2 : (⟨S16384x128, .bf16⟩ : BufTy).Contents (Elt Ideal))
  (x3 : (⟨S16384x29184, .bf16⟩ : BufTy).Contents (Elt Ideal)) (bt : Fin 8) (h : Fin 16) (p : Fin 2048)

/-- The reference's queries -/
theorem ref_query (b : Fin 256) : val_main_v1 (F := Ideal) x0 (ix4 bt p h b) = qry x0 (row bt p.val) h b := by
  have hp := p.isLt
  rw [val_main_v1_apply, val_main_v0_apply]
  refine congrArg x0 (funext fun d => Fin.ext ?_)
  fin_cases d
  · show (((bt.val * 2048 + p.val) * 16 + h.val) * 256 + b.val) / 4096 = 2048 * bt.val + p.val % 2048; omega
  · show (((bt.val * 2048 + p.val) * 16 + h.val) * 256 + b.val) % 4096 = 256 * h.val + b.val; omega

/-- and keys. -/
theorem ref_key (b : Fin 256) : val_main_v11 (F := Ideal) x1 x2 (ix4 bt p h b) = key x1 x2 bt h p.val b := by
  have hp := p.isLt
  unfold key
  by_cases hb : b.val < 128
  · rw [dif_pos hb]
    refine Eq.trans (concatenate_apply_piece 3 _ _ (ix4 bt p h b) 0 (by show 0 < 2; omega) S8x2048x16x128 (val_main_v4 (F := Ideal) x1) rfl rfl 0 rfl (ix4 bt p h ⟨b.val, hb⟩)
      (fun b hb => by fin_cases b; exact rfl; exact rfl; exact rfl; exact absurd rfl hb) (by show 0 + b.val = b.val; omega)) ?_
    rw [val_main_v4_apply, val_main_v3_apply, val_main_v2_apply]
    refine congrArg x1 (funext fun d => Fin.ext ?_)
    fin_cases d
    · show (((bt.val * 2048 + p.val) * 16 + h.val) * 128 + b.val) / 2048 = 2048 * bt.val + p.val % 2048; omega
    · show (((bt.val * 2048 + p.val) * 16 + h.val) * 128 + b.val) % 2048 = 128 * h.val + b.val; omega
  · rw [dif_neg hb]
    refine Eq.trans (concatenate_apply_piece 3 _ _ (ix4 bt p h b) 1 (by show 1 < 2; omega) S8x2048x16x128 (val_main_v10 (F := Ideal) x2) rfl rfl 128 rfl (ix4 bt p h ⟨b.val - 128, by omega⟩)
      (fun b hb => by fin_cases b; exact rfl; exact rfl; exact rfl; exact absurd rfl hb) (by show 128 + (b.val - 128) = b.val; omega)) ?_
    rw [val_main_v10_apply, val_main_v9_apply, val_main_v8_apply]
    refine congrArg x2 (funext fun d => Fin.ext ?_)
    fin_cases d
    · show (((bt.val * 2048 + p.val) * 1 + 0) * 128 + (b.val - 128)) / 128 = 2048 * bt.val + p.val % 2048; omega
    · show (((bt.val * 2048 + p.val) * 1 + 0) * 128 + (b.val - 128)) % 128 = b.val - 128; omega

/-- The reference's scores, the masked ones −∞. -/
theorem ref_score (k : Fin 2048) : val_main_v22 (F := Ideal) x0 x1 x2 (ix4 bt h p k) = scores x0 x1 x2 bt h p.val k.val := by
  have hp := p.isLt
  have hk := k.isLt
  have hm : val_main_call0_v1 (F := Ideal) (ix4 bt h p k) = IntOp.cmpi .sle (BitVec.ofNat 32 k.val) (BitVec.ofNat 32 p.val) := by
    rw [val_main_call0_v1_apply, val_main_v21_apply, val_main_v20_apply, val_main_v18_apply, val_main_v16_apply, val_main_v14_apply,
      val_main_v19_apply, val_main_v17_apply, val_main_v14_apply]
  rw [val_main_v22_apply, hm, val_main_call0_v2_apply, val_main_call0_v0_apply, val_main_cst_apply]
  show (if IntOp.cmpi .sle (BitVec.ofNat 32 k.val) (BitVec.ofNat 32 p.val) = 1#1 then val_main_v15 (F := Ideal) x0 x1 x2 (ix4 bt h p k) else Ideal.ofBits .f32 0xFF800000#32) = _
  unfold scores score
  by_cases hc : k.val ≤ p.val
  · rw [if_pos ((WordCmp.cmpi_sle_ofNat_eq_one_iff (by omega) (by omega)).mpr hc), if_pos hc, val_main_v15_apply]
    refine Finset.sum_congr rfl fun b _ => congrArg₂ (fun (a b : EReal) => a * b)
      (Eq.trans (congrArg (val_main_v1 (F := Ideal) x0) ?_) (ref_query x0 bt h p b)) (Eq.trans (congrArg (val_main_v11 (F := Ideal) x1 x2) ?_) (ref_key x1 x2 bt h k b))
    · funext d; fin_cases d <;> rfl
    · funext d; fin_cases d <;> rfl
  · rw [if_neg (fun e => hc ((WordCmp.cmpi_sle_ofNat_eq_one_iff (by omega) (by omega)).mp e)), if_neg hc]
    exact ofBits_bot

/-- The greatest entry of a row, -/
theorem top_row (n : ℕ) (x : FVec Ideal ⟨4, ![8, 16, 2048, n]⟩ .f32) (ht : (⟨4, ![8, 16, 2048, n]⟩ : Shape).ReducesTo [3] S8x16x2048)
    (hr : (⟨4, ![8, 16, 2048, n]⟩ : Shape).Reduces [3] S8x16x2048) (s : ℕ → EReal) (hs : ∀ k : Fin n, x (ix4 bt h p k) = s k.val) :
    Host.reduce FloatOps.maximumf x (constant (F := Ideal) S_ .f32 0xFF800000#32) ht h_S_ (ix3 bt h p) = Softmax.top s n := by
  refine (congrFun (hostReduce_maximumf_eq_multiReduction x 0xFF800000#32 ht h_S_ hr (.inl rfl) rfl) (ix3 bt h p)).trans ?_
  refine (Ideal.multiReduction_maximumf_single x _ hr (.inl rfl) rfl (ix3 bt h p)).trans ?_
  refine (congrArg (fun a : EReal => Finset.fold max a _ _) ofBits_bot).trans ?_
  refine Softmax.top_fin n _ s fun k => ?_
  have e : hr.lift (ix3 bt h p) k = ix4 bt h p k := by funext d; fin_cases d <;> rfl
  exact (congrArg x e).trans (hs k)

/-- so the reference's greatest score. -/
theorem ref_top : val_main_v23 (F := Ideal) x0 x1 x2 (ix3 bt h p) = Softmax.top (scores x0 x1 x2 bt h p.val) 2048 :=
  top_row bt h p 2048 (val_main_v22 (F := Ideal) x0 x1 x2) reducesTo_S8x16x2048x2048_S8x16x2048_d3 (by decide) _ (ref_score x0 x1 x2 bt h p)

/-- The reference's weights, -/
theorem ref_weight (k : Fin 2048) : val_main_v28 (F := Ideal) x0 x1 x2 (ix4 bt h p k)
    = Softmax.weight (scores x0 x1 x2 bt h p.val) (Softmax.top (scores x0 x1 x2 bt h p.val) 2048) k.val := by
  have e : idx_main_v24 (idx_main_v25 (ix4 bt h p k)) = ix3 bt h p := by funext d; fin_cases d <;> rfl
  rw [val_main_v28_apply, val_main_v27_apply, val_main_cst_1_apply, val_main_v26_apply, val_main_v25_apply, val_main_v24_apply, e, ref_top, ref_score]
  exact pow_two _

/-- their sum, -/
theorem ref_total : val_main_v29 (F := Ideal) x0 x1 x2 (ix3 bt h p) = Softmax.total (scores x0 x1 x2 bt h p.val) 2048 := by
  rw [val_main_v29_apply, val_main_cst_2_apply]
  refine (congrArg (fun a : EReal => a + _) Ideal.ofBits_zero_f32).trans ((zero_add _).trans ?_)
  unfold Softmax.total
  rw [Finset.sum_range]
  refine Finset.sum_congr rfl fun k _ => ?_
  have e : idx_main_v29 (ix3 bt h p) k = ix4 bt h p k := by funext d; fin_cases d <;> rfl
  rw [e, ref_weight]

/-- and each over the sum. -/
theorem ref_prob (k : Fin 2048) : val_main_v34 (F := Ideal) x0 x1 x2 (ix4 bt h p k)
    = Softmax.weight (scores x0 x1 x2 bt h p.val) (Softmax.top (scores x0 x1 x2 bt h p.val) 2048) k.val * Ideal.div 1 (Softmax.total (scores x0 x1 x2 bt h p.val) 2048) := by
  have e : idx_main_v30 (idx_main_v33 (ix4 bt h p k)) = ix3 bt h p := by funext d; fin_cases d <;> rfl
  rw [val_main_v34_apply, ref_weight, val_main_v33_apply, val_main_v32_apply, val_main_v31_apply, val_main_cst_3_apply, val_main_v30_apply, e, ref_total]
  exact congrArg (fun a : EReal => _ * Ideal.div a _) Ideal.ofBits_one_f32

theorem ref_value (e : Fin 128) : val_main_v7 (F := Ideal) x1 (ix4 bt p h e) = val x1 bt h e p.val := by
  have hp := p.isLt
  rw [val_main_v7_apply, val_main_v6_apply, val_main_v5_apply]
  refine congrArg x1 (funext fun d => Fin.ext ?_)
  fin_cases d
  · show (((bt.val * 2048 + p.val) * 16 + h.val) * 128 + e.val) / 2048 = 2048 * bt.val + p.val % 2048; omega
  · show 2048 + (((bt.val * 2048 + p.val) * 16 + h.val) * 128 + e.val) % 2048 = 2048 + (128 * h.val + e.val); omega

/-- The reference's mean of the values. -/
theorem ref_mean (e : Fin 128) : val_main_v35 (F := Ideal) x0 x1 x2 (ix4 bt h e p) = Softmax.mean (scores x0 x1 x2 bt h p.val) (val x1 bt h e) 2048 := by
  rw [val_main_v35_apply, ← Softmax.mean_eq, Finset.sum_range]
  refine Finset.sum_congr rfl fun k _ => ?_
  have el : lidx_main_v35 (ix4 bt h e p) k = ix4 bt k h e := by funext d; fin_cases d <;> rfl
  have er : ridx_main_v35 (ix4 bt h e p) k = ix4 bt h p k := by funext d; fin_cases d <;> rfl
  rw [el, er, ref_value, ref_prob]

/-- The reference's result at an index. -/
theorem ref_at (i : S16384x2048.Idx) : val_main_v39 (F := Ideal) x0 x1 x2 x3 i = result x0 x1 x2 x3 (i 0) (i 1) := by
  obtain ⟨r, q, rfl⟩ : ∃ (r : Fin 16384) (q : Fin 2048), i = ix2 r q := ⟨_, _, ValueIdx.eq_ix2 (n0 := 16384) (n1 := 2048) i⟩
  have hr := r.isLt
  have hq := q.isLt
  have e : idx_main_v36 (idx_main_v37 (ix2 r q)) = ix4 ⟨r.val / 2048, by omega⟩ ⟨q.val / 128, by omega⟩ ⟨q.val % 128, by omega⟩ ⟨r.val % 2048, by omega⟩ := by
    funext d; fin_cases d
    · exact Fin.ext (by show (r.val * 2048 + q.val) / 4194304 = r.val / 2048; omega)
    · exact Fin.ext (by show (r.val * 2048 + q.val) / 128 % 16 = q.val / 128; omega)
    · exact Fin.ext (by show (r.val * 2048 + q.val) % 128 = q.val % 128; omega)
    · exact Fin.ext (by show (r.val * 2048 + q.val) / 2048 % 2048 = r.val % 2048; omega)
  rw [val_main_v39_apply, val_main_v38_apply, val_main_v37_apply, val_main_v36_apply, e, ref_mean, val_main_v13_apply, val_main_v12_apply]
  unfold result cell
  refine congrArg (fun z : EReal => _ * z) (congrArg x3 (funext fun d => Fin.ext ?_))
  fin_cases d
  · show r.val = 2048 * (r.val / 2048) + r.val % 2048 % 2048; omega
  · show 12288 + q.val = 12288 + (128 * (q.val / 128) + q.val % 128); omega

end Reference

end Cert.Proof.Attn

end
-- ==== Proof.AttnClaims.lean ====
/- The claims of the attention: the frames of the kernel and its idealization (one run, generic in the float values,
   read twice), the constants named, the frame of its reference, and the equality of the two results over the reals. -/
module

public import proofs.«01_k».proof.Defs
public import proofs.«01_k».proof.Proof.Gen.Kernel7
public import proofs.«01_k».proof.Proof.AttnArray
public import proofs.«01_k».proof.Proof.Gen.Reference7Ideal.Run

@[expose] public section

noncomputable section

namespace Cert.Proof.Attn

open Idealize.ShloMosaic Idealize.ShloMosaic.TcCoe Idealize.SL.Sem

/-- At the bits a named constant is read as the pattern the kernel writes. -/
local instance written : Named Bits := ⟨fun _ _ {φ} b => (FloatOps.ofBits φ b : Bits φ)⟩

theorem frame_ideal : Cert.quiescent_Kernel7Ideal := fun m ρ _ => Cert.Kernel7Ideal.Gen.frame m ρ

/-- The body called at a point is the same in the kernel and in its idealization … -/
theorem bodies_eq : Cert.Kernel7.defs₀ (F := Bits) = Cert.Kernel7Ideal.defs₀ (F := Bits) := by
  refine congrArg Defs.onTc (funext fun l => funext fun a => ?_)
  match l, a with
  | 0, (t, s) => rfl
  | ⟨n + 1, h⟩, _ => exact absurd h (by omega)

/-- … and so is the pipeline around it. -/
theorem defs_eq : Cert.Kernel7.defs (F := Bits) = Cert.Kernel7Ideal.defs (F := Bits) :=
  congrArg (Pipeline.defs Cert.Kernel7Ideal.pcfgs) bodies_eq

/-- The kernel's frame is its idealization's run, read at the bits. -/
theorem frame_bits : Cert.quiescent_Kernel7 := fun m ρ _ => by
  rw [defs_eq]; exact Cert.Kernel7Ideal.Gen.frame (F := Bits) m ρ

/-- The mask's constant, named, is −∞. -/
theorem named : Cert.preserves_Kernel7_Kernel7Ideal :=
  IdealRules.named_const.statement Cert.Kernel7Ideal.κ "masked" .f32 0xF149F2CA#32 ⊥ rfl

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The two results are the same formula of the same arguments. -/
theorem algebraic : Cert.algebraic_Kernel7Ideal_Reference7Ideal := fun m ρ m' ρ' _ hm => by
  refine ⟨_, (θ_run _ _ _).mono (fun r h c => ⟨(h c).1.trans (array m c), (h c).2⟩) (Cert.Kernel7Ideal.Value.run_blocks (F := Ideal) m ρ),
    (θ_run _ _ _).mono (fun r h c => ⟨(h c).1.trans ?_, (h c).2⟩) (Cert.Reference7Ideal.Value.run (F := Ideal) m' ρ')⟩
  refine (Cert.Reference7Ideal.Read.val_main_v39_eq _ _).trans (funext fun i => ?_)
  obtain ⟨h0, h1, h2, h3⟩ := hm c
  rw [h0, h1, h2, h3]
  exact ref_at _ _ _ _ i

end Cert.Proof.Attn

end
-- ==== Proof.Shift.lean ====
/- The base-2 softmax mean of scores moved by a constant, from weights taken against a greatest score moved there and back:
   the same mean whether the constant is real or infinite. -/
module

public import proofs.«01_k».proof.Proof.Softmax

@[expose] public section

noncomputable section

namespace Cert.Proof.Softmax

open Idealize.ShloMosaic

/-- Moved by `c` and back. -/
def there (m c : EReal) : EReal := (m + c) - c

/-- A mean whose weights are taken against `m`. -/
def meanAt (s v : ℕ → EReal) (m : EReal) (n : ℕ) : EReal :=
  (∑ j ∈ Finset.range n, weight s m j * v j) * Ideal.div 1 (∑ j ∈ Finset.range n, weight s m j)

theorem there_top (m : EReal) : there m ⊤ = ⊥ := by
  unfold there
  rw [sub_eq_add_neg, EReal.neg_top, EReal.add_bot]

theorem there_bot (m : EReal) : there m ⊥ = ⊥ := by
  unfold there
  rw [EReal.add_bot, sub_eq_add_neg, EReal.bot_add]

/-- Against −∞ every weight is 0 or ∞, and the mean is 0. -/
theorem meanAt_bot (s v : ℕ → EReal) (n : ℕ) : meanAt s v ⊥ n = 0 := by
  have hw : ∀ j, weight s ⊥ j = 0 ∨ weight s ⊥ j = ⊤ := fun j => by
    by_cases h : s j = ⊥
    · exact .inl (weight_bot s ⊥ j h)
    · right
      unfold weight
      rw [sub_eq_add_neg, EReal.neg_bot, EReal.add_top_of_ne_bot h, Ideal.exp2_top]
  unfold meanAt
  by_cases h : ∀ j ∈ Finset.range n, weight s ⊥ j = 0
  · rw [Finset.sum_eq_zero fun j hj => by rw [h j hj, zero_mul], zero_mul]
  · push Not at h
    obtain ⟨j, hj, h⟩ := h
    have e : ∑ j ∈ Finset.range n, weight s ⊥ j = ⊤ := by
      refine top_le_iff.mp (((hw j).resolve_left h).ge.trans ?_)
      exact Finset.single_le_sum (f := weight s ⊥) (fun j _ => exp2_nonneg _) hj
    rw [e, Ideal.div, if_neg (by simp), EReal.inv_top, mul_zero, mul_zero]

/-- A mean whose every weight is 0. -/
theorem mean_zero (s v : ℕ → EReal) (n : ℕ) (h : ∀ j ∈ Finset.range n, weight s (top s n) j = 0) : mean s v n = 0 := by
  unfold mean
  rw [Finset.sum_eq_zero fun j hj => by rw [h j hj, zero_mul], zero_mul]

theorem top_move (s : ℕ → EReal) (n : ℕ) (c : ℝ) : top (fun j => s j + c) n = top s n + c :=
  (Finset.comp_sup_eq_sup_comp (fun x : EReal => x + c) (fun _ _ => Monotone.map_sup (fun _ _ h => add_le_add_left h _) _ _) (EReal.bot_add _)).symm

theorem move_sub (x y : EReal) (c : ℝ) : (x + c) - (y + c) = x - y := by
  induction x with
  | bot => rw [EReal.bot_add, sub_eq_add_neg, sub_eq_add_neg, EReal.bot_add, EReal.bot_add]
  | top => induction y with
    | bot => rfl
    | top => rfl
    | coe y => rfl
  | coe x => induction y with
    | bot => rfl
    | top => rfl
    | coe y => norm_cast; ring

/-- The mean of the scores moved by `c`. -/
theorem meanAt_there (s v : ℕ → EReal) (n : ℕ) (c : EReal) : meanAt s v (there (top s n) c) n = mean (fun j => s j + c) v n := by
  induction c with
  | bot =>
    rw [there_bot, meanAt_bot, mean_zero]
    exact fun j _ => weight_bot _ _ _ (EReal.add_bot _)
  | top =>
    rw [there_top, meanAt_bot, mean_zero]
    intro j hj
    by_cases h : s j = ⊥
    · exact weight_bot _ _ _ (by rw [h, EReal.bot_add])
    · have e : s j + ⊤ = ⊤ := EReal.add_top_of_ne_bot h
      have ht : top (fun j => s j + ⊤) n = ⊤ := top_le_iff.mp (e.ge.trans (Finset.le_sup (f := fun j => s j + ⊤) hj))
      unfold weight
      rw [ht, sub_eq_add_neg, EReal.neg_top, EReal.add_bot, Ideal.exp2_bot]
  | coe c =>
    have ht : there (top s n) c = top s n := EReal.add_sub_cancel_right
    have hw : ∀ j, weight (fun j => s j + c) (top s n + c) j = weight s (top s n) j := fun j => congrArg Ideal.exp2 (move_sub _ _ c)
    unfold meanAt mean total
    rw [ht, top_move]
    simp only [hw]

/-- … from the sums over each part. -/
theorem meanAt_add (s v : ℕ → EReal) (n m : ℕ) (t c : EReal) (ht : t = there (max (top (fun k => s (n + k)) m) (top s n)) c) :
    (∑ k ∈ Finset.range m, weight s t (n + k) * v (n + k) + ∑ k ∈ Finset.range n, weight s t k * v k)
      * Ideal.div 1 (∑ k ∈ Finset.range m, weight s t (n + k) + ∑ k ∈ Finset.range n, weight s t k) = mean (fun j => s j + c) v (n + m) := by
  rw [← meanAt_there, top_add, ← ht]
  unfold meanAt
  rw [Finset.sum_range_add, Finset.sum_range_add, add_comm (∑ k ∈ Finset.range m, weight s t (n + k) * v (n + k)),
    add_comm (∑ k ∈ Finset.range m, weight s t (n + k))]

end Cert.Proof.Softmax

end
-- ==== Proof.FoxTile.lean ====
/- One tile of the attention with forget gates: 256 queries against the keys up to the last of them, every score less its
   key's forgetting, the weights taken against a greatest score moved by the query's forgetting and back. -/
module

public import proofs.«01_k».proof.Proof.Shift
public import proofs.«01_k».proof.Proof.AttnTile
public import proofs.«01_k».proof.Proof.Gen.Kernel8Ideal.Frame
public import Idealize.ShloMosaic.Lib.ValueLayout

@[expose] public section

set_option maxRecDepth 16384

noncomputable section

namespace Cert.Proof.Fox

open Idealize.ShloMosaic Idealize.ShloMosaic.TcCoe Idealize.ShloMosaic.ValueIdx
open Cert.Kernel8Ideal Cert.Kernel8Ideal.Gen

/-- A query's score against key `j` less the key's forgetting, −∞ past the query's position. -/
def score (q : Fin 128 → EReal) (key : ℕ → Fin 128 → EReal) (ck : ℕ → EReal) (pos j : ℕ) : EReal :=
  if j ≤ pos then (∑ k : Fin 128, q k * key j k) - ck j else ⊥

/-- A row of the keys' forgetting, from key `o` on, under every query. -/
theorem row_apply (n o : ℕ) (kr : FVec Ideal S1x2048 .f32) (h : S1x2048.Slices ![0, o] ⟨2, ![1, n]⟩) (hb : (⟨2, ![1, n]⟩ : Shape).Broadcasts ⟨2, ![256, n]⟩)
    (ck : ℕ → EReal) (hc : ∀ j : Fin 2048, kr (ix2 0 j) = ck j.val) (hn : o + n ≤ 2048) (r : Fin 256) (k : Fin n) :
    broadcastTo ⟨2, ![256, n]⟩ (extractStridedSlice ⟨2, ![1, n]⟩ ![0, o] kr h) hb (ix2 r k) = ck (o + k.val) := by
  have hk := k.isLt
  refine (broadcastTo_1b_ab_apply _ hb r k).trans ((extractStridedSlice_apply _ kr h (ix2 0 k) (ix2 0 ⟨o + k.val, by omega⟩) fun d => ?_).trans (hc _))
  match d with
  | ⟨0, _⟩ => rfl
  | ⟨1, _⟩ => rfl

/-- A query's forgetting, of the tile from query `n` on. -/
theorem col_apply (n : ℕ) (cc : FVec Ideal S2048x1 .f32) (h : S2048x1.Slices ![n, 0] S256x1) (hn : n + 256 ≤ 2048) (r : Fin 256) :
    extractStridedSlice S256x1 ![n, 0] cc h (ix2 r 0) = cc (ix2 ⟨n + r.val, by omega⟩ 0) :=
  extractStridedSlice_apply _ cc h (ix2 r 0) (ix2 ⟨n + r.val, by omega⟩ 0) fun d => match d with
    | ⟨0, _⟩ => rfl
    | ⟨1, _⟩ => rfl

/-- The tile's own scores. -/
abbrev own (n : ℕ) (h : S1x2048.Slices ![0, n] S1x256) (q kd : Vec Ideal S256x128 .bf16) (kr : FVec Ideal S1x2048 .f32) : FVec Ideal S256x256 .f32 :=
  select k0_pay20
    (subf (matmul (φ₁ := .bf16) (φ₂ := .bf16) (DotDims.transposedRhs 256 128 256) none q kd (constant S256x256 .f32 0x00000000#32))
      (broadcastTo S256x256 (extractStridedSlice S1x256 ![0, n] kr h) broadcasts_S1x256_S256x256))
    (broadcast S256x256 (Named.named (F := Ideal) κ "masked" 0xF149F2CA#32))

theorem own_apply (n : ℕ) (h : S1x2048.Slices ![0, n] S1x256) (q kd : Vec Ideal S256x128 .bf16) (kr : FVec Ideal S1x2048 .f32)
    (key : ℕ → Fin 128 → EReal) (ck : ℕ → EReal) (hk : ∀ a b, kd (ix2 a b) = key (n + a.val) b) (hc : ∀ j : Fin 2048, kr (ix2 0 j) = ck j.val)
    (hn : n + 256 ≤ 2048) (r k : Fin 256) :
    own n h q kd kr (ix2 r k) = score (fun b => q (ix2 r b)) key ck (n + r.val) (n + k.val) := by
  have hm : k0_pay20 (ix2 r k) = IntOp.cmpi .sge (BitVec.ofNat 32 r.val) (BitVec.ofNat 32 k.val) :=
    congrArg₂ (IntOp.cmpi .sge) (iota_single_apply .tc S256x256 32 0 iota_S256x256_d0_w32 (ix2 r k)) (iota_single_apply .tc S256x256 32 1 iota_S256x256_d1_w32 (ix2 r k))
  have hd : matmul (F := Ideal) (φ₁ := .bf16) (φ₂ := .bf16) (DotDims.transposedRhs 256 128 256) none q kd (constant S256x256 .f32 0x00000000#32) (ix2 r k)
      = ∑ b : Fin 128, q (ix2 r b) * key (n + k.val) b := by
    refine (Ideal.matmul_transposedRhs_apply (M := 256) (K := 128) (N := 256) (φ₁ := .bf16) (φ₂ := .bf16) none q kd _ r k).trans ?_
    refine (congrArg (fun a : EReal => a + _) Ideal.ofBits_zero_f32).trans ((zero_add _).trans (Finset.sum_congr rfl fun b _ => by rw [hk]))
  have hr := r.isLt
  have hkk := k.isLt
  show (if k0_pay20 (ix2 r k) = 1#1 then _ else (⊥ : EReal)) = _
  unfold score
  rw [hm]
  by_cases h' : k.val ≤ r.val
  · rw [if_pos ((WordCmp.cmpi_sge_ofNat_eq_one_iff (by omega) (by omega)).mpr h'), if_pos (by omega)]
    exact congrArg₂ (fun x y : EReal => x - y) hd (row_apply 256 n kr h broadcasts_S1x256_S256x256 ck hc hn r k)
  · rw [if_neg (fun e => h' ((WordCmp.cmpi_sge_ofNat_eq_one_iff (by omega) (by omega)).mp e)), if_neg (by omega)]

/-- The scores against the earlier keys. -/
abbrev earlier (n : ℕ) (h : S1x2048.Slices ![0, 0] ⟨2, ![1, n]⟩) (hb : (⟨2, ![1, n]⟩ : Shape).Broadcasts ⟨2, ![256, n]⟩) (q : Vec Ideal S256x128 .bf16)
    (ko : Vec Ideal ⟨2, ![n, 128]⟩ .bf16) (kr : FVec Ideal S1x2048 .f32) : FVec Ideal ⟨2, ![256, n]⟩ .f32 :=
  subf (matmul (φ₁ := .bf16) (φ₂ := .bf16) (DotDims.transposedRhs 256 128 n) none q ko (constant ⟨2, ![256, n]⟩ .f32 0x00000000#32))
    (broadcastTo ⟨2, ![256, n]⟩ (extractStridedSlice ⟨2, ![1, n]⟩ ![0, 0] kr h) hb)

theorem earlier_apply (n : ℕ) (h : S1x2048.Slices ![0, 0] ⟨2, ![1, n]⟩) (hb : (⟨2, ![1, n]⟩ : Shape).Broadcasts ⟨2, ![256, n]⟩) (q : Vec Ideal S256x128 .bf16)
    (ko : Vec Ideal ⟨2, ![n, 128]⟩ .bf16) (kr : FVec Ideal S1x2048 .f32) (key : ℕ → Fin 128 → EReal) (ck : ℕ → EReal)
    (hk : ∀ a b, ko (ix2 a b) = key a.val b) (hc : ∀ j : Fin 2048, kr (ix2 0 j) = ck j.val) (hn : n + 256 ≤ 2048) (r : Fin 256) (k : Fin n) :
    earlier n h hb q ko kr (ix2 r k) = score (fun b => q (ix2 r b)) key ck (n + r.val) k.val := by
  have hd : matmul (F := Ideal) (φ₁ := .bf16) (φ₂ := .bf16) (DotDims.transposedRhs 256 128 n) none q ko (constant ⟨2, ![256, n]⟩ .f32 0x00000000#32) (ix2 r k)
      = ∑ b : Fin 128, q (ix2 r b) * key k.val b := by
    refine (Ideal.matmul_transposedRhs_apply (M := 256) (K := 128) (N := n) (φ₁ := .bf16) (φ₂ := .bf16) none q ko _ r k).trans ?_
    exact (congrArg (fun a : EReal => a + _) Ideal.ofBits_zero_f32).trans ((zero_add _).trans (Finset.sum_congr rfl fun b _ => by rw [hk]))
  unfold score
  rw [if_pos (by omega)]
  exact congrArg₂ (fun x y : EReal => x - y) hd ((row_apply n 0 kr h hb ck hc (by omega) r k).trans (congrArg ck (Nat.zero_add _)))

/-! ## The two tiles -/

/-- A tile's weighted sums, its scores `x` against `t`. -/
abbrev sums (n : ℕ) (hb : S256x1.Broadcasts ⟨2, ![256, n]⟩) (hc : (⟨3, ![1, n, 256]⟩ : Shape).ShapeCasts ⟨2, ![n, 256]⟩)
    (x : FVec Ideal ⟨2, ![256, n]⟩ .f32) (t : FVec Ideal S256x1 .f32) (w : Vec Ideal ⟨3, ![1, n, 256]⟩ .bf16) : FVec Ideal S256x256 .f32 :=
  matmul (DotDims.plain 256 n 256) none (truncf .bf16 (exp2 (subf x (broadcastTo ⟨2, ![256, n]⟩ t hb))) bitsLt_bf16_f32)
    (shapeCast ⟨2, ![n, 256]⟩ w hc : FVec Ideal ⟨2, ![n, 256]⟩ .bf16) (constant S256x256 .f32 0x00000000#32)

/-- A tile's greatest scores. -/
abbrev tops (n : ℕ) (hr : (⟨2, ![256, n]⟩ : Shape).Reduces [1] S256) (x : FVec Ideal ⟨2, ![256, n]⟩ .f32) : FVec Ideal S256x1 .f32 :=
  shapeCast S256x1 (multiReduction .maximumf [1] S256 x 0xFF800000#32 hr (.inl rfl) rfl) shapeCasts_S256_S256x1

/-- The first tile, with no earlier keys. -/
abbrev first (h : S1x2048.Slices ![0, 0] S1x256) (h' : S2048x1.Slices ![0, 0] S256x1) (q kd : Vec Ideal S256x128 .bf16) (kr : FVec Ideal S1x2048 .f32)
    (cc : FVec Ideal S2048x1 .f32) (vd : Vec Ideal S1x256x256 .bf16) (z : Vec Ideal S256x128 .bf16) : FVec Ideal S256x128 .bf16 :=
  let d : FVec Ideal S256x256 .f32 := own 0 h q kd kr
  let c : FVec Ideal S256x1 .f32 := extractStridedSlice S256x1 ![0, 0] cc h'
  Attn.gated (sums 256 broadcasts_S256x1_S256x256 shapeCasts_S1x256x256_S256x256 d (subf (addf (tops 256 reduces_S256x256_S256 d) c) c) vd) z

theorem first_apply (h : S1x2048.Slices ![0, 0] S1x256) (h' : S2048x1.Slices ![0, 0] S256x1) (q kd : Vec Ideal S256x128 .bf16) (kr : FVec Ideal S1x2048 .f32)
    (cc : FVec Ideal S2048x1 .f32) (vd : Vec Ideal S1x256x256 .bf16) (z : Vec Ideal S256x128 .bf16)
    (key : ℕ → Fin 128 → EReal) (u : ℕ → Fin 256 → EReal) (ck : ℕ → EReal) (hk : ∀ a b, kd (ix2 a b) = key a.val b) (hc : ∀ j : Fin 2048, kr (ix2 0 j) = ck j.val)
    (hu : ∀ a b, vd (ix3 0 a b) = u a.val b) (h₁ : ∀ j, u j ⟨128, by omega⟩ = 1) (r : Fin 256) (e : Fin 128) :
    first h h' q kd kr cc vd z (ix2 r e)
      = Softmax.mean (fun j => score (fun b => q (ix2 r b)) key ck r.val j + cc (ix2 ⟨r.val, by omega⟩ 0)) (fun j => u j ⟨e.val, by omega⟩) 256 * z (ix2 r e) := by
  have hs : ∀ k : Fin 256, own 0 h q kd kr (ix2 r k) = score (fun b => q (ix2 r b)) key ck r.val k.val := fun k => by
    refine (own_apply 0 h q kd kr key ck (fun a b => (hk a b).trans (congrArg (fun j => key j b) (Nat.zero_add _).symm)) hc (by norm_num) r k).trans ?_
    rw [Nat.zero_add, Nat.zero_add]
  have ht := Attn.top_apply 256 (own 0 h q kd kr) reduces_S256x256_S256 _ r hs
  have hq : extractStridedSlice S256x1 ![0, 0] cc h' (ix2 r 0) = cc (ix2 ⟨r.val, by omega⟩ 0) :=
    (col_apply 0 cc h' (by norm_num) r).trans (congrArg (fun k => cc (ix2 k 0)) (Fin.ext (Nat.zero_add _)))
  have hx := fun (t : FVec Ideal S256x1 .f32) b => Attn.sum_apply 256 (own 0 h q kd kr) t broadcasts_S256x1_S256x256 vd shapeCasts_S1x256x256_S256x256 _ u r hs hu b
  refine (Attn.gated_apply _ z r e).trans (congrArg (fun x : EReal => x * z (ix2 r e)) ?_)
  refine (congrArg₂ (fun x y : EReal => x * Ideal.div 1 y) (hx _ _) (hx _ _)).trans ?_
  simp only [h₁, mul_one]
  refine Eq.trans ?_ (Softmax.meanAt_there (score (fun b => q (ix2 r b)) key ck r.val) (fun j => u j ⟨e.val, by omega⟩) 256 (cc (ix2 ⟨r.val, by omega⟩ 0)))
  exact congrArg (fun m => Softmax.meanAt (score (fun b => q (ix2 r b)) key ck r.val) (fun j => u j ⟨e.val, by omega⟩) m 256)
    (congrArg₂ Softmax.there ht hq)

/-- A tile with `n` earlier keys. -/
abbrev later (n : ℕ) (hr : (⟨2, ![256, n]⟩ : Shape).Reduces [1] S256) (hb : S256x1.Broadcasts ⟨2, ![256, n]⟩) (hc : (⟨3, ![1, n, 256]⟩ : Shape).ShapeCasts ⟨2, ![n, 256]⟩)
    (h : S1x2048.Slices ![0, n] S1x256) (ho : S1x2048.Slices ![0, 0] ⟨2, ![1, n]⟩) (hk : (⟨2, ![1, n]⟩ : Shape).Broadcasts ⟨2, ![256, n]⟩) (h' : S2048x1.Slices ![n, 0] S256x1)
    (q kd : Vec Ideal S256x128 .bf16) (ko : Vec Ideal ⟨2, ![n, 128]⟩ .bf16) (kr : FVec Ideal S1x2048 .f32) (cc : FVec Ideal S2048x1 .f32)
    (vd : Vec Ideal S1x256x256 .bf16) (vo : Vec Ideal ⟨3, ![1, n, 256]⟩ .bf16) (z : Vec Ideal S256x128 .bf16) : FVec Ideal S256x128 .bf16 :=
  let d : FVec Ideal S256x256 .f32 := own n h q kd kr
  let o : FVec Ideal ⟨2, ![256, n]⟩ .f32 := earlier n ho hk q ko kr
  let c : FVec Ideal S256x1 .f32 := extractStridedSlice S256x1 ![n, 0] cc h'
  let t : FVec Ideal S256x1 .f32 := subf (addf (maximumf (tops 256 reduces_S256x256_S256 d) (tops n hr o)) c) c
  Attn.gated (addf (sums 256 broadcasts_S256x1_S256x256 shapeCasts_S1x256x256_S256x256 d t vd) (sums n hb hc o t vo)) z

theorem later_apply (n : ℕ) (hr : (⟨2, ![256, n]⟩ : Shape).Reduces [1] S256) (hb : S256x1.Broadcasts ⟨2, ![256, n]⟩) (hc : (⟨3, ![1, n, 256]⟩ : Shape).ShapeCasts ⟨2, ![n, 256]⟩)
    (h : S1x2048.Slices ![0, n] S1x256) (ho : S1x2048.Slices ![0, 0] ⟨2, ![1, n]⟩) (hk : (⟨2, ![1, n]⟩ : Shape).Broadcasts ⟨2, ![256, n]⟩) (h' : S2048x1.Slices ![n, 0] S256x1)
    (q kd : Vec Ideal S256x128 .bf16) (ko : Vec Ideal ⟨2, ![n, 128]⟩ .bf16) (kr : FVec Ideal S1x2048 .f32) (cc : FVec Ideal S2048x1 .f32)
    (vd : Vec Ideal S1x256x256 .bf16) (vo : Vec Ideal ⟨3, ![1, n, 256]⟩ .bf16) (z : Vec Ideal S256x128 .bf16) (hn : n + 256 ≤ 2048)
    (key : ℕ → Fin 128 → EReal) (u : ℕ → Fin 256 → EReal) (ck : ℕ → EReal) (hkd : ∀ a b, kd (ix2 a b) = key (n + a.val) b) (hko : ∀ a b, ko (ix2 a b) = key a.val b)
    (hck : ∀ j : Fin 2048, kr (ix2 0 j) = ck j.val)
    (hvd : ∀ a b, vd (ix3 0 a b) = u (n + a.val) b) (hvo : ∀ (a : Fin n) b, vo (ix3 0 a b) = u a.val b) (h₁ : ∀ j, u j ⟨128, by omega⟩ = 1)
    (r : Fin 256) (e : Fin 128) :
    later n hr hb hc h ho hk h' q kd ko kr cc vd vo z (ix2 r e)
      = Softmax.mean (fun j => score (fun b => q (ix2 r b)) key ck (n + r.val) j + cc (ix2 ⟨n + r.val, by omega⟩ 0)) (fun j => u j ⟨e.val, by omega⟩) (n + 256)
        * z (ix2 r e) := by
  have hd := own_apply n h q kd kr key ck hkd hck hn r
  have hp := earlier_apply n ho hk q ko kr key ck hko hck hn r
  have hq := col_apply n cc h' hn r
  refine (Attn.gated_apply _ z r e).trans (congrArg (fun x : EReal => x * z (ix2 r e)) ?_)
  have htd := Attn.top_apply 256 _ reduces_S256x256_S256 (fun k => score (fun b => q (ix2 r b)) key ck (n + r.val) (n + k)) r hd
  have hto := Attn.top_apply n _ hr (score (fun b => q (ix2 r b)) key ck (n + r.val)) r hp
  have hx : ∀ (t : FVec Ideal S256x1 .f32) (b : Fin 256), addf
      (sums 256 broadcasts_S256x1_S256x256 shapeCasts_S1x256x256_S256x256 (own n h q kd kr) t vd) (sums n hb hc (earlier n ho hk q ko kr) t vo) (ix2 r b)
      = (∑ k ∈ Finset.range 256, Softmax.weight (score (fun b => q (ix2 r b)) key ck (n + r.val)) (t (ix2 r 0)) (n + k) * u (n + k) b)
        + ∑ k ∈ Finset.range n, Softmax.weight (score (fun b => q (ix2 r b)) key ck (n + r.val)) (t (ix2 r 0)) k * u k b := fun t b =>
    congrArg₂ (fun x y : EReal => x + y)
      (Attn.sum_apply 256 (own n h q kd kr) t broadcasts_S256x1_S256x256 vd shapeCasts_S1x256x256_S256x256
        (fun k => score (fun b => q (ix2 r b)) key ck (n + r.val) (n + k)) (fun k => u (n + k)) r hd hvd b)
      (Attn.sum_apply n _ t hb vo hc _ u r hp hvo b)
  refine (congrArg₂ (fun x y : EReal => x * Ideal.div 1 y) (hx _ _) (hx _ _)).trans ?_
  simp only [h₁, mul_one]
  exact Softmax.meanAt_add (score (fun b => q (ix2 r b)) key ck (n + r.val)) (fun j => u j ⟨e.val, by omega⟩) n 256 _ _
    (congrArg₂ Softmax.there (congrArg₂ max htd hto) hq)

end Cert.Proof.Fox

end
-- ==== Proof.FoxBody.lean ====
/- One grid point of the attention with forget gates: the block it leaves, every cell of it the gated mean of its head's
   values weighted by the scores of its query, moved by the gates. -/
module

public import proofs.«01_k».proof.Proof.FoxTile
public import proofs.«01_k».proof.Proof.AttnBody

@[expose] public section

set_option maxRecDepth 16384

noncomputable section

namespace Cert.Proof.Fox

open Idealize.ShloMosaic Idealize.ShloMosaic.TcCoe Idealize.ShloMosaic.ValueIdx Idealize.ShloMosaic.Tactic
open Cert.Kernel8Ideal Cert.Kernel8Ideal.Gen

/-! ## The gates of a head -/

/-- The lane of a group's head `o`. -/
def lane (g o : Fin 4) : Fin 128 := ⟨64 + (g.val * 4 + o.val), by omega⟩

/-- The kernel's number for it. -/
abbrev laneOf (i : grid0.Coords) (o : ℕ) : BitVec 32 :=
  Scalar.addi 64#32 (Scalar.addi (Scalar.muli (BitVec.ofNat 32 (i 1).val) 4#32) (BitVec.ofNat 32 o))

theorem laneOf_eq (i : grid0.Coords) (g o : Fin 4) (hg : (i 1).val = g.val) : laneOf i o.val = BitVec.ofNat 32 (lane g o).val := by
  unfold laneOf
  rw [hg]
  clear hg
  revert g o
  decide

theorem laneOf_toNat (i : grid0.Coords) (g o : Fin 4) (hg : (i 1).val = g.val) : (Scalar.indexCast (laneOf i o.val)).toNat = (lane g o).val := by
  unfold laneOf
  rw [hg]
  clear hg
  revert g o
  decide

/-- A head's column of the queries' forgetting. -/
abbrev colOf (i : grid0.Coords) (o : ℕ) (x4 : Vec Ideal S2048x128 .f32) (h : ∀ a, (![0, 0] : Fin 2 → ℕ) a + (![2048, 128] : Fin 2 → ℕ) a ≤ S2048x128.size a) : FVec Ideal S2048x1 .f32 :=
  shapeCast S2048x1 (multiReduction (F := Ideal) (φ := .f32) .add [1] S2048
    (select (cmpi .eq (iota .tc S2048x128 32 [1] iota_S2048x128_d1_w32) (broadcast S2048x128 (laneOf i o)))
      (View.ld (Val := Elt Ideal) (e' := .f32) x4 (Rect.unit (s := S2048x128) ![0, 0] ![2048, 128] h)) (broadcast S2048x128 (FloatOps.ofBits (F := Ideal) .f32 0x00000000#32)))
    0x00000000#32 reduces_S2048x128_S2048 (.inl rfl) rfl) shapeCasts_S2048_S2048x1

theorem col_read (i : grid0.Coords) (g o : Fin 4) (hg : (i 1).val = g.val) (x4 : Vec Ideal S2048x128 .f32) (h) (r : Fin 2048) :
    colOf i o.val x4 h (ix2 r 0) = x4 (ix2 r (lane g o)) := by
  refine (shapeCast_apply _ _ (ix2 r 0) (ix1 r) (by rw [Shape.rowMajor_val_one, Shape.rowMajor_val_two]; show r.val = r.val * 1 + 0; omega)).trans ?_
  refine (Ideal.multiReduction_add_single _ _ reduces_S2048x128_S2048 (.inl rfl) rfl (ix1 r)).trans ?_
  refine (Finset.sum_congr rfl fun k _ => ?_).trans (Finset.sum_ite_eq' Finset.univ (lane g o) fun k => x4 (ix2 r k)) |>.trans (if_pos (Finset.mem_univ _))
  have e : reduces_S2048x128_S2048.lift (ix1 r) k = ix2 r k := by funext d; fin_cases d <;> rfl
  refine (congrArg _ e).trans ?_
  have hk : k.val < 128 := k.isLt
  have hl := (lane g o).isLt
  have hm : cmpi .eq (iota .tc S2048x128 32 [1] iota_S2048x128_d1_w32) (broadcast S2048x128 (laneOf i o.val)) (ix2 r k)
      = IntOp.cmpi .eq (BitVec.ofNat 32 k.val) (BitVec.ofNat 32 (lane g o).val) :=
    congrArg₂ (IntOp.cmpi .eq) (iota_single_apply .tc S2048x128 32 1 iota_S2048x128_d1_w32 (ix2 r k)) (laneOf_eq i g o hg)
  have hx : View.ld (Val := Elt Ideal) (e' := .f32) x4 (Rect.unit (s := S2048x128) ![0, 0] ![2048, 128] h) (ix2 r k) = x4 (ix2 r k) :=
    congrArg x4 (funext fun d => Fin.ext (match d with
      | ⟨0, _⟩ => by show 0 + 1 * r.val = r.val; omega
      | ⟨1, _⟩ => by show 0 + 1 * k.val = k.val; omega))
  show (if cmpi .eq (iota .tc S2048x128 32 [1] iota_S2048x128_d1_w32) (broadcast S2048x128 (laneOf i o.val)) (ix2 r k) = 1#1
    then View.ld (Val := Elt Ideal) (e' := .f32) x4 (Rect.unit (s := S2048x128) ![0, 0] ![2048, 128] h) (ix2 r k) else Ideal.ofBits .f32 0x00000000#32) = _
  rw [hm, hx, Ideal.ofBits_zero_f32]
  by_cases hc : k = lane g o
  · rw [if_pos ((WordCmp.cmpi_eq_ofNat_eq_one_iff (by omega) (by omega)).mpr (congrArg Fin.val hc)), if_pos hc]
  · rw [if_neg (fun e => hc (Fin.ext ((WordCmp.cmpi_eq_ofNat_eq_one_iff (by omega) (by omega)).mp e))), if_neg hc]

/-- A head's row of the keys' forgetting. -/
abbrev rowOf (w : ℕ) (x5 : Vec Ideal S1x128x2048 .f32) (h : ∀ a, (![0, w, 0] : Fin 3 → ℕ) a + (![1, 1, 2048] : Fin 3 → ℕ) a ≤ S1x128x2048.size a) : FVec Ideal S1x2048 .f32 :=
  shapeCast S1x2048 (View.ld (Val := Elt Ideal) (e' := .f32) x5 (Rect.unit (s := S1x128x2048) ![0, w, 0] ![1, 1, 2048] h)) shapeCasts_S1x1x2048_S1x2048

theorem row_read (w : ℕ) (g o : Fin 4) (hw : w = (lane g o).val) (x5 : Vec Ideal S1x128x2048 .f32) (h) (j : Fin 2048) :
    rowOf w x5 h (ix2 0 j) = x5 (ix3 0 (lane g o) j) := by
  refine (shapeCast_apply _ _ (ix2 0 j) (ix3 (n0 := 1) (n1 := 1) (n2 := 2048) 0 0 j) (by
    rw [Shape.rowMajor_val_two, Shape.rowMajor_val_three]; show (0 * 1 + 0) * 2048 + j.val = 0 * 2048 + j.val; omega)).trans ?_
  refine congrArg x5 (funext fun d => Fin.ext ?_)
  match d with
  | ⟨0, _⟩ => rfl
  | ⟨1, _⟩ => show w + 1 * 0 = (lane g o).val; omega
  | ⟨2, _⟩ => show 0 + 1 * j.val = j.val; omega

/-- Head `h`'s key `j`. -/
def keyAt (x1 : Vec Ideal S2048x512 .bf16) (h : Fin 4) (j : ℕ) (b : Fin 128) : EReal :=
  x1 (ix2 ⟨j % 2048, Nat.mod_lt _ (by norm_num)⟩ ⟨128 * h.val + b.val, by omega⟩)

/-- What head `h` forgets of key `j`. -/
def lossAt (x5 : Vec Ideal S1x128x2048 .f32) (g h : Fin 4) (j : ℕ) : EReal := x5 (ix3 0 (lane g h) ⟨j % 2048, Nat.mod_lt _ (by norm_num)⟩)

/-- Rows of a head's keys. -/
theorem keys_tile (v : View sig .tc .vmem S2048x512 .bf16) (f : v.ty.Contents (Elt Ideal)) (x1 : Vec Ideal S2048x512 .bf16) (hf : v.read (Elt Ideal) f = x1)
    (o : ℕ) (ho : o < 4) (n m : ℕ)
    (i : ∀ a, (![0, 128 * o] : Fin 2 → ℕ) a + (![2048, 128] : Fin 2 → ℕ) a ≤ S2048x512.size a)
    (j : ∀ a, (![n, 0] : Fin 2 → ℕ) a + (![m, 128] : Fin 2 → ℕ) a ≤ S2048x128.size a)
    (hw : ∀ a, (Rect.unit (s := S2048x512) ![0, 128 * o] ![2048, 128] i).stride a = 1) (a : Fin m) (b : Fin 128) :
    View.readAt (Elt Ideal) v ((Rect.unit (s := S2048x512) ![0, 128 * o] ![2048, 128] i).withinL (Rect.unit (s := S2048x128) ![n, 0] ![m, 128] j).toLoadRect hw) f
      (ix2 (n0 := m) (n1 := 128) a b) = keyAt x1 ⟨o, ho⟩ (n + a.val) b := by
  have hj : n + m ≤ 2048 := j 0
  have ha := a.isLt
  refine (congrFun hf _).trans (congrArg x1 (funext fun d => Fin.ext ?_))
  match d with
  | ⟨0, _⟩ => show 0 + n + 1 * a.val = (n + a.val) % 2048; omega
  | ⟨1, _⟩ => show 128 * o + 0 + 1 * b.val = 128 * o + b.val; omega

/-! ## The block -/

/-- The block: row `r`, column `128 h + e` is head `h`'s column `e` for query `r`, gated. -/
def blk (g : Fin 4) (x0 x1 x2 x3 : Vec Ideal S2048x512 .bf16) (x4 : Vec Ideal S2048x128 .f32) (x5 : Vec Ideal S1x128x2048 .f32)
    (r : Fin 2048) (h : Fin 4) (e : Fin 128) : EReal :=
  Softmax.mean (fun j => score (fun b => x0 (ix2 r ⟨128 * h.val + b.val, by omega⟩)) (keyAt x1 h) (lossAt x5 g h) r.val j + x4 (ix2 r (lane g h)))
    (fun j => Attn.valAt x2 h j ⟨e.val, by omega⟩) 2048 * x3 (ix2 r ⟨128 * h.val + e.val, by omega⟩)

/-- A block's row and head. -/
def blkAt (g : Fin 4) (x0 x1 x2 x3 : Vec Ideal S2048x512 .bf16) (x4 : Vec Ideal S2048x128 .f32) (x5 : Vec Ideal S1x128x2048 .f32) (y : S2048x512.Idx) : EReal :=
  blk g x0 x1 x2 x3 x4 x5 (y 0) ⟨(y 1).val / 128, by have : (y 1).val < 512 := (y 1).isLt; omega⟩ ⟨(y 1).val % 128, Nat.mod_lt _ (by norm_num)⟩

/-- The keys past a query's position do not count. -/
theorem upto (q : Fin 128 → EReal) (key : ℕ → Fin 128 → EReal) (ck v : ℕ → EReal) (c : EReal) (pos n : ℕ) (hp : pos < n) (hn : n ≤ 2048) :
    Softmax.mean (fun j => score q key ck pos j + c) v n = Softmax.mean (fun j => score q key ck pos j + c) v 2048 := by
  obtain ⟨m, hm⟩ := Nat.exists_eq_add_of_le hn
  rw [hm]
  refine (Softmax.mean_stop _ v n m fun j hj => ?_).symm
  have e : score q key ck pos j = ⊥ := if_neg (by omega)
  show score q key ck pos j + c = ⊥
  rw [e, EReal.bot_add]

section
variable (g : Fin 4) (x0 x1 x2 x3 : Vec Ideal S2048x512 .bf16) (x4 : Vec Ideal S2048x128 .f32) (x5 : Vec Ideal S1x128x2048 .f32)

/-- A tile's cell in the block. -/
theorem landed (o : ℕ) (ho : o < 4) (n : ℕ) (hn : n + 256 ≤ 2048)
    (l : ∀ a, (![n, 128 * o] : Fin 2 → ℕ) a + (![256, 128] : Fin 2 → ℕ) a ≤ S2048x512.size a) (r : Fin 256) (e : Fin 128) :
    blkAt g x0 x1 x2 x3 x4 x5 ((Rect.unit (s := S2048x512) ![n, 128 * o] ![256, 128] l).emb (ix2 (n0 := 256) (n1 := 128) r e))
      = blk g x0 x1 x2 x3 x4 x5 ⟨n + r.val, by omega⟩ ⟨o, ho⟩ e := by
  have he := e.isLt
  have h₀ : (⟨n + 1 * r.val, by omega⟩ : Fin 2048) = ⟨n + r.val, by omega⟩ := Fin.ext (by show n + 1 * r.val = n + r.val; omega)
  have h₁ : (⟨(128 * o + 1 * e.val) / 128, by omega⟩ : Fin 4) = ⟨o, ho⟩ := Fin.ext (by show (128 * o + 1 * e.val) / 128 = o; omega)
  have h₂ : (⟨(128 * o + 1 * e.val) % 128, Nat.mod_lt _ (by norm_num)⟩ : Fin 128) = e := Fin.ext (by show (128 * o + 1 * e.val) % 128 = e.val; omega)
  show blk g x0 x1 x2 x3 x4 x5 (⟨n + 1 * r.val, by omega⟩ : Fin 2048) ⟨(128 * o + 1 * e.val) / 128, by omega⟩ ⟨(128 * o + 1 * e.val) % 128, Nat.mod_lt _ (by norm_num)⟩ = _
  rw [h₀, h₁, h₂]

section
variable (c : grid0.Coords) (hg : (c 1).val = g.val) (v3 : View sig .tc .vmem S2048x512 .bf16) (f : v3.ty.Contents (Elt Ideal)) (hf : v3.read (Elt Ideal) f = x1)
    (v9 : View sig .tc .vmem S4x2048x256 .bf16) (o : ℕ) (ho : o < 4)
    (i : ∀ a, (![0, 128 * o] : Fin 2 → ℕ) a + (![2048, 128] : Fin 2 → ℕ) a ≤ S2048x512.size a)
    (hw : ∀ a, (Rect.unit (s := S2048x512) ![0, 128 * o] ![2048, 128] i).stride a = 1)
    (h4 : ∀ a, (![0, 0] : Fin 2 → ℕ) a + (![2048, 128] : Fin 2 → ℕ) a ≤ S2048x128.size a)
    (h5 : ∀ a, (![0, (Scalar.indexCast (laneOf c o)).toNat, 0] : Fin 3 → ℕ) a + (![1, 1, 2048] : Fin 3 → ℕ) a ≤ S1x128x2048.size a)

include hg hf ho

theorem tile_first (hs : S1x2048.Slices ![0, 0] S1x256) (hs' : S2048x1.Slices ![0, 0] S256x1)
    (jd : ∀ a, (![0, 0] : Fin 2 → ℕ) a + (![256, 128] : Fin 2 → ℕ) a ≤ S2048x128.size a)
    (kd : ∀ a, (![o, 0, 0] : Fin 3 → ℕ) a + (![1, 256, 256] : Fin 3 → ℕ) a ≤ S4x2048x256.size a)
    (l : ∀ a, (![0, 128 * o] : Fin 2 → ℕ) a + (![256, 128] : Fin 2 → ℕ) a ≤ S2048x512.size a) (p : S256x128.Idx) :
    first hs hs' (View.ld (Val := Elt Ideal) (e' := .bf16) x0 (Rect.unit (s := S2048x512) ![0, 128 * o] ![256, 128] l))
      (View.readAt (Elt Ideal) v3 ((Rect.unit (s := S2048x512) ![0, 128 * o] ![2048, 128] i).withinL (Rect.unit (s := S2048x128) ![0, 0] ![256, 128] jd).toLoadRect hw) f)
      (rowOf (Scalar.indexCast (laneOf c o)).toNat x5 h5) (colOf c o x4 h4)
      (v9.readCov (Val := Elt Ideal) (Attn.valPieces x2) (Rect.unit (s := S4x2048x256) ![o, 0, 0] ![1, 256, 256] kd).toLoadRect)
      (View.ld (Val := Elt Ideal) (e' := .bf16) x3 (Rect.unit (s := S2048x512) ![0, 128 * o] ![256, 128] l)) p
      = blkAt g x0 x1 x2 x3 x4 x5 ((Rect.unit (s := S2048x512) ![0, 128 * o] ![256, 128] l).emb p) := by
  obtain ⟨r, e, rfl⟩ : ∃ r e, p = ix2 r e := ⟨_, _, eq_ix2 p⟩
  have hr := r.isLt
  rw [landed g x0 x1 x2 x3 x4 x5 o ho 0 (by norm_num) l r e]
  refine (first_apply hs hs' _ _ _ _ _ _ (keyAt x1 ⟨o, ho⟩) (Attn.valAt x2 ⟨o, ho⟩) (lossAt x5 g ⟨o, ho⟩)
    (fun a b => (keys_tile v3 f x1 hf o ho 0 256 i jd hw a b).trans (congrArg (fun k => keyAt x1 ⟨o, ho⟩ k b) (Nat.zero_add _)))
    (fun j => (row_read _ g ⟨o, ho⟩ (laneOf_toNat c g ⟨o, ho⟩ hg) x5 h5 j).trans
      (congrArg (fun k => x5 (ix3 0 (lane g ⟨o, ho⟩) k)) (Fin.ext (Nat.mod_eq_of_lt j.isLt).symm)))
    (fun a b => (Attn.vals_tile x2 v9 o ho 0 256 kd a b).trans (congrArg (fun k => Attn.valAt x2 ⟨o, ho⟩ k b) (Nat.zero_add _)))
    (Attn.valAt_one x2 _) r e).trans ?_
  rw [col_read c g ⟨o, ho⟩ hg x4 h4 ⟨r.val, by omega⟩]
  refine (congrArg₂ (fun (m c : EReal) => m * c) (upto _ _ _ _ _ _ 256 r.isLt (by norm_num)) (Attn.window x3 0 (128 * o) l r e (by omega) (by omega))).trans ?_
  unfold blk
  simp only [Nat.zero_add]
  refine congrArg (fun q => Softmax.mean (fun j => score q (keyAt x1 ⟨o, ho⟩) (lossAt x5 g ⟨o, ho⟩) r.val j + x4 (ix2 ⟨r.val, by omega⟩ (lane g ⟨o, ho⟩)))
    (fun j => Attn.valAt x2 ⟨o, ho⟩ j ⟨e.val, by omega⟩) 2048 * _) (funext fun b => ?_)
  refine (Attn.window x0 0 (128 * o) l r b (by omega) (by omega)).trans ?_
  simp only [Nat.zero_add]

theorem tile_later (n : ℕ) (hn : n + 256 ≤ 2048)
    (hr : (⟨2, ![256, n]⟩ : Shape).Reduces [1] S256) (hb : S256x1.Broadcasts ⟨2, ![256, n]⟩) (hc : (⟨3, ![1, n, 256]⟩ : Shape).ShapeCasts ⟨2, ![n, 256]⟩)
    (hs : S1x2048.Slices ![0, n] S1x256) (hso : S1x2048.Slices ![0, 0] ⟨2, ![1, n]⟩) (hk : (⟨2, ![1, n]⟩ : Shape).Broadcasts ⟨2, ![256, n]⟩) (hs' : S2048x1.Slices ![n, 0] S256x1)
    (jd : ∀ a, (![n, 0] : Fin 2 → ℕ) a + (![256, 128] : Fin 2 → ℕ) a ≤ S2048x128.size a)
    (jo : ∀ a, (![0, 0] : Fin 2 → ℕ) a + (![n, 128] : Fin 2 → ℕ) a ≤ S2048x128.size a)
    (kd : ∀ a, (![o, n, 0] : Fin 3 → ℕ) a + (![1, 256, 256] : Fin 3 → ℕ) a ≤ S4x2048x256.size a)
    (ko : ∀ a, (![o, 0, 0] : Fin 3 → ℕ) a + (![1, n, 256] : Fin 3 → ℕ) a ≤ S4x2048x256.size a)
    (l : ∀ a, (![n, 128 * o] : Fin 2 → ℕ) a + (![256, 128] : Fin 2 → ℕ) a ≤ S2048x512.size a) (p : S256x128.Idx) :
    later n hr hb hc hs hso hk hs' (View.ld (Val := Elt Ideal) (e' := .bf16) x0 (Rect.unit (s := S2048x512) ![n, 128 * o] ![256, 128] l))
      (View.readAt (Elt Ideal) v3 ((Rect.unit (s := S2048x512) ![0, 128 * o] ![2048, 128] i).withinL (Rect.unit (s := S2048x128) ![n, 0] ![256, 128] jd).toLoadRect hw) f)
      (View.readAt (Elt Ideal) v3 ((Rect.unit (s := S2048x512) ![0, 128 * o] ![2048, 128] i).withinL (Rect.unit (s := S2048x128) ![0, 0] ![n, 128] jo).toLoadRect hw) f)
      (rowOf (Scalar.indexCast (laneOf c o)).toNat x5 h5) (colOf c o x4 h4)
      (v9.readCov (Val := Elt Ideal) (Attn.valPieces x2) (Rect.unit (s := S4x2048x256) ![o, n, 0] ![1, 256, 256] kd).toLoadRect)
      (v9.readCov (Val := Elt Ideal) (Attn.valPieces x2) (Rect.unit (s := S4x2048x256) ![o, 0, 0] ![1, n, 256] ko).toLoadRect)
      (View.ld (Val := Elt Ideal) (e' := .bf16) x3 (Rect.unit (s := S2048x512) ![n, 128 * o] ![256, 128] l)) p
      = blkAt g x0 x1 x2 x3 x4 x5 ((Rect.unit (s := S2048x512) ![n, 128 * o] ![256, 128] l).emb p) := by
  obtain ⟨r, e, rfl⟩ : ∃ r e, p = ix2 r e := ⟨_, _, eq_ix2 p⟩
  have hr' := r.isLt
  rw [landed g x0 x1 x2 x3 x4 x5 o ho n hn l r e]
  refine (later_apply n hr hb hc hs hso hk hs' _ _ _ _ _ _ _ _ hn (keyAt x1 ⟨o, ho⟩) (Attn.valAt x2 ⟨o, ho⟩) (lossAt x5 g ⟨o, ho⟩)
    (fun a b => keys_tile v3 f x1 hf o ho n 256 i jd hw a b)
    (fun a b => (keys_tile v3 f x1 hf o ho 0 n i jo hw a b).trans (congrArg (fun k => keyAt x1 ⟨o, ho⟩ k b) (Nat.zero_add _)))
    (fun j => (row_read _ g ⟨o, ho⟩ (laneOf_toNat c g ⟨o, ho⟩ hg) x5 h5 j).trans
      (congrArg (fun k => x5 (ix3 0 (lane g ⟨o, ho⟩) k)) (Fin.ext (Nat.mod_eq_of_lt j.isLt).symm)))
    (fun a b => Attn.vals_tile x2 v9 o ho n 256 kd a b)
    (fun a b => (Attn.vals_tile x2 v9 o ho 0 n ko a b).trans (congrArg (fun k => Attn.valAt x2 ⟨o, ho⟩ k b) (Nat.zero_add _)))
    (Attn.valAt_one x2 _) r e).trans ?_
  rw [col_read c g ⟨o, ho⟩ hg x4 h4 ⟨n + r.val, by omega⟩]
  refine (congrArg₂ (fun (m c : EReal) => m * c) (upto _ _ _ _ _ _ (n + 256) (by omega) hn) (Attn.window x3 n (128 * o) l r e (by omega) (by omega))).trans ?_
  unfold blk
  exact congrArg (fun q => Softmax.mean (fun j => score q (keyAt x1 ⟨o, ho⟩) (lossAt x5 g ⟨o, ho⟩) (n + r.val) j + x4 (ix2 ⟨n + r.val, by omega⟩ (lane g ⟨o, ho⟩)))
    (fun j => Attn.valAt x2 ⟨o, ho⟩ j ⟨e.val, by omega⟩) 2048 * _) (funext fun b => Attn.window x0 n (128 * o) l r b (by omega) (by omega))

end

end

section
variable (d : Dev nD) (i : grid0.Coords) (a2 : Memref sig .tc .vmem S2048x512 .bf16) (h2 : a2.IsWhole) (a3 : Memref sig .tc .vmem S2048x512 .bf16) (h3 : a3.IsWhole)
    (a4 : Memref sig .tc .vmem S2048x512 .bf16) (h4 : a4.IsWhole) (a5 : Memref sig .tc .vmem S2048x512 .bf16) (h5 : a5.IsWhole)
    (a6 : Memref sig .tc .vmem S2048x128 .f32) (h6 : a6.IsWhole) (a7 : Memref sig .tc .vmem S1x128x2048 .f32) (h7 : a7.IsWhole)
    (a8 : Memref sig .tc .vmem S2048x512 .bf16) (h8 : a8.IsWhole) (a9 : Memref sig .tc .vmem S4x2048x256 .bf16) (h9 : a9.IsWhole)
    (x0 x1 x2 x3 : Vec Ideal S2048x512 .bf16) (x4 : Vec Ideal S2048x128 .f32) (x5 : Vec Ideal S1x128x2048 .f32)

set_option maxRecDepth 100000 in
set_option maxHeartbeats 4000000 in
/-- The block a point leaves. -/
theorem out (g : Fin 4) (hg : (i 1).val = g.val) :
    out0_A_6 d i a2 h2 a3 h3 a4 h4 a5 h5 a6 h6 a7 h7 a8 h8 a9 h9 x0 x1 x2 x3 x4 x5 = blkAt g x0 x1 x2 x3 x4 x5 := by
  funext y
  unfold out0_A_6
  rw [View.read_writes_eq_canon _ _ _ (cover0_A_6 d i a2 h2 a3 h3 a4 h4 a5 h5 a6 h6 a7 h7 a8 h8 a9 h9 x0 x1 x2 x3 x4 x5)]
  refine View.canon_apply_of_pieces (blkAt g x0 x1 x2 x3 x4 x5) _ ?_ y (cover0_A_6 d i a2 h2 a3 h3 a4 h4 a5 h5 a6 h6 a7 h7 a8 h8 a9 h9 x0 x1 x2 x3 x4 x5 y)
  unfold kernelRun0_A
  dsimp only
  sl_unfold_words
  simp only [View.readAt_eq_ld, h2.read_unread, h3.read_unread, h4.read_unread, h5.read_unread, h6.read_unread, h7.read_unread]
  simp only [List.forall_mem_cons]
  have hf := h3.read_unread x1
  refine ⟨fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    fun p => ?_,
    List.forall_mem_nil _⟩
  · exact tile_first g x0 x1 x2 x3 x4 x5 i hg a3.view _ hf a9.view 3 (by norm_num) _ _ _ _ slices_S1x2048_o0_0_S1x256 slices_S2048x1_o0_0_S256x1 _ _ _ p
  · exact tile_later g x0 x1 x2 x3 x4 x5 i hg a3.view _ hf a9.view 3 (by norm_num) _ _ _ _ 256 (by norm_num) reduces_S256x256_S256 broadcasts_S256x1_S256x256 shapeCasts_S1x256x256_S256x256 slices_S1x2048_o0_256_S1x256 slices_S1x2048_o0_0_S1x256 broadcasts_S1x256_S256x256 slices_S2048x1_o256_0_S256x1 _ _ _ _ _ p
  · exact tile_later g x0 x1 x2 x3 x4 x5 i hg a3.view _ hf a9.view 3 (by norm_num) _ _ _ _ 512 (by norm_num) reduces_S256x512_S256 broadcasts_S256x1_S256x512 shapeCasts_S1x512x256_S512x256 slices_S1x2048_o0_512_S1x256 slices_S1x2048_o0_0_S1x512 broadcasts_S1x512_S256x512 slices_S2048x1_o512_0_S256x1 _ _ _ _ _ p
  · exact tile_later g x0 x1 x2 x3 x4 x5 i hg a3.view _ hf a9.view 3 (by norm_num) _ _ _ _ 768 (by norm_num) reduces_S256x768_S256 broadcasts_S256x1_S256x768 shapeCasts_S1x768x256_S768x256 slices_S1x2048_o0_768_S1x256 slices_S1x2048_o0_0_S1x768 broadcasts_S1x768_S256x768 slices_S2048x1_o768_0_S256x1 _ _ _ _ _ p
  · exact tile_later g x0 x1 x2 x3 x4 x5 i hg a3.view _ hf a9.view 3 (by norm_num) _ _ _ _ 1024 (by norm_num) reduces_S256x1024_S256 broadcasts_S256x1_S256x1024 shapeCasts_S1x1024x256_S1024x256 slices_S1x2048_o0_1024_S1x256 slices_S1x2048_o0_0_S1x1024 broadcasts_S1x1024_S256x1024 slices_S2048x1_o1024_0_S256x1 _ _ _ _ _ p
  · exact tile_later g x0 x1 x2 x3 x4 x5 i hg a3.view _ hf a9.view 3 (by norm_num) _ _ _ _ 1280 (by norm_num) reduces_S256x1280_S256 broadcasts_S256x1_S256x1280 shapeCasts_S1x1280x256_S1280x256 slices_S1x2048_o0_1280_S1x256 slices_S1x2048_o0_0_S1x1280 broadcasts_S1x1280_S256x1280 slices_S2048x1_o1280_0_S256x1 _ _ _ _ _ p
  · exact tile_later g x0 x1 x2 x3 x4 x5 i hg a3.view _ hf a9.view 3 (by norm_num) _ _ _ _ 1536 (by norm_num) reduces_S256x1536_S256 broadcasts_S256x1_S256x1536 shapeCasts_S1x1536x256_S1536x256 slices_S1x2048_o0_1536_S1x256 slices_S1x2048_o0_0_S1x1536 broadcasts_S1x1536_S256x1536 slices_S2048x1_o1536_0_S256x1 _ _ _ _ _ p
  · exact tile_later g x0 x1 x2 x3 x4 x5 i hg a3.view _ hf a9.view 3 (by norm_num) _ _ _ _ 1792 (by norm_num) reduces_S256x1792_S256 broadcasts_S256x1_S256x1792 shapeCasts_S1x1792x256_S1792x256 slices_S1x2048_o0_1792_S1x256 slices_S1x2048_o0_0_S1x1792 broadcasts_S1x1792_S256x1792 slices_S2048x1_o1792_0_S256x1 _ _ _ _ _ p
  · exact tile_first g x0 x1 x2 x3 x4 x5 i hg a3.view _ hf a9.view 2 (by norm_num) _ _ _ _ slices_S1x2048_o0_0_S1x256 slices_S2048x1_o0_0_S256x1 _ _ _ p
  · exact tile_later g x0 x1 x2 x3 x4 x5 i hg a3.view _ hf a9.view 2 (by norm_num) _ _ _ _ 256 (by norm_num) reduces_S256x256_S256 broadcasts_S256x1_S256x256 shapeCasts_S1x256x256_S256x256 slices_S1x2048_o0_256_S1x256 slices_S1x2048_o0_0_S1x256 broadcasts_S1x256_S256x256 slices_S2048x1_o256_0_S256x1 _ _ _ _ _ p
  · exact tile_later g x0 x1 x2 x3 x4 x5 i hg a3.view _ hf a9.view 2 (by norm_num) _ _ _ _ 512 (by norm_num) reduces_S256x512_S256 broadcasts_S256x1_S256x512 shapeCasts_S1x512x256_S512x256 slices_S1x2048_o0_512_S1x256 slices_S1x2048_o0_0_S1x512 broadcasts_S1x512_S256x512 slices_S2048x1_o512_0_S256x1 _ _ _ _ _ p
  · exact tile_later g x0 x1 x2 x3 x4 x5 i hg a3.view _ hf a9.view 2 (by norm_num) _ _ _ _ 768 (by norm_num) reduces_S256x768_S256 broadcasts_S256x1_S256x768 shapeCasts_S1x768x256_S768x256 slices_S1x2048_o0_768_S1x256 slices_S1x2048_o0_0_S1x768 broadcasts_S1x768_S256x768 slices_S2048x1_o768_0_S256x1 _ _ _ _ _ p
  · exact tile_later g x0 x1 x2 x3 x4 x5 i hg a3.view _ hf a9.view 2 (by norm_num) _ _ _ _ 1024 (by norm_num) reduces_S256x1024_S256 broadcasts_S256x1_S256x1024 shapeCasts_S1x1024x256_S1024x256 slices_S1x2048_o0_1024_S1x256 slices_S1x2048_o0_0_S1x1024 broadcasts_S1x1024_S256x1024 slices_S2048x1_o1024_0_S256x1 _ _ _ _ _ p
  · exact tile_later g x0 x1 x2 x3 x4 x5 i hg a3.view _ hf a9.view 2 (by norm_num) _ _ _ _ 1280 (by norm_num) reduces_S256x1280_S256 broadcasts_S256x1_S256x1280 shapeCasts_S1x1280x256_S1280x256 slices_S1x2048_o0_1280_S1x256 slices_S1x2048_o0_0_S1x1280 broadcasts_S1x1280_S256x1280 slices_S2048x1_o1280_0_S256x1 _ _ _ _ _ p
  · exact tile_later g x0 x1 x2 x3 x4 x5 i hg a3.view _ hf a9.view 2 (by norm_num) _ _ _ _ 1536 (by norm_num) reduces_S256x1536_S256 broadcasts_S256x1_S256x1536 shapeCasts_S1x1536x256_S1536x256 slices_S1x2048_o0_1536_S1x256 slices_S1x2048_o0_0_S1x1536 broadcasts_S1x1536_S256x1536 slices_S2048x1_o1536_0_S256x1 _ _ _ _ _ p
  · exact tile_later g x0 x1 x2 x3 x4 x5 i hg a3.view _ hf a9.view 2 (by norm_num) _ _ _ _ 1792 (by norm_num) reduces_S256x1792_S256 broadcasts_S256x1_S256x1792 shapeCasts_S1x1792x256_S1792x256 slices_S1x2048_o0_1792_S1x256 slices_S1x2048_o0_0_S1x1792 broadcasts_S1x1792_S256x1792 slices_S2048x1_o1792_0_S256x1 _ _ _ _ _ p
  · exact tile_first g x0 x1 x2 x3 x4 x5 i hg a3.view _ hf a9.view 1 (by norm_num) _ _ _ _ slices_S1x2048_o0_0_S1x256 slices_S2048x1_o0_0_S256x1 _ _ _ p
  · exact tile_later g x0 x1 x2 x3 x4 x5 i hg a3.view _ hf a9.view 1 (by norm_num) _ _ _ _ 256 (by norm_num) reduces_S256x256_S256 broadcasts_S256x1_S256x256 shapeCasts_S1x256x256_S256x256 slices_S1x2048_o0_256_S1x256 slices_S1x2048_o0_0_S1x256 broadcasts_S1x256_S256x256 slices_S2048x1_o256_0_S256x1 _ _ _ _ _ p
  · exact tile_later g x0 x1 x2 x3 x4 x5 i hg a3.view _ hf a9.view 1 (by norm_num) _ _ _ _ 512 (by norm_num) reduces_S256x512_S256 broadcasts_S256x1_S256x512 shapeCasts_S1x512x256_S512x256 slices_S1x2048_o0_512_S1x256 slices_S1x2048_o0_0_S1x512 broadcasts_S1x512_S256x512 slices_S2048x1_o512_0_S256x1 _ _ _ _ _ p
  · exact tile_later g x0 x1 x2 x3 x4 x5 i hg a3.view _ hf a9.view 1 (by norm_num) _ _ _ _ 768 (by norm_num) reduces_S256x768_S256 broadcasts_S256x1_S256x768 shapeCasts_S1x768x256_S768x256 slices_S1x2048_o0_768_S1x256 slices_S1x2048_o0_0_S1x768 broadcasts_S1x768_S256x768 slices_S2048x1_o768_0_S256x1 _ _ _ _ _ p
  · exact tile_later g x0 x1 x2 x3 x4 x5 i hg a3.view _ hf a9.view 1 (by norm_num) _ _ _ _ 1024 (by norm_num) reduces_S256x1024_S256 broadcasts_S256x1_S256x1024 shapeCasts_S1x1024x256_S1024x256 slices_S1x2048_o0_1024_S1x256 slices_S1x2048_o0_0_S1x1024 broadcasts_S1x1024_S256x1024 slices_S2048x1_o1024_0_S256x1 _ _ _ _ _ p
  · exact tile_later g x0 x1 x2 x3 x4 x5 i hg a3.view _ hf a9.view 1 (by norm_num) _ _ _ _ 1280 (by norm_num) reduces_S256x1280_S256 broadcasts_S256x1_S256x1280 shapeCasts_S1x1280x256_S1280x256 slices_S1x2048_o0_1280_S1x256 slices_S1x2048_o0_0_S1x1280 broadcasts_S1x1280_S256x1280 slices_S2048x1_o1280_0_S256x1 _ _ _ _ _ p
  · exact tile_later g x0 x1 x2 x3 x4 x5 i hg a3.view _ hf a9.view 1 (by norm_num) _ _ _ _ 1536 (by norm_num) reduces_S256x1536_S256 broadcasts_S256x1_S256x1536 shapeCasts_S1x1536x256_S1536x256 slices_S1x2048_o0_1536_S1x256 slices_S1x2048_o0_0_S1x1536 broadcasts_S1x1536_S256x1536 slices_S2048x1_o1536_0_S256x1 _ _ _ _ _ p
  · exact tile_later g x0 x1 x2 x3 x4 x5 i hg a3.view _ hf a9.view 1 (by norm_num) _ _ _ _ 1792 (by norm_num) reduces_S256x1792_S256 broadcasts_S256x1_S256x1792 shapeCasts_S1x1792x256_S1792x256 slices_S1x2048_o0_1792_S1x256 slices_S1x2048_o0_0_S1x1792 broadcasts_S1x1792_S256x1792 slices_S2048x1_o1792_0_S256x1 _ _ _ _ _ p
  · exact tile_first g x0 x1 x2 x3 x4 x5 i hg a3.view _ hf a9.view 0 (by norm_num) _ _ _ _ slices_S1x2048_o0_0_S1x256 slices_S2048x1_o0_0_S256x1 _ _ _ p
  · exact tile_later g x0 x1 x2 x3 x4 x5 i hg a3.view _ hf a9.view 0 (by norm_num) _ _ _ _ 256 (by norm_num) reduces_S256x256_S256 broadcasts_S256x1_S256x256 shapeCasts_S1x256x256_S256x256 slices_S1x2048_o0_256_S1x256 slices_S1x2048_o0_0_S1x256 broadcasts_S1x256_S256x256 slices_S2048x1_o256_0_S256x1 _ _ _ _ _ p
  · exact tile_later g x0 x1 x2 x3 x4 x5 i hg a3.view _ hf a9.view 0 (by norm_num) _ _ _ _ 512 (by norm_num) reduces_S256x512_S256 broadcasts_S256x1_S256x512 shapeCasts_S1x512x256_S512x256 slices_S1x2048_o0_512_S1x256 slices_S1x2048_o0_0_S1x512 broadcasts_S1x512_S256x512 slices_S2048x1_o512_0_S256x1 _ _ _ _ _ p
  · exact tile_later g x0 x1 x2 x3 x4 x5 i hg a3.view _ hf a9.view 0 (by norm_num) _ _ _ _ 768 (by norm_num) reduces_S256x768_S256 broadcasts_S256x1_S256x768 shapeCasts_S1x768x256_S768x256 slices_S1x2048_o0_768_S1x256 slices_S1x2048_o0_0_S1x768 broadcasts_S1x768_S256x768 slices_S2048x1_o768_0_S256x1 _ _ _ _ _ p
  · exact tile_later g x0 x1 x2 x3 x4 x5 i hg a3.view _ hf a9.view 0 (by norm_num) _ _ _ _ 1024 (by norm_num) reduces_S256x1024_S256 broadcasts_S256x1_S256x1024 shapeCasts_S1x1024x256_S1024x256 slices_S1x2048_o0_1024_S1x256 slices_S1x2048_o0_0_S1x1024 broadcasts_S1x1024_S256x1024 slices_S2048x1_o1024_0_S256x1 _ _ _ _ _ p
  · exact tile_later g x0 x1 x2 x3 x4 x5 i hg a3.view _ hf a9.view 0 (by norm_num) _ _ _ _ 1280 (by norm_num) reduces_S256x1280_S256 broadcasts_S256x1_S256x1280 shapeCasts_S1x1280x256_S1280x256 slices_S1x2048_o0_1280_S1x256 slices_S1x2048_o0_0_S1x1280 broadcasts_S1x1280_S256x1280 slices_S2048x1_o1280_0_S256x1 _ _ _ _ _ p
  · exact tile_later g x0 x1 x2 x3 x4 x5 i hg a3.view _ hf a9.view 0 (by norm_num) _ _ _ _ 1536 (by norm_num) reduces_S256x1536_S256 broadcasts_S256x1_S256x1536 shapeCasts_S1x1536x256_S1536x256 slices_S1x2048_o0_1536_S1x256 slices_S1x2048_o0_0_S1x1536 broadcasts_S1x1536_S256x1536 slices_S2048x1_o1536_0_S256x1 _ _ _ _ _ p
  · exact tile_later g x0 x1 x2 x3 x4 x5 i hg a3.view _ hf a9.view 0 (by norm_num) _ _ _ _ 1792 (by norm_num) reduces_S256x1792_S256 broadcasts_S256x1_S256x1792 shapeCasts_S1x1792x256_S1792x256 slices_S1x2048_o0_1792_S1x256 slices_S1x2048_o0_0_S1x1792 broadcasts_S1x1792_S256x1792 slices_S2048x1_o1792_0_S256x1 _ _ _ _ _ p

end

end Cert.Proof.Fox

end
-- ==== Proof.FoxArray.lean ====
/- The array the attention with forget gates leaves, and its reference: each head's values averaged under the base-2 softmax
   of its causal scores, each moved by what the query keeps and its key forgets, gated. -/
module

public import proofs.«01_k».proof.Proof.FoxBody
public import proofs.«01_k».proof.Proof.AttnArray
public import proofs.«01_k».proof.Proof.Gen.Kernel8Ideal.Value
public import proofs.«01_k».proof.Proof.Gen.Reference8Ideal.Read

@[expose] public section

set_option maxRecDepth 16384

noncomputable section

namespace Cert.Proof.Fox

open Idealize.ShloMosaic hiding ix1 ix2 ix3 ix4
open Idealize.ShloMosaic.TcCoe Idealize.ShloMosaic.ValueIdx
open Cert.Proof.Attn (row)

/-! ## The formula -/

abbrev Projected : Type := (⟨2, ![16384, 29184]⟩ : Shape).Idx → EReal
abbrev Cols : Type := (⟨2, ![16384, 128]⟩ : Shape).Idx → EReal
abbrev Rows : Type := (⟨3, ![8, 128, 2048]⟩ : Shape).Idx → EReal

/-- A row's query of head `h`. -/
def qry (x : Projected) (r : Fin 16384) (h : Fin 16) (b : Fin 128) : EReal := x (ix2 r ⟨4096 + (128 * h.val + b.val), by omega⟩)

/-- A batch's key `j` of head `h`. -/
def key (x : Projected) (bt : Fin 8) (h : Fin 16) (j : ℕ) (b : Fin 128) : EReal := x (ix2 (row bt j) ⟨6144 + (128 * h.val + b.val), by omega⟩)

/-- A batch's value `j` of head `h`. -/
def val (x : Projected) (bt : Fin 8) (h : Fin 16) (e : Fin 128) (j : ℕ) : EReal := x (ix2 (row bt j) ⟨8192 + (128 * h.val + e.val), by omega⟩)

/-- A batch's sum of head `h`'s forget gates up to key `j`. -/
def loss (cr : Rows) (bt : Fin 8) (h : Fin 16) (j : ℕ) : EReal := cr (ix3 bt ⟨64 + h.val, by omega⟩ ⟨j % 2048, Nat.mod_lt _ (by norm_num)⟩)

/-- The scores of a batch's query `p`. -/
def scores (x : Projected) (cc : Cols) (cr : Rows) (bt : Fin 8) (h : Fin 16) (p j : ℕ) : EReal :=
  score (qry x (row bt p) h) (key x bt h) (loss cr bt h) p j + cc (ix2 (row bt p) ⟨64 + h.val, by omega⟩)

/-- Head `h`'s column `e` for a batch's query `p`, gated. -/
def cell (x : Projected) (cc : Cols) (cr : Rows) (bt : Fin 8) (h : Fin 16) (p : ℕ) (e : Fin 128) : EReal :=
  Softmax.mean (scores x cc cr bt h p) (val x bt h e) 2048 * x (ix2 (row bt p) ⟨14336 + (128 * h.val + e.val), by omega⟩)

/-- The result, the batches' rows one after another, the heads' columns side by side. -/
def result (x : Projected) (cc : Cols) (cr : Rows) (r : Fin 16384) (c : Fin 2048) : EReal :=
  cell x cc cr ⟨r.val / 2048, by omega⟩ ⟨c.val / 128, by omega⟩ (r.val % 2048) ⟨c.val % 128, by omega⟩

/-! ## The launch -/

section Kernel

open Cert.Kernel8Ideal Cert.Kernel8Ideal.Gen

theorem coords_one : ∀ t : Fin grid0.N, (grid0.coords t 1).val = t.val % 4 := by decide +kernel
theorem index_queries : ∀ t : Fin grid0.N, cc0_transform_0 (grid0.coords t) = ![t.val / 4, 8 + t.val % 4] := by decide +kernel
theorem index_keys : ∀ t : Fin grid0.N, cc0_transform_1 (grid0.coords t) = ![t.val / 4, 12 + t.val % 4] := by decide +kernel
theorem index_values : ∀ t : Fin grid0.N, cc0_transform_2 (grid0.coords t) = ![t.val / 4, 16 + t.val % 4] := by decide +kernel
theorem index_gate : ∀ t : Fin grid0.N, cc0_transform_3 (grid0.coords t) = ![t.val / 4, 28 + t.val % 4] := by decide +kernel
theorem index_cols : ∀ t : Fin grid0.N, cc0_transform_4 (grid0.coords t) = ![t.val / 4, 0] := by decide +kernel
theorem index_rows : ∀ t : Fin grid0.N, cc0_transform_5 (grid0.coords t) = ![t.val / 4, 0, 0] := by decide +kernel
theorem index_out : ∀ t : Fin grid0.N, cc0_transform_6 (grid0.coords t) = ![t.val / 4, t.val % 4] := by decide +kernel

variable (m : (ℓ : Loc nD τ sig) → Buf (Elt Ideal) ℓ) (c : Dev nD) (t : Fin cfg0.N)

theorem read_queries (a : Fin 2048) (k : Fin 512) (r : Fin 16384) (l : Fin 29184) (hr : r.val = t.val / 4 * 2048 + a.val) (hl : l.val = (8 + t.val % 4) * 512 + k.val) :
    iblk m c 0 t (ix2 a k) = m ((c : Thread nD τ).loc main_arg0) (ix2 r l) := by
  rw [← V_main_arg0 m c]
  refine congrArg (V m c main_arg0) (funext fun d => Fin.ext ?_)
  refine (Pipeline.Window.rect_emb_val_off (cfg0.win 0) t (ix2 a k) d).trans ?_
  have e : (cfg0.win 0).index t = ![t.val / 4, 8 + t.val % 4] := index_queries t
  rw [e]; fin_cases d
  · exact hr.symm
  · exact hl.symm

theorem read_keys (a : Fin 2048) (k : Fin 512) (r : Fin 16384) (l : Fin 29184) (hr : r.val = t.val / 4 * 2048 + a.val) (hl : l.val = (12 + t.val % 4) * 512 + k.val) :
    iblk m c 1 t (ix2 a k) = m ((c : Thread nD τ).loc main_arg0) (ix2 r l) := by
  rw [← V_main_arg0 m c]
  refine congrArg (V m c main_arg0) (funext fun d => Fin.ext ?_)
  refine (Pipeline.Window.rect_emb_val_off (cfg0.win 1) t (ix2 a k) d).trans ?_
  have e : (cfg0.win 1).index t = ![t.val / 4, 12 + t.val % 4] := index_keys t
  rw [e]; fin_cases d
  · exact hr.symm
  · exact hl.symm

theorem read_values (a : Fin 2048) (k : Fin 512) (r : Fin 16384) (l : Fin 29184) (hr : r.val = t.val / 4 * 2048 + a.val) (hl : l.val = (16 + t.val % 4) * 512 + k.val) :
    iblk m c 2 t (ix2 a k) = m ((c : Thread nD τ).loc main_arg0) (ix2 r l) := by
  rw [← V_main_arg0 m c]
  refine congrArg (V m c main_arg0) (funext fun d => Fin.ext ?_)
  refine (Pipeline.Window.rect_emb_val_off (cfg0.win 2) t (ix2 a k) d).trans ?_
  have e : (cfg0.win 2).index t = ![t.val / 4, 16 + t.val % 4] := index_values t
  rw [e]; fin_cases d
  · exact hr.symm
  · exact hl.symm

theorem read_gate (a : Fin 2048) (k : Fin 512) (r : Fin 16384) (l : Fin 29184) (hr : r.val = t.val / 4 * 2048 + a.val) (hl : l.val = (28 + t.val % 4) * 512 + k.val) :
    iblk m c 3 t (ix2 a k) = m ((c : Thread nD τ).loc main_arg0) (ix2 r l) := by
  rw [← V_main_arg0 m c]
  refine congrArg (V m c main_arg0) (funext fun d => Fin.ext ?_)
  refine (Pipeline.Window.rect_emb_val_off (cfg0.win 3) t (ix2 a k) d).trans ?_
  have e : (cfg0.win 3).index t = ![t.val / 4, 28 + t.val % 4] := index_gate t
  rw [e]; fin_cases d
  · exact hr.symm
  · exact hl.symm

theorem read_cols (a : Fin 2048) (k : Fin 128) (r : Fin 16384) (l : Fin 128) (hr : r.val = t.val / 4 * 2048 + a.val) (hl : l.val = k.val) :
    iblk m c 4 t (ix2 a k) = m ((c : Thread nD τ).loc main_arg1) (ix2 r l) := by
  rw [← V_main_arg1 m c]
  refine congrArg (V m c main_arg1) (funext fun d => Fin.ext ?_)
  refine (Pipeline.Window.rect_emb_val_off (cfg0.win 4) t (ix2 a k) d).trans ?_
  have e : (cfg0.win 4).index t = ![t.val / 4, 0] := index_cols t
  rw [e]; fin_cases d
  · exact hr.symm
  · show 0 * 128 + k.val = l.val; omega

theorem read_rows (k : Fin 128) (a : Fin 2048) (bt : Fin 8) (l : Fin 128) (hb : bt.val = t.val / 4) (hl : l.val = k.val) :
    iblk m c 5 t (ix3 0 k a) = m ((c : Thread nD τ).loc main_arg2) (ix3 bt l a) := by
  rw [← V_main_arg2 m c]
  refine congrArg (V m c main_arg2) (funext fun d => Fin.ext ?_)
  refine (Pipeline.Window.rect_emb_val_off (cfg0.win 5) t (ix3 0 k a) d).trans ?_
  have e : (cfg0.win 5).index t = ![t.val / 4, 0, 0] := index_rows t
  rw [e]; fin_cases d
  · show t.val / 4 * 1 + 0 = bt.val; omega
  · show 0 * 128 + k.val = l.val; omega
  · show 0 * 2048 + a.val = a.val; omega

/-- A block's cell is the formula's. -/
theorem blk_cell (n : Fin 4) (hn : n.val = t.val % 4) (p : Fin 2048) (h : Fin 4) (e : Fin 128) (bt : Fin 8) (g : Fin 16) (hb : bt.val = t.val / 4)
    (hg : g.val = t.val % 4 * 4 + h.val) :
    blk n (iblk m c 0 t) (iblk m c 1 t) (iblk m c 2 t) (iblk m c 3 t) (iblk m c 4 t) (iblk m c 5 t) p h e
      = cell (m ((c : Thread nD τ).loc main_arg0)) (m ((c : Thread nD τ).loc main_arg1)) (m ((c : Thread nD τ).loc main_arg2)) bt g p.val e := by
  have hp := p.isLt
  have he := e.isLt
  have hrow : ∀ j : ℕ, (row bt j).val = t.val / 4 * 2048 + j % 2048 := fun j => by
    show 2048 * bt.val + j % 2048 = _; omega
  have hrp : (row bt p.val).val = t.val / 4 * 2048 + p.val := (hrow p.val).trans (by rw [Nat.mod_eq_of_lt hp])
  have hl : 64 + g.val = (lane n h).val := by show 64 + g.val = 64 + (n.val * 4 + h.val); omega
  have hq : (fun b : Fin 128 => iblk m c 0 t (ix2 p ⟨128 * h.val + b.val, by omega⟩)) = qry (m ((c : Thread nD τ).loc main_arg0)) (row bt p.val) g :=
    funext fun b => read_queries m c t p _ _ _ hrp (by show 4096 + (128 * g.val + b.val) = (8 + t.val % 4) * 512 + (128 * h.val + b.val); omega)
  have hk : keyAt (iblk m c 1 t) h = key (m ((c : Thread nD τ).loc main_arg0)) bt g := by
    funext j b
    exact read_keys m c t _ _ _ _ (hrow j) (by show 6144 + (128 * g.val + b.val) = (12 + t.val % 4) * 512 + (128 * h.val + b.val); omega)
  have hc : lossAt (iblk m c 5 t) n h = loss (m ((c : Thread nD τ).loc main_arg2)) bt g :=
    funext fun j => read_rows m c t _ _ bt _ hb hl
  have hv : (fun j => Attn.valAt (iblk m c 2 t) h j ⟨e.val, by omega⟩) = val (m ((c : Thread nD τ).loc main_arg0)) bt g e :=
    funext fun j => (Attn.valAt_low _ h j ⟨e.val, by omega⟩ he).trans
      (read_values m c t _ _ _ _ (hrow j) (by show 8192 + (128 * g.val + e.val) = (16 + t.val % 4) * 512 + (128 * h.val + e.val); omega))
  have hs : (fun j => score (fun b : Fin 128 => iblk m c 0 t (ix2 p ⟨128 * h.val + b.val, by omega⟩)) (keyAt (iblk m c 1 t) h) (lossAt (iblk m c 5 t) n h) p.val j
      + iblk m c 4 t (ix2 p (lane n h)))
      = scores (m ((c : Thread nD τ).loc main_arg0)) (m ((c : Thread nD τ).loc main_arg1)) (m ((c : Thread nD τ).loc main_arg2)) bt g p.val := by
    rw [hq, hk, hc]
    exact funext fun j => congrArg (fun a : EReal => _ + a) (read_cols m c t p _ _ _ hrp hl)
  exact congrArg₂ (fun a b : EReal => a * b) (congrArg₂ (fun s v => Softmax.mean s v 2048) hs hv)
    (read_gate m c t p _ _ _ hrp (by show 14336 + (128 * g.val + e.val) = (28 + t.val % 4) * 512 + (128 * h.val + e.val); omega))

/-- What a point leaves in its block. -/
theorem point (y : S2048x512.Idx) (r : Fin 16384) (q : Fin 2048) (hr : r.val = t.val / 4 * 2048 + (y 0).val) (hq : q.val = t.val % 4 * 512 + (y 1).val) :
    outsAt0 m c t y = result (m ((c : Thread nD τ).loc main_arg0)) (m ((c : Thread nD τ).loc main_arg1)) (m ((c : Thread nD τ).loc main_arg2)) r q := by
  have h₀ : (y 0).val < 2048 := (y 0).isLt
  have h₁ : (y 1).val < 512 := (y 1).isLt
  unfold outsAt0
  refine (congrFun (out _ _ _ _ _ _ _ _ _ _ _ _ _ _ _ _ _ _ _ _ _ _ _ _ ⟨t.val % 4, Nat.mod_lt _ (by norm_num)⟩ (coords_one t)) y).trans ?_
  refine (blk_cell m c t ⟨t.val % 4, Nat.mod_lt _ (by norm_num)⟩ rfl (y 0) ⟨(y 1).val / 128, by omega⟩ ⟨(y 1).val % 128, by omega⟩ ⟨r.val / 2048, by omega⟩ ⟨q.val / 128, by omega⟩
    (by show r.val / 2048 = t.val / 4; omega) (by show q.val / 128 = t.val % 4 * 4 + (y 1).val / 128; omega)).trans ?_
  unfold result
  rw [show (y 0).val = r.val % 2048 by omega, show (⟨(y 1).val % 128, by omega⟩ : Fin 128) = ⟨q.val % 128, by omega⟩ from Fin.ext (show (y 1).val % 128 = q.val % 128 by omega)]

/-- The array after the launch. -/
theorem array : (dats m 0 c).arrAt 6 cfg0.N
    = fun i : S16384x2048.Idx => result (m ((c : Thread nD τ).loc main_arg0)) (m ((c : Thread nD τ).loc main_arg1))
        (m ((c : Thread nD τ).loc main_arg2)) (i 0) (i 1) := by
  refine (dats m 0 c).arrAt_eq_of_covers 6 _ (by decide +kernel) fun t _ y => ?_
  have e : (cfg0.win 6).index t = ![t.val / 4, t.val % 4] := index_out t
  have hb := Pipeline.Window.rect_emb_val_off (cfg0.win 6) t y
  rw [e] at hb
  exact (congrFun (after0_6 m c t) y).trans (point m c t y _ _ (hb (0 : Fin 2)) (hb (1 : Fin 2)))

end Kernel

/-! ## The reference -/

section Reference

open Cert.Reference8Ideal Cert.Reference8Ideal.Gen Cert.Reference8Ideal.Read

variable (x0 : (⟨S16384x29184, .bf16⟩ : BufTy).Contents (Elt Ideal)) (x1 : (⟨S16384x128, .f32⟩ : BufTy).Contents (Elt Ideal))
  (x2 : (⟨S8x128x2048, .f32⟩ : BufTy).Contents (Elt Ideal)) (bt : Fin 8) (h : Fin 16) (p : Fin 2048)

/-- The reference's queries, -/
theorem ref_query (b : Fin 128) : val_main_v2 (F := Ideal) x0 (ix4 bt p h b) = qry x0 (row bt p.val) h b := by
  have hp := p.isLt
  rw [val_main_v2_apply, val_main_v1_apply, val_main_v0_apply]
  show x0 _ = _
  refine congrArg x0 (funext fun d => Fin.ext ?_)
  fin_cases d
  · show (((bt.val * 2048 + p.val) * 16 + h.val) * 128 + b.val) / 2048 = 2048 * bt.val + p.val % 2048; omega
  · show 4096 + (((bt.val * 2048 + p.val) * 16 + h.val) * 128 + b.val) % 2048 = 4096 + (128 * h.val + b.val); omega

/-- keys -/
theorem ref_key (b : Fin 128) : val_main_v5 (F := Ideal) x0 (ix4 bt p h b) = key x0 bt h p.val b := by
  have hp := p.isLt
  rw [val_main_v5_apply, val_main_v4_apply, val_main_v3_apply]
  show x0 _ = _
  refine congrArg x0 (funext fun d => Fin.ext ?_)
  fin_cases d
  · show (((bt.val * 2048 + p.val) * 16 + h.val) * 128 + b.val) / 2048 = 2048 * bt.val + p.val % 2048; omega
  · show 6144 + (((bt.val * 2048 + p.val) * 16 + h.val) * 128 + b.val) % 2048 = 6144 + (128 * h.val + b.val); omega

/-- and values. -/
theorem ref_value (e : Fin 128) : val_main_v8 (F := Ideal) x0 (ix4 bt p h e) = val x0 bt h e p.val := by
  have hp := p.isLt
  rw [val_main_v8_apply, val_main_v7_apply, val_main_v6_apply]
  show x0 _ = _
  refine congrArg x0 (funext fun d => Fin.ext ?_)
  fin_cases d
  · show (((bt.val * 2048 + p.val) * 16 + h.val) * 128 + e.val) / 2048 = 2048 * bt.val + p.val % 2048; omega
  · show 8192 + (((bt.val * 2048 + p.val) * 16 + h.val) * 128 + e.val) % 2048 = 8192 + (128 * h.val + e.val); omega

/-- The forget gates' sums at a query -/
theorem ref_col (k : Fin 2048) : val_main_v18 (F := Ideal) x1 (ix4 bt h p k) = x1 (ix2 (row bt p.val) ⟨64 + h.val, by omega⟩) := by
  have hp := p.isLt
  rw [val_main_v18_apply, val_main_v17_apply, val_main_v13_apply, val_main_v12_apply, val_main_v11_apply]
  refine congrArg x1 (funext fun d => Fin.ext ?_)
  fin_cases d
  · show ((bt.val * 2048 + p.val) * 16 + h.val) / 16 = 2048 * bt.val + p.val % 2048; omega
  · show 64 + ((bt.val * 2048 + p.val) * 16 + h.val) % 16 = 64 + h.val; omega

/-- and at a key. -/
theorem ref_row (k : Fin 2048) : val_main_v21 (F := Ideal) x2 (ix4 bt h p k) = loss x2 bt h k.val := by
  have hk := k.isLt
  rw [val_main_v21_apply, val_main_v20_apply, val_main_v14_apply]
  refine congrArg x2 (funext fun d => Fin.ext ?_)
  fin_cases d
  · rfl
  · rfl
  · exact (Nat.mod_eq_of_lt hk).symm

/-- The reference's scores, the masked ones −∞. -/
theorem ref_score (k : Fin 2048) : val_main_v29 (F := Ideal) x0 x1 x2 (ix4 bt h p k) = scores x0 x1 x2 bt h p.val k.val := by
  have hp := p.isLt
  have hk := k.isLt
  have hm : val_main_call0_v1 (F := Ideal) (ix4 bt h p k) = IntOp.cmpi .sle (BitVec.ofNat 32 k.val) (BitVec.ofNat 32 p.val) := by
    rw [val_main_call0_v1_apply, val_main_v28_apply, val_main_v27_apply, val_main_v25_apply, val_main_v23_apply, val_main_v15_apply,
      val_main_v26_apply, val_main_v24_apply, val_main_v15_apply]
  rw [val_main_v29_apply, hm, val_main_call0_v2_apply, val_main_call0_v0_apply, val_main_cst_apply]
  show (if IntOp.cmpi .sle (BitVec.ofNat 32 k.val) (BitVec.ofNat 32 p.val) = 1#1 then val_main_v22 (F := Ideal) x0 x1 x2 (ix4 bt h p k) else Ideal.ofBits .f32 0xFF800000#32) = _
  unfold scores score
  by_cases hc : k.val ≤ p.val
  · rw [if_pos ((WordCmp.cmpi_sle_ofNat_eq_one_iff (by omega) (by omega)).mpr hc), if_pos hc, val_main_v22_apply, val_main_v19_apply, ref_col, ref_row]
    have hd : val_main_v16 (F := Ideal) x0 (ix4 bt h p k) = ∑ b : Fin 128, qry x0 (row bt p.val) h b * key x0 bt h k.val b := by
      rw [val_main_v16_apply]
      refine Finset.sum_congr rfl fun b _ => congrArg₂ (fun (a b : EReal) => a * b)
        (Eq.trans (congrArg (val_main_v2 (F := Ideal) x0) ?_) (ref_query x0 bt h p b)) (Eq.trans (congrArg (val_main_v5 (F := Ideal) x0) ?_) (ref_key x0 bt h k b))
      · funext d; fin_cases d <;> rfl
      · funext d; fin_cases d <;> rfl
    rw [hd]
    exact (add_right_comm _ _ (-loss x2 bt h k.val))
  · rw [if_neg (fun e => hc ((WordCmp.cmpi_sle_ofNat_eq_one_iff (by omega) (by omega)).mp e)), if_neg hc, EReal.bot_add]
    exact Attn.ofBits_bot

/-- The reference's greatest score. -/
theorem ref_top : val_main_v30 (F := Ideal) x0 x1 x2 (ix3 bt h p) = Softmax.top (scores x0 x1 x2 bt h p.val) 2048 :=
  Attn.top_row bt h p 2048 (val_main_v29 (F := Ideal) x0 x1 x2) reducesTo_S8x16x2048x2048_S8x16x2048_d3 (by decide) _ (ref_score x0 x1 x2 bt h p)

/-- The reference's weights, -/
theorem ref_weight (k : Fin 2048) : val_main_v35 (F := Ideal) x0 x1 x2 (ix4 bt h p k)
    = Softmax.weight (scores x0 x1 x2 bt h p.val) (Softmax.top (scores x0 x1 x2 bt h p.val) 2048) k.val := by
  have e : idx_main_v31 (idx_main_v32 (ix4 bt h p k)) = ix3 bt h p := by funext d; fin_cases d <;> rfl
  rw [val_main_v35_apply, val_main_v34_apply, val_main_cst_1_apply, val_main_v33_apply, val_main_v32_apply, val_main_v31_apply, e, ref_top, ref_score]
  exact Attn.pow_two _

/-- their sum, -/
theorem ref_total : val_main_v36 (F := Ideal) x0 x1 x2 (ix3 bt h p) = Softmax.total (scores x0 x1 x2 bt h p.val) 2048 := by
  rw [val_main_v36_apply, val_main_cst_2_apply]
  refine (congrArg (fun a : EReal => a + _) Ideal.ofBits_zero_f32).trans ((zero_add _).trans ?_)
  unfold Softmax.total
  rw [Finset.sum_range]
  refine Finset.sum_congr rfl fun k _ => ?_
  have e : idx_main_v36 (ix3 bt h p) k = ix4 bt h p k := by funext d; fin_cases d <;> rfl
  rw [e, ref_weight]

/-- and each over the sum. -/
theorem ref_prob (k : Fin 2048) : val_main_v41 (F := Ideal) x0 x1 x2 (ix4 bt h p k)
    = Softmax.weight (scores x0 x1 x2 bt h p.val) (Softmax.top (scores x0 x1 x2 bt h p.val) 2048) k.val * Ideal.div 1 (Softmax.total (scores x0 x1 x2 bt h p.val) 2048) := by
  have e : idx_main_v37 (idx_main_v40 (ix4 bt h p k)) = ix3 bt h p := by funext d; fin_cases d <;> rfl
  rw [val_main_v41_apply, ref_weight, val_main_v40_apply, val_main_v39_apply, val_main_v38_apply, val_main_cst_3_apply, val_main_v37_apply, e, ref_total]
  exact congrArg (fun a : EReal => _ * Ideal.div a _) Ideal.ofBits_one_f32

/-- The reference's mean of the values. -/
theorem ref_mean (e : Fin 128) : val_main_v42 (F := Ideal) x0 x1 x2 (ix4 bt h e p) = Softmax.mean (scores x0 x1 x2 bt h p.val) (val x0 bt h e) 2048 := by
  rw [val_main_v42_apply, ← Softmax.mean_eq, Finset.sum_range]
  refine Finset.sum_congr rfl fun k _ => ?_
  have el : lidx_main_v42 (ix4 bt h e p) k = ix4 bt k h e := by funext d; fin_cases d <;> rfl
  have er : ridx_main_v42 (ix4 bt h e p) k = ix4 bt h p k := by funext d; fin_cases d <;> rfl
  rw [el, er, ref_value, ref_prob]

/-- The reference's result at an index. -/
theorem ref_at (i : S16384x2048.Idx) : val_main_v46 (F := Ideal) x0 x1 x2 i = result x0 x1 x2 (i 0) (i 1) := by
  obtain ⟨r, q, rfl⟩ : ∃ (r : Fin 16384) (q : Fin 2048), i = ix2 r q := ⟨_, _, ValueIdx.eq_ix2 (n0 := 16384) (n1 := 2048) i⟩
  have hr := r.isLt
  have hq := q.isLt
  have e : idx_main_v43 (idx_main_v44 (ix2 r q)) = ix4 ⟨r.val / 2048, by omega⟩ ⟨q.val / 128, by omega⟩ ⟨q.val % 128, by omega⟩ ⟨r.val % 2048, by omega⟩ := by
    funext d; fin_cases d
    · exact Fin.ext (by show (r.val * 2048 + q.val) / 4194304 = r.val / 2048; omega)
    · exact Fin.ext (by show (r.val * 2048 + q.val) / 128 % 16 = q.val / 128; omega)
    · exact Fin.ext (by show (r.val * 2048 + q.val) % 128 = q.val % 128; omega)
    · exact Fin.ext (by show (r.val * 2048 + q.val) / 2048 % 2048 = r.val % 2048; omega)
  rw [val_main_v46_apply, val_main_v45_apply, val_main_v44_apply, val_main_v43_apply, e, ref_mean, val_main_v10_apply, val_main_v9_apply]
  unfold result cell
  refine congrArg (fun z : EReal => _ * z) (congrArg x0 (funext fun d => Fin.ext ?_))
  fin_cases d
  · show r.val = 2048 * (r.val / 2048) + r.val % 2048 % 2048; omega
  · show 14336 + q.val = 14336 + (128 * (q.val / 128) + q.val % 128); omega

end Reference

end Cert.Proof.Fox

end
-- ==== Proof.FoxClaims.lean ====
/- The claims of the attention with forget gates: the frames of the kernel and its idealization (one run, generic in the float values,
   read twice), the constants named, the frame of its reference, and the equality of the two results over the reals. -/
module

public import proofs.«01_k».proof.Defs
public import proofs.«01_k».proof.Proof.Gen.Kernel8
public import proofs.«01_k».proof.Proof.FoxArray
public import proofs.«01_k».proof.Proof.Gen.Reference8Ideal.Run

@[expose] public section

noncomputable section

namespace Cert.Proof.Fox

open Idealize.ShloMosaic Idealize.ShloMosaic.TcCoe Idealize.SL.Sem

/-- At the bits a named constant is read as the pattern the kernel writes. -/
local instance written : Named Bits := ⟨fun _ _ {φ} b => (FloatOps.ofBits φ b : Bits φ)⟩

theorem frame_ideal : Cert.quiescent_Kernel8Ideal := fun m ρ _ => Cert.Kernel8Ideal.Gen.frame m ρ

/-- The body called at a point is the same in the kernel and in its idealization … -/
theorem bodies_eq : Cert.Kernel8.defs₀ (F := Bits) = Cert.Kernel8Ideal.defs₀ (F := Bits) := by
  refine congrArg Defs.onTc (funext fun l => funext fun a => ?_)
  match l, a with
  | 0, (t, s) => rfl
  | ⟨n + 1, h⟩, _ => exact absurd h (by omega)

/-- … and so is the pipeline around it. -/
theorem defs_eq : Cert.Kernel8.defs (F := Bits) = Cert.Kernel8Ideal.defs (F := Bits) :=
  congrArg (Pipeline.defs Cert.Kernel8Ideal.pcfgs) bodies_eq

/-- The kernel's frame is its idealization's run, read at the bits. -/
theorem frame_bits : Cert.quiescent_Kernel8 := fun m ρ _ => by
  rw [defs_eq]; exact Cert.Kernel8Ideal.Gen.frame (F := Bits) m ρ

/-- The mask's constant, named, is −∞. -/
theorem named : Cert.preserves_Kernel8_Kernel8Ideal :=
  IdealRules.named_const.statement Cert.Kernel8Ideal.κ "masked" .f32 0xF149F2CA#32 ⊥ rfl

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The two results are the same formula of the same arguments. -/
theorem algebraic : Cert.algebraic_Kernel8Ideal_Reference8Ideal := fun m ρ m' ρ' _ hm => by
  refine ⟨_, (θ_run _ _ _).mono (fun r h c => ⟨(h c).1.trans (array m c), (h c).2⟩) (Cert.Kernel8Ideal.Value.run_blocks (F := Ideal) m ρ),
    (θ_run _ _ _).mono (fun r h c => ⟨(h c).1.trans ?_, (h c).2⟩) (Cert.Reference8Ideal.Value.run (F := Ideal) m' ρ')⟩
  refine (Cert.Reference8Ideal.Read.val_main_v46_eq _ _).trans (funext fun i => ?_)
  obtain ⟨h0, h1, h2⟩ := hm c
  rw [h0, h1, h2]
  exact ref_at _ _ _ i

end Cert.Proof.Fox

end
-- ==== Proof.lean ====
module

public import proofs.«01_k».proof.Defs
public import proofs.«01_k».proof.Proof.FusedClaims
public import proofs.«01_k».proof.Proof.OutClaims
public import proofs.«01_k».proof.Proof.MergeClaims
public import proofs.«01_k».proof.Proof.PrenormClaims
public import proofs.«01_k».proof.Proof.LatentKvClaims
public import proofs.«01_k».proof.Proof.LatentQClaims
public import proofs.«01_k».proof.Proof.AttnClaims
public import proofs.«01_k».proof.Proof.FoxClaims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Fused.frame_bits, Fused.frame_ideal, Fused.frame_reference, OutProj.frame_bits, OutProj.frame_ideal, OutProj.frame_reference,
    Merge.frame_bits, Merge.frame_ideal, Merge.frame_reference, Prenorm.frame_bits, Prenorm.frame_ideal, Prenorm.frame_reference,
    LatentKv.frame_bits, LatentKv.frame_ideal, LatentKv.frame_reference,
    LatentQ.frame_bits, LatentQ.frame_ideal, LatentQ.frame_reference,
    Attn.frame_bits, Attn.frame_ideal, Attn.frame_reference,
    Fox.frame_bits, Fox.frame_ideal, Fox.frame_reference,
    trivial, Fused.algebraic, trivial, OutProj.algebraic, trivial, Merge.algebraic, trivial, Prenorm.algebraic,
    trivial, LatentKv.algebraic, trivial, LatentQ.algebraic, Attn.named, Attn.algebraic,
    Fox.named, Fox.algebraic⟩

end Cert.Proof

end
